-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite [hPre_finite : Cert.Pre_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite [hPre_finite : Cert.Pre_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite [hKernel11Ideal : Cert.Kernel11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite [hReference11Ideal : Cert.Reference11Ideal.Facts] [hPre_finite : Cert.Pre_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  IdealRules.named_const.Statement Cert.Kernel10Ideal.κ "scale" .f32 0x3E38AA3B#32 (((1 / 8) * (Real.log 2)⁻¹ : ℝ) : EReal)
  ∧ IdealRules.named_const.Statement Cert.Kernel10Ideal.κ "log2e" .f32 0x3FB8AA3B#32 (((Real.log 2)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  IdealRules.named_const.Statement Cert.Kernel11Ideal.κ "scale" .f32 0x3E38AA3B#32 (((1 / 8) * (Real.log 2)⁻¹ : ℝ) : EReal)
  ∧ IdealRules.named_const.Statement Cert.Kernel11Ideal.κ "log2e" .f32 0x3FB8AA3B#32 (((Real.log 2)⁻¹ : ℝ) : EReal)
  ∧ IdealRules.named_const.Statement Cert.Kernel11Ideal.κ "mask" .f32 0xF149F2CA#32 ⊥

def algebraic_Kernel11Ideal_Reference11Ideal_pre_finite [hKernel11Ideal : Cert.Kernel11Ideal.Facts] [hReference11Ideal : Cert.Reference11Ideal.Facts] [hPre_finite : Cert.Pre_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v38_0)) (v1 : (c : Dev Cert.Kernel12Ideal.nD) → Buf (Elt Ideal) ((c.tc : Thread Cert.Kernel12Ideal.nD Cert.Kernel12Ideal.τ).loc Cert.Kernel12Ideal.main_v38_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v38_0) = v0 c
          ∧ r.2.mem ((c.tc : Thread Cert.Kernel12Ideal.nD Cert.Kernel12Ideal.τ).loc Cert.Kernel12Ideal.main_v38_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v56) = v0 c
          ∧ r.2.mem ((c.tc : Thread Cert.Reference12Ideal.nD Cert.Reference12Ideal.τ).loc Cert.Reference12Ideal.main_v59) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v10) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite (hKernel11Ideal := hKernel11Ideal) (hPre_finite := hPre_finite)
    ∧ quiescent_Reference11Ideal (hReference11Ideal := hReference11Ideal)
    ∧ quiescent_Reference11Ideal_pre_finite (hReference11Ideal := hReference11Ideal) (hPre_finite := hPre_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite (hKernel11Ideal := hKernel11Ideal) (hReference11Ideal := hReference11Ideal) (hPre_finite := hPre_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2x8192x3072 : Shape := ⟨3, ![2, 8192, 3072]⟩
abbrev S2x8x8192 : Shape := ⟨3, ![2, 8, 8192]⟩
abbrev S2x8192x1024 : Shape := ⟨3, ![2, 8192, 1024]⟩
abbrev S2x8192x8 : Shape := ⟨3, ![2, 8192, 8]⟩
abbrev S2x8192x1032 : Shape := ⟨3, ![2, 8192, 1032]⟩
abbrev S_ : Shape := ⟨0, ![]⟩

class Facts : Prop where
  slices_S2x8192x3072_S2x8192x1024_0_0_1536 : S2x8192x3072.Slices ![0, 0, 1536] S2x8192x1024
  transposes_S2x8x8192_S2x8192x8_0_2_1 : S2x8x8192.Transposes [0, 2, 1] S2x8192x8
  concatenates_S2x8192x1024_S2x8192x8_S2x8192x1032_d2 : Shape.Concatenates [S2x8192x1024, S2x8192x8] S2x8192x1032 2
  bcast_S_S2x8192x1032 : S_.BroadcastsInDim S2x8192x1032 (![] : Fin 0 → Fin S2x8192x1032.rank)

variable [Facts]

def fn {F : FTy → Type} [FloatOps F] (main_arg0 : FVec F S2x8192x3072 .f32) (main_arg1 : FVec F S2x8x8192 .f32) : IVec S2x8192x1032 1 :=
  let main_v0 : FVec F S2x8192x1024 .f32 := (extractStridedSlice S2x8192x1024 ![0, 0, 1536] · slices_S2x8192x3072_S2x8192x1024_0_0_1536) main_arg0
  let main_v1 : FVec F S2x8192x8 .f32 := (transpose S2x8192x8 [0, 2, 1] · transposes_S2x8x8192_S2x8192x8_0_2_1) main_arg1
  let main_v2 : FVec F S2x8192x1032 .f32 := (fun a b => concatenate S2x8192x1032 2 [⟨S2x8192x1024, a⟩, ⟨S2x8192x8, b⟩] concatenates_S2x8192x1024_S2x8192x8_S2x8192x1032_d2) main_v0 main_v1
  let main_v3 : FVec F S2x8192x1032 .f32 := Host.absf main_v2
  let main_cst : FVec F S_ .f32 := constant S_ .f32 0x7F800000#32
  let main_v4 : FVec F S2x8192x1032 .f32 := broadcastInDim S2x8192x1032 ![] bcast_S_S2x8192x1032 main_cst
  let main_v5 : IVec S2x8192x1032 1 := cmpf .olt main_v3 main_v4
  main_v5
-- ==== Kernel.lean ====
abbrev S16384x4096 : Shape := ⟨2, ![16384, 4096]⟩
abbrev S16384x1408 : Shape := ⟨2, ![16384, 1408]⟩
abbrev S16384x128 : Shape := ⟨2, ![16384, 128]⟩
abbrev S16384x256 : Shape := ⟨2, ![16384, 256]⟩
abbrev S8x512x128 : Shape := ⟨3, ![8, 512, 128]⟩
abbrev S16384x1024 : Shape := ⟨2, ![16384, 1024]⟩
abbrev S128x4096 : Shape := ⟨2, ![128, 4096]⟩
abbrev S128x1024 : Shape := ⟨2, ![128, 1024]⟩
abbrev S128x128 : Shape := ⟨2, ![128, 128]⟩
abbrev S8192x256 : Shape := ⟨2, ![8192, 256]⟩
abbrev S8192x128 : Shape := ⟨2, ![8192, 128]⟩
abbrev S128x8192 : Shape := ⟨2, ![128, 8192]⟩
abbrev S2048x256 : Shape := ⟨2, ![2048, 256]⟩
abbrev S2048x128 : Shape := ⟨2, ![2048, 128]⟩
abbrev S2048x512 : Shape := ⟨2, ![2048, 512]⟩
abbrev S1x128 : Shape := ⟨2, ![1, 128]⟩
abbrev S128x1 : Shape := ⟨2, ![128, 1]⟩
abbrev S128x512 : Shape := ⟨2, ![128, 512]⟩
abbrev S512x128 : Shape := ⟨2, ![512, 128]⟩
abbrev S512x512 : Shape := ⟨2, ![512, 512]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S128x256 : Shape := ⟨2, ![128, 256]⟩
abbrev S1x512x128 : Shape := ⟨3, ![1, 512, 128]⟩

abbrev nBuf : Space → Nat
  | .hbm => 10
  | .vmem => 28
  | .smem => 0
  | _ => 0

abbrev bufTy : (tb : Table) → Fin (tcTables nBuf tb) → BufTy
  | .hbm, ⟨0, _⟩ => ⟨S16384x4096, .bf16⟩
  | .hbm, ⟨1, _⟩ => ⟨S16384x1408, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x256, .bf16⟩
  | .hbm, ⟨7, _⟩ => ⟨S16384x128, .bf16⟩
  | .hbm, ⟨8, _⟩ => ⟨S8x512x128, .bf16⟩
  | .hbm, ⟨9, _⟩ => ⟨S16384x1024, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S8192x256, .bf16⟩
  | .local _ .vmem, ⟨15, _⟩ => ⟨S8192x256, .bf16⟩
  | .local _ .vmem, ⟨16, _⟩ => ⟨S8192x128, .bf16⟩
  | .local _ .vmem, ⟨17, _⟩ => ⟨S8192x128, .bf16⟩
  | .local _ .vmem, ⟨18, _⟩ => ⟨S8x512x128, .bf16⟩
  | .local _ .vmem, ⟨19, _⟩ => ⟨S128x1024, .bf16⟩
  | .local _ .vmem, ⟨20, _⟩ => ⟨S128x1024, .bf16⟩
  | .local _ .vmem, ⟨21, _⟩ => ⟨S128x8192, .f32⟩
  | .local _ .vmem, ⟨22, _⟩ => ⟨S2048x256, .bf16⟩
  | .local _ .vmem, ⟨23, _⟩ => ⟨S2048x128, .bf16⟩
  | .local _ .vmem, ⟨24, _⟩ => ⟨S2048x128, .f32⟩
  | .local _ .vmem, ⟨25, _⟩ => ⟨S2048x128, .f32⟩
  | .local _ .vmem, ⟨26, _⟩ => ⟨S2048x256, .f32⟩
  | .local _ .vmem, ⟨27, _⟩ => ⟨S2048x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_344 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v830 : BitVec 32 := Scalar.subi v818 c0_i32_344
  let c1_i32_346 : BitVec 32 := 1#32
  let v832 : BitVec 32 := Scalar.divsi v830 c1_i32_346
  let v833 : BitVec 32 := Scalar.muli v832 c1_i32_346
  let v834 : BitVec 32 := Scalar.addi c0_i32_344 v833
  let c1_i32_347 : BitVec 32 := 1#32
  ⟨c0_i32_344, v834, c1_i32_347⟩
def k0_mult1 (i : grid0.Coords) (k0_t1 : Fin (k0_t1_loop i).trips) : BitVec 32 :=
  let c0_i32_344 : BitVec 32 := 0#32
  let c1_i32_347 : BitVec 32 := 1#32
  let arg20 : BitVec 32 := Scf.iv c0_i32_344 c1_i32_347 k0_t1
  let c512_i32_571 : BitVec 32 := 512#32
  let v1266 : BitVec 32 := Scalar.muli arg20 c512_i32_571
  v1266
def k0_off1 (i : grid0.Coords) (k0_t1 : Fin (k0_t1_loop i).trips) : Fin 2 → Nat :=
  let c0_i32_344 : BitVec 32 := 0#32
  let c1_i32_347 : BitVec 32 := 1#32
  let arg20 : BitVec 32 := Scf.iv c0_i32_344 c1_i32_347 k0_t1
  let c512_i32_571 : BitVec 32 := 512#32
  let v1266 : BitVec 32 := Scalar.muli arg20 c512_i32_571
  let v1267 : BitVec 32 := v1266
  let v1268 : Index := Scalar.indexCast v1267
  let c0_572 : Index := 0#32
  ![v1268.toNat, 0]
def k0_off2 (i : grid0.Coords) (k0_t1 : Fin (k0_t1_loop i).trips) : Fin 2 → Nat :=
  let c0_602 : Index := 0#32
  let c0_i32_344 : BitVec 32 := 0#32
  let c1_i32_347 : BitVec 32 := 1#32
  let arg20 : BitVec 32 := Scf.iv c0_i32_344 c1_i32_347 k0_t1
  let c512_i32_571 : BitVec 32 := 512#32
  let v1266 : BitVec 32 := Scalar.muli arg20 c512_i32_571
  let v1267 : BitVec 32 := v1266
  let v1343 : Index := Scalar.indexCast v1267
  ![0, v1343.toNat]
@[reducible] def k0_t2_loop (i : grid0.Coords) : Scf.Loop 32 :=
  let c0_i32_344 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v830 : BitVec 32 := Scalar.subi v818 c0_i32_344
  let c1_i32_346 : BitVec 32 := 1#32
  let v832 : BitVec 32 := Scalar.divsi v830 c1_i32_346
  let v833 : BitVec 32 := Scalar.muli v832 c1_i32_346
  let v834 : BitVec 32 := Scalar.addi c0_i32_344 v833
  let v831 : BitVec 32 := Scalar.addi c0_i32_344 v830
  let c1_i32_348 : BitVec 32 := 1#32
  ⟨v834, v831, c1_i32_348⟩
def k0_mult2 (i : grid0.Coords) (k0_t2 : Fin (k0_t2_loop i).trips) : BitVec 32 :=
  let c0_i32_344 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v830 : BitVec 32 := Scalar.subi v818 c0_i32_344
  let c1_i32_346 : BitVec 32 := 1#32
  let v832 : BitVec 32 := Scalar.divsi v830 c1_i32_346
  let v833 : BitVec 32 := Scalar.muli v832 c1_i32_346
  let v834 : BitVec 32 := Scalar.addi c0_i32_344 v833
  let c1_i32_348 : BitVec 32 := 1#32
  let arg20 : BitVec 32 := Scf.iv v834 c1_i32_348 k0_t2
  let c512_i32_571 : BitVec 32 := 512#32
  let v1266 : BitVec 32 := Scalar.muli arg20 c512_i32_571
  v1266
def k0_off3 (i : grid0.Coords) (k0_t2 : Fin (k0_t2_loop i).trips) : Fin 2 → Nat :=
  let c0_i32_344 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v830 : BitVec 32 := Scalar.subi v818 c0_i32_344
  let c1_i32_346 : BitVec 32 := 1#32
  let v832 : BitVec 32 := Scalar.divsi v830 c1_i32_346
  let v833 : BitVec 32 := Scalar.muli v832 c1_i32_346
  let v834 : BitVec 32 := Scalar.addi c0_i32_344 v833
  let c1_i32_348 : BitVec 32 := 1#32
  let arg20 : BitVec 32 := Scf.iv v834 c1_i32_348 k0_t2
  let c512_i32_571 : BitVec 32 := 512#32
  let v1266 : BitVec 32 := Scalar.muli arg20 c512_i32_571
  let v1267 : BitVec 32 := v1266
  let v1268 : Index := Scalar.indexCast v1267
  let c0_572 : Index := 0#32
  ![v1268.toNat, 0]
def k0_off4 (i : grid0.Coords) (k0_t2 : Fin (k0_t2_loop i).trips) : Fin 2 → Nat :=
  let c0_602 : Index := 0#32
  let c0_i32_344 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v830 : BitVec 32 := Scalar.subi v818 c0_i32_344
  let c1_i32_346 : BitVec 32 := 1#32
  let v832 : BitVec 32 := Scalar.divsi v830 c1_i32_346
  let v833 : BitVec 32 := Scalar.muli v832 c1_i32_346
  let v834 : BitVec 32 := Scalar.addi c0_i32_344 v833
  let c1_i32_348 : BitVec 32 := 1#32
  let arg20 : BitVec 32 := Scf.iv v834 c1_i32_348 k0_t2
  let c512_i32_571 : BitVec 32 := 512#32
  let v1266 : BitVec 32 := Scalar.muli arg20 c512_i32_571
  let v1267 : BitVec 32 := v1266
  let v1343 : Index := Scalar.indexCast v1267
  ![0, v1343.toNat]
@[reducible] def k0_t3_loop (i : grid0.Coords) : Scf.Loop 32 :=
  let c0_i32_350 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v840 : BitVec 32 := Scalar.subi v818 c0_i32_350
  let c1_i32_351 : BitVec 32 := 1#32
  let v842 : BitVec 32 := Scalar.divsi v840 c1_i32_351
  let v843 : BitVec 32 := Scalar.muli v842 c1_i32_351
  let v844 : BitVec 32 := Scalar.addi c0_i32_350 v843
  let c1_i32_352 : BitVec 32 := 1#32
  ⟨c0_i32_350, v844, c1_i32_352⟩
def k0_mult3 (i : grid0.Coords) (k0_t3 : Fin (k0_t3_loop i).trips) : BitVec 32 :=
  let c0_i32_350 : BitVec 32 := 0#32
  let c1_i32_352 : BitVec 32 := 1#32
  let arg20 : BitVec 32 := Scf.iv c0_i32_350 c1_i32_352 k0_t3
  let c512_i32_571 : BitVec 32 := 512#32
  let v1266 : BitVec 32 := Scalar.muli arg20 c512_i32_571
  v1266
def k0_off5 (i : grid0.Coords) (k0_t3 : Fin (k0_t3_loop i).trips) : Fin 2 → Nat :=
  let c0_572 : Index := 0#32
  let c0_i32_350 : BitVec 32 := 0#32
  let c1_i32_352 : BitVec 32 := 1#32
  let arg20 : BitVec 32 := Scf.iv c0_i32_350 c1_i32_352 k0_t3
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t4_loop (i : grid0.Coords) : Scf.Loop 32 :=
  let c0_i32_350 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v840 : BitVec 32 := Scalar.subi v818 c0_i32_350
  let c1_i32_351 : BitVec 32 := 1#32
  let v842 : BitVec 32 := Scalar.divsi v840 c1_i32_351
  let v843 : BitVec 32 := Scalar.muli v842 c1_i32_351
  let v844 : BitVec 32 := Scalar.addi c0_i32_350 v843
  let v841 : BitVec 32 := Scalar.addi c0_i32_350 v840
  let c1_i32_353 : BitVec 32 := 1#32
  ⟨v844, v841, c1_i32_353⟩
def k0_mult4 (i : grid0.Coords) (k0_t4 : Fin (k0_t4_loop i).trips) : BitVec 32 :=
  let c0_i32_350 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v840 : BitVec 32 := Scalar.subi v818 c0_i32_350
  let c1_i32_351 : BitVec 32 := 1#32
  let v842 : BitVec 32 := Scalar.divsi v840 c1_i32_351
  let v843 : BitVec 32 := Scalar.muli v842 c1_i32_351
  let v844 : BitVec 32 := Scalar.addi c0_i32_350 v843
  let c1_i32_353 : BitVec 32 := 1#32
  let arg20 : BitVec 32 := Scf.iv v844 c1_i32_353 k0_t4
  let c512_i32_571 : BitVec 32 := 512#32
  let v1266 : BitVec 32 := Scalar.muli arg20 c512_i32_571
  v1266
def k0_off6 (i : grid0.Coords) (k0_t4 : Fin (k0_t4_loop i).trips) : Fin 2 → Nat :=
  let c0_572 : Index := 0#32
  let c0_i32_350 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v840 : BitVec 32 := Scalar.subi v818 c0_i32_350
  let c1_i32_351 : BitVec 32 := 1#32
  let v842 : BitVec 32 := Scalar.divsi v840 c1_i32_351
  let v843 : BitVec 32 := Scalar.muli v842 c1_i32_351
  let v844 : BitVec 32 := Scalar.addi c0_i32_350 v843
  let c1_i32_353 : BitVec 32 := 1#32
  let arg20 : BitVec 32 := Scf.iv v844 c1_i32_353 k0_t4
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t5_loop (v870 : BitVec 32) : Scf.Loop 32 :=
  let c32_i32_363 : BitVec 32 := 32#32
  let v879 : BitVec 32 := Scalar.subi c32_i32_363 v870
  let c1_i32_364 : BitVec 32 := 1#32
  let v881 : BitVec 32 := Scalar.divsi v879 c1_i32_364
  let v882 : BitVec 32 := Scalar.muli v881 c1_i32_364
  let v883 : BitVec 32 := Scalar.addi v870 v882
  let c1_i32_365 : BitVec 32 := 1#32
  ⟨v870, v883, c1_i32_365⟩

@[reducible] def k0_t6_loop (i : grid0.Coords) : Scf.Loop 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_578 : BitVec 32 := 1#32
  ⟨c0_i32_576, v1281, c1_i32_578⟩
def k0_mult5 (i : grid0.Coords) (k0_t6 : Fin (k0_t6_loop i).trips) : BitVec 32 :=
  let c0_i32_576 : BitVec 32 := 0#32
  let c1_i32_578 : BitVec 32 := 1#32
  let arg22 : BitVec 32 := Scf.iv c0_i32_576 c1_i32_578 k0_t6
  let c512_i32_582 : BitVec 32 := 512#32
  let v1289 : BitVec 32 := Scalar.muli arg22 c512_i32_582
  v1289
def k0_off7 (i : grid0.Coords) (k0_t6 : Fin (k0_t6_loop i).trips) : Fin 2 → Nat :=
  let c0_583 : Index := 0#32
  let c0_i32_576 : BitVec 32 := 0#32
  let c1_i32_578 : BitVec 32 := 1#32
  let arg22 : BitVec 32 := Scf.iv c0_i32_576 c1_i32_578 k0_t6
  let c512_i32_582 : BitVec 32 := 512#32
  let v1289 : BitVec 32 := Scalar.muli arg22 c512_i32_582
  let v1290 : BitVec 32 := v1289
  let v1291 : Index := Scalar.indexCast v1290
  ![0, v1291.toNat]
@[reducible] def k0_t7_loop (i : grid0.Coords) : Scf.Loop 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let v1278 : BitVec 32 := Scalar.addi c0_i32_576 v1277
  let c1_i32_579 : BitVec 32 := 1#32
  ⟨v1281, v1278, c1_i32_579⟩
def k0_mult6 (i : grid0.Coords) (k0_t7 : Fin (k0_t7_loop i).trips) : BitVec 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_579 : BitVec 32 := 1#32
  let arg22 : BitVec 32 := Scf.iv v1281 c1_i32_579 k0_t7
  let c512_i32_582 : BitVec 32 := 512#32
  let v1289 : BitVec 32 := Scalar.muli arg22 c512_i32_582
  v1289
def k0_off8 (i : grid0.Coords) (k0_t7 : Fin (k0_t7_loop i).trips) : Fin 2 → Nat :=
  let c0_583 : Index := 0#32
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_579 : BitVec 32 := 1#32
  let arg22 : BitVec 32 := Scf.iv v1281 c1_i32_579 k0_t7
  let c512_i32_582 : BitVec 32 := 512#32
  let v1289 : BitVec 32 := Scalar.muli arg22 c512_i32_582
  let v1290 : BitVec 32 := v1289
  let v1291 : Index := Scalar.indexCast v1290
  ![0, v1291.toNat]
@[reducible] def k0_t8_loop (v870 : BitVec 32) : Scf.Loop 32 :=
  let c32_i32_363 : BitVec 32 := 32#32
  let v879 : BitVec 32 := Scalar.subi c32_i32_363 v870
  let c1_i32_364 : BitVec 32 := 1#32
  let v881 : BitVec 32 := Scalar.divsi v879 c1_i32_364
  let v882 : BitVec 32 := Scalar.muli v881 c1_i32_364
  let v883 : BitVec 32 := Scalar.addi v870 v882
  let v880 : BitVec 32 := Scalar.addi v870 v879
  let c1_i32_366 : BitVec 32 := 1#32
  ⟨v883, v880, c1_i32_366⟩

def k0_chk1 (v870 : BitVec 32) : Prop :=
  ((k0_t5_loop v870).OK) ∧
  ((k0_t8_loop v870).OK)
theorem k0_t5_ok : ∀ (v870 : BitVec 32) (k0_hw1 : k0_chk1 v870), (k0_t5_loop v870).OK := fun v870 k0_hw1 => k0_hw1.1
theorem k0_t8_ok : ∀ (v870 : BitVec 32) (k0_hw1 : k0_chk1 v870), (k0_t8_loop v870).OK := fun v870 k0_hw1 => k0_hw1.2

@[reducible] def k0_t9_loop (i : grid0.Coords) : Scf.Loop 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_578 : BitVec 32 := 1#32
  ⟨c0_i32_576, v1281, c1_i32_578⟩
def k0_mult7 (i : grid0.Coords) (k0_t9 : Fin (k0_t9_loop i).trips) : BitVec 32 :=
  let c0_i32_576 : BitVec 32 := 0#32
  let c1_i32_578 : BitVec 32 := 1#32
  let arg22 : BitVec 32 := Scf.iv c0_i32_576 c1_i32_578 k0_t9
  let c512_i32_582 : BitVec 32 := 512#32
  let v1289 : BitVec 32 := Scalar.muli arg22 c512_i32_582
  v1289
def k0_off9 (i : grid0.Coords) (k0_t9 : Fin (k0_t9_loop i).trips) : Fin 2 → Nat :=
  let c0_583 : Index := 0#32
  let c0_i32_576 : BitVec 32 := 0#32
  let c1_i32_578 : BitVec 32 := 1#32
  let arg22 : BitVec 32 := Scf.iv c0_i32_576 c1_i32_578 k0_t9
  let c512_i32_582 : BitVec 32 := 512#32
  let v1289 : BitVec 32 := Scalar.muli arg22 c512_i32_582
  let v1290 : BitVec 32 := v1289
  let v1291 : Index := Scalar.indexCast v1290
  ![0, v1291.toNat]
@[reducible] def k0_t10_loop (i : grid0.Coords) : Scf.Loop 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let v1278 : BitVec 32 := Scalar.addi c0_i32_576 v1277
  let c1_i32_579 : BitVec 32 := 1#32
  ⟨v1281, v1278, c1_i32_579⟩
def k0_mult8 (i : grid0.Coords) (k0_t10 : Fin (k0_t10_loop i).trips) : BitVec 32 :=
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_579 : BitVec 32 := 1#32
  let arg22 : BitVec 32 := Scf.iv v1281 c1_i32_579 k0_t10
  let c512_i32_582 : BitVec 32 := 512#32
  let v1289 : BitVec 32 := Scalar.muli arg22 c512_i32_582
  v1289
def k0_off10 (i : grid0.Coords) (k0_t10 : Fin (k0_t10_loop i).trips) : Fin 2 → Nat :=
  let c0_583 : Index := 0#32
  let c0_i32_576 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1277 : BitVec 32 := Scalar.subi v818 c0_i32_576
  let c1_i32_577 : BitVec 32 := 1#32
  let v1279 : BitVec 32 := Scalar.divsi v1277 c1_i32_577
  let v1280 : BitVec 32 := Scalar.muli v1279 c1_i32_577
  let v1281 : BitVec 32 := Scalar.addi c0_i32_576 v1280
  let c1_i32_579 : BitVec 32 := 1#32
  let arg22 : BitVec 32 := Scf.iv v1281 c1_i32_579 k0_t10
  let c512_i32_582 : BitVec 32 := 512#32
  let v1289 : BitVec 32 := Scalar.muli arg22 c512_i32_582
  let v1290 : BitVec 32 := v1289
  let v1291 : Index := Scalar.indexCast v1290
  ![0, v1291.toNat]
@[reducible] def k0_t11_loop (i : grid0.Coords) : Scf.Loop 32 :=
  let c0_i32_371 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v895 : BitVec 32 := Scalar.subi v818 c0_i32_371
  let c1_i32_372 : BitVec 32 := 1#32
  let v897 : BitVec 32 := Scalar.divsi v895 c1_i32_372
  let v898 : BitVec 32 := Scalar.muli v897 c1_i32_372
  let v899 : BitVec 32 := Scalar.addi c0_i32_371 v898
  let c1_i32_373 : BitVec 32 := 1#32
  ⟨c0_i32_371, v899, c1_i32_373⟩
def k0_mult9 (i : grid0.Coords) (k0_t11 : Fin (k0_t11_loop i).trips) : BitVec 32 :=
  let c0_i32_371 : BitVec 32 := 0#32
  let c1_i32_373 : BitVec 32 := 1#32
  let arg20 : BitVec 32 := Scf.iv c0_i32_371 c1_i32_373 k0_t11
  let c512_i32_571 : BitVec 32 := 512#32
  let v1266 : BitVec 32 := Scalar.muli arg20 c512_i32_571
  v1266
def k0_off11 (i : grid0.Coords) (k0_t11 : Fin (k0_t11_loop i).trips) : Fin 2 → Nat :=
  let c0_572 : Index := 0#32
  let c0_i32_371 : BitVec 32 := 0#32
  let c1_i32_373 : BitVec 32 := 1#32
  let arg20 : BitVec 32 := Scf.iv c0_i32_371 c1_i32_373 k0_t11
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t12_loop (i : grid0.Coords) : Scf.Loop 32 :=
  let c0_i32_371 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v895 : BitVec 32 := Scalar.subi v818 c0_i32_371
  let c1_i32_372 : BitVec 32 := 1#32
  let v897 : BitVec 32 := Scalar.divsi v895 c1_i32_372
  let v898 : BitVec 32 := Scalar.muli v897 c1_i32_372
  let v899 : BitVec 32 := Scalar.addi c0_i32_371 v898
  let v896 : BitVec 32 := Scalar.addi c0_i32_371 v895
  let c1_i32_374 : BitVec 32 := 1#32
  ⟨v899, v896, c1_i32_374⟩
def k0_mult10 (i : grid0.Coords) (k0_t12 : Fin (k0_t12_loop i).trips) : BitVec 32 :=
  let c0_i32_371 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v895 : BitVec 32 := Scalar.subi v818 c0_i32_371
  let c1_i32_372 : BitVec 32 := 1#32
  let v897 : BitVec 32 := Scalar.divsi v895 c1_i32_372
  let v898 : BitVec 32 := Scalar.muli v897 c1_i32_372
  let v899 : BitVec 32 := Scalar.addi c0_i32_371 v898
  let c1_i32_374 : BitVec 32 := 1#32
  let arg20 : BitVec 32 := Scf.iv v899 c1_i32_374 k0_t12
  let c512_i32_571 : BitVec 32 := 512#32
  let v1266 : BitVec 32 := Scalar.muli arg20 c512_i32_571
  v1266
def k0_off12 (i : grid0.Coords) (k0_t12 : Fin (k0_t12_loop i).trips) : Fin 2 → Nat :=
  let c0_572 : Index := 0#32
  let c0_i32_371 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v895 : BitVec 32 := Scalar.subi v818 c0_i32_371
  let c1_i32_372 : BitVec 32 := 1#32
  let v897 : BitVec 32 := Scalar.divsi v895 c1_i32_372
  let v898 : BitVec 32 := Scalar.muli v897 c1_i32_372
  let v899 : BitVec 32 := Scalar.addi c0_i32_371 v898
  let c1_i32_374 : BitVec 32 := 1#32
  let arg20 : BitVec 32 := Scf.iv v899 c1_i32_374 k0_t12
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t13_loop (i : grid0.Coords) : Scf.Loop 32 :=
  let c0_i32_377 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v905 : BitVec 32 := Scalar.subi v818 c0_i32_377
  let c1_i32_378 : BitVec 32 := 1#32
  let v907 : BitVec 32 := Scalar.divsi v905 c1_i32_378
  let v908 : BitVec 32 := Scalar.muli v907 c1_i32_378
  let v909 : BitVec 32 := Scalar.addi c0_i32_377 v908
  let c1_i32_379 : BitVec 32 := 1#32
  ⟨c0_i32_377, v909, c1_i32_379⟩
def k0_mult11 (i : grid0.Coords) (k0_t13 : Fin (k0_t13_loop i).trips) : BitVec 32 :=
  let c0_i32_377 : BitVec 32 := 0#32
  let c1_i32_379 : BitVec 32 := 1#32
  let arg20 : BitVec 32 := Scf.iv c0_i32_377 c1_i32_379 k0_t13
  let c512_i32_571 : BitVec 32 := 512#32
  let v1266 : BitVec 32 := Scalar.muli arg20 c512_i32_571
  v1266
def k0_off13 (i : grid0.Coords) (k0_t13 : Fin (k0_t13_loop i).trips) : Fin 2 → Nat :=
  let c0_572 : Index := 0#32
  let c0_i32_377 : BitVec 32 := 0#32
  let c1_i32_379 : BitVec 32 := 1#32
  let arg20 : BitVec 32 := Scf.iv c0_i32_377 c1_i32_379 k0_t13
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t14_loop (i : grid0.Coords) : Scf.Loop 32 :=
  let c0_i32_377 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v905 : BitVec 32 := Scalar.subi v818 c0_i32_377
  let c1_i32_378 : BitVec 32 := 1#32
  let v907 : BitVec 32 := Scalar.divsi v905 c1_i32_378
  let v908 : BitVec 32 := Scalar.muli v907 c1_i32_378
  let v909 : BitVec 32 := Scalar.addi c0_i32_377 v908
  let v906 : BitVec 32 := Scalar.addi c0_i32_377 v905
  let c1_i32_380 : BitVec 32 := 1#32
  ⟨v909, v906, c1_i32_380⟩
def k0_mult12 (i : grid0.Coords) (k0_t14 : Fin (k0_t14_loop i).trips) : BitVec 32 :=
  let c0_i32_377 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v905 : BitVec 32 := Scalar.subi v818 c0_i32_377
  let c1_i32_378 : BitVec 32 := 1#32
  let v907 : BitVec 32 := Scalar.divsi v905 c1_i32_378
  let v908 : BitVec 32 := Scalar.muli v907 c1_i32_378
  let v909 : BitVec 32 := Scalar.addi c0_i32_377 v908
  let c1_i32_380 : BitVec 32 := 1#32
  let arg20 : BitVec 32 := Scf.iv v909 c1_i32_380 k0_t14
  let c512_i32_571 : BitVec 32 := 512#32
  let v1266 : BitVec 32 := Scalar.muli arg20 c512_i32_571
  v1266
def k0_off14 (i : grid0.Coords) (k0_t14 : Fin (k0_t14_loop i).trips) : Fin 2 → Nat :=
  let c0_572 : Index := 0#32
  let c0_i32_377 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v905 : BitVec 32 := Scalar.subi v818 c0_i32_377
  let c1_i32_378 : BitVec 32 := 1#32
  let v907 : BitVec 32 := Scalar.divsi v905 c1_i32_378
  let v908 : BitVec 32 := Scalar.muli v907 c1_i32_378
  let v909 : BitVec 32 := Scalar.addi c0_i32_377 v908
  let c1_i32_380 : BitVec 32 := 1#32
  let arg20 : BitVec 32 := Scf.iv v909 c1_i32_380 k0_t14
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t15_loop : Scf.Loop 32 :=
  let c0_i32_572 : BitVec 32 := 0#32
  let c31_i32_573 : BitVec 32 := 31#32
  let v1267 : BitVec 32 := Scalar.addi c0_i32_572 c31_i32_573
  let c1_i32_574 : BitVec 32 := 1#32
  ⟨c0_i32_572, v1267, c1_i32_574⟩
@[reducible] def k0_t16_loop (i : grid0.Coords) : Scf.Loop 32 :=
  let c0_i32_578 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1274 : BitVec 32 := Scalar.subi v818 c0_i32_578
  let c1_i32_579 : BitVec 32 := 1#32
  let v1276 : BitVec 32 := Scalar.divsi v1274 c1_i32_579
  let v1277 : BitVec 32 := Scalar.muli v1276 c1_i32_579
  let v1278 : BitVec 32 := Scalar.addi c0_i32_578 v1277
  let c1_i32_580 : BitVec 32 := 1#32
  ⟨c0_i32_578, v1278, c1_i32_580⟩
def k0_mult13 (i : grid0.Coords) (k0_t16 : Fin (k0_t16_loop i).trips) : BitVec 32 :=
  let c0_i32_578 : BitVec 32 := 0#32
  let c1_i32_580 : BitVec 32 := 1#32
  let arg22 : BitVec 32 := Scf.iv c0_i32_578 c1_i32_580 k0_t16
  let c512_i32_583 : BitVec 32 := 512#32
  let v1285 : BitVec 32 := Scalar.muli arg22 c512_i32_583
  v1285
def k0_off15 (i : grid0.Coords) (k0_t16 : Fin (k0_t16_loop i).trips) : Fin 2 → Nat :=
  let c0_584 : Index := 0#32
  let c0_i32_578 : BitVec 32 := 0#32
  let c1_i32_580 : BitVec 32 := 1#32
  let arg22 : BitVec 32 := Scf.iv c0_i32_578 c1_i32_580 k0_t16
  let c512_i32_583 : BitVec 32 := 512#32
  let v1285 : BitVec 32 := Scalar.muli arg22 c512_i32_583
  let v1286 : BitVec 32 := v1285
  let v1287 : Index := Scalar.indexCast v1286
  ![0, v1287.toNat]
@[reducible] def k0_t17_loop (i : grid0.Coords) : Scf.Loop 32 :=
  let c0_i32_578 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1274 : BitVec 32 := Scalar.subi v818 c0_i32_578
  let c1_i32_579 : BitVec 32 := 1#32
  let v1276 : BitVec 32 := Scalar.divsi v1274 c1_i32_579
  let v1277 : BitVec 32 := Scalar.muli v1276 c1_i32_579
  let v1278 : BitVec 32 := Scalar.addi c0_i32_578 v1277
  let v1275 : BitVec 32 := Scalar.addi c0_i32_578 v1274
  let c1_i32_581 : BitVec 32 := 1#32
  ⟨v1278, v1275, c1_i32_581⟩
def k0_mult14 (i : grid0.Coords) (k0_t17 : Fin (k0_t17_loop i).trips) : BitVec 32 :=
  let c0_i32_578 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1274 : BitVec 32 := Scalar.subi v818 c0_i32_578
  let c1_i32_579 : BitVec 32 := 1#32
  let v1276 : BitVec 32 := Scalar.divsi v1274 c1_i32_579
  let v1277 : BitVec 32 := Scalar.muli v1276 c1_i32_579
  let v1278 : BitVec 32 := Scalar.addi c0_i32_578 v1277
  let c1_i32_581 : BitVec 32 := 1#32
  let arg22 : BitVec 32 := Scf.iv v1278 c1_i32_581 k0_t17
  let c512_i32_583 : BitVec 32 := 512#32
  let v1285 : BitVec 32 := Scalar.muli arg22 c512_i32_583
  v1285
def k0_off16 (i : grid0.Coords) (k0_t17 : Fin (k0_t17_loop i).trips) : Fin 2 → Nat :=
  let c0_584 : Index := 0#32
  let c0_i32_578 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v1274 : BitVec 32 := Scalar.subi v818 c0_i32_578
  let c1_i32_579 : BitVec 32 := 1#32
  let v1276 : BitVec 32 := Scalar.divsi v1274 c1_i32_579
  let v1277 : BitVec 32 := Scalar.muli v1276 c1_i32_579
  let v1278 : BitVec 32 := Scalar.addi c0_i32_578 v1277
  let c1_i32_581 : BitVec 32 := 1#32
  let arg22 : BitVec 32 := Scf.iv v1278 c1_i32_581 k0_t17
  let c512_i32_583 : BitVec 32 := 512#32
  let v1285 : BitVec 32 := Scalar.muli arg22 c512_i32_583
  let v1286 : BitVec 32 := v1285
  let v1287 : Index := Scalar.indexCast v1286
  ![0, v1287.toNat]
@[reducible] def k0_t18_loop (i : grid0.Coords) : Scf.Loop 32 :=
  let c0_i32_390 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v933 : BitVec 32 := Scalar.subi v818 c0_i32_390
  let c1_i32_392 : BitVec 32 := 1#32
  let v935 : BitVec 32 := Scalar.divsi v933 c1_i32_392
  let v936 : BitVec 32 := Scalar.muli v935 c1_i32_392
  let v937 : BitVec 32 := Scalar.addi c0_i32_390 v936
  let c1_i32_393 : BitVec 32 := 1#32
  ⟨c0_i32_390, v937, c1_i32_393⟩
def k0_mult15 (i : grid0.Coords) (k0_t18 : Fin (k0_t18_loop i).trips) : BitVec 32 :=
  let c0_i32_390 : BitVec 32 := 0#32
  let c1_i32_393 : BitVec 32 := 1#32
  let arg20 : BitVec 32 := Scf.iv c0_i32_390 c1_i32_393 k0_t18
  let c512_i32_571 : BitVec 32 := 512#32
  let v1266 : BitVec 32 := Scalar.muli arg20 c512_i32_571
  v1266
def k0_off17 (i : grid0.Coords) (k0_t18 : Fin (k0_t18_loop i).trips) : Fin 2 → Nat :=
  let c0_572 : Index := 0#32
  let c0_i32_390 : BitVec 32 := 0#32
  let c1_i32_393 : BitVec 32 := 1#32
  let arg20 : BitVec 32 := Scf.iv c0_i32_390 c1_i32_393 k0_t18
  let c512_i32_571 : BitVec 32 := 512#32
  let v1266 : BitVec 32 := Scalar.muli arg20 c512_i32_571
  let v1267 : BitVec 32 := v1266
  let v1268 : Index := Scalar.indexCast v1267
  ![0, v1268.toNat]
@[reducible] def k0_t19_loop (i : grid0.Coords) : Scf.Loop 32 :=
  let c0_i32_390 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v933 : BitVec 32 := Scalar.subi v818 c0_i32_390
  let c1_i32_392 : BitVec 32 := 1#32
  let v935 : BitVec 32 := Scalar.divsi v933 c1_i32_392
  let v936 : BitVec 32 := Scalar.muli v935 c1_i32_392
  let v937 : BitVec 32 := Scalar.addi c0_i32_390 v936
  let v934 : BitVec 32 := Scalar.addi c0_i32_390 v933
  let c1_i32_394 : BitVec 32 := 1#32
  ⟨v937, v934, c1_i32_394⟩
def k0_mult16 (i : grid0.Coords) (k0_t19 : Fin (k0_t19_loop i).trips) : BitVec 32 :=
  let c0_i32_390 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v933 : BitVec 32 := Scalar.subi v818 c0_i32_390
  let c1_i32_392 : BitVec 32 := 1#32
  let v935 : BitVec 32 := Scalar.divsi v933 c1_i32_392
  let v936 : BitVec 32 := Scalar.muli v935 c1_i32_392
  let v937 : BitVec 32 := Scalar.addi c0_i32_390 v936
  let c1_i32_394 : BitVec 32 := 1#32
  let arg20 : BitVec 32 := Scf.iv v937 c1_i32_394 k0_t19
  let c512_i32_571 : BitVec 32 := 512#32
  let v1266 : BitVec 32 := Scalar.muli arg20 c512_i32_571
  v1266
def k0_off18 (i : grid0.Coords) (k0_t19 : Fin (k0_t19_loop i).trips) : Fin 2 → Nat :=
  let c0_572 : Index := 0#32
  let c0_i32_390 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let v933 : BitVec 32 := Scalar.subi v818 c0_i32_390
  let c1_i32_392 : BitVec 32 := 1#32
  let v935 : BitVec 32 := Scalar.divsi v933 c1_i32_392
  let v936 : BitVec 32 := Scalar.muli v935 c1_i32_392
  let v937 : BitVec 32 := Scalar.addi c0_i32_390 v936
  let c1_i32_394 : BitVec 32 := 1#32
  let arg20 : BitVec 32 := Scf.iv v937 c1_i32_394 k0_t19
  let c512_i32_571 : BitVec 32 := 512#32
  let v1266 : BitVec 32 := Scalar.muli arg20 c512_i32_571
  let v1267 : BitVec 32 := v1266
  let v1268 : Index := Scalar.indexCast v1267
  ![0, v1268.toNat]
def k0_mult17 : BitVec 32 :=
  let c0_i32_401 : BitVec 32 := 0#32
  c0_i32_401
@[reducible] def k0_t20_loop (i : grid0.Coords) : Scf.Loop 32 :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_427 : BitVec 32 := 1#32
  ⟨c0_i32_424, v977, c1_i32_427⟩
def k0_mult18 (i : grid0.Coords) (k0_t20 : Fin (k0_t20_loop i).trips) : BitVec 32 :=
  let c0_i32_424 : BitVec 32 := 0#32
  let c1_i32_427 : BitVec 32 := 1#32
  let arg20 : BitVec 32 := Scf.iv c0_i32_424 c1_i32_427 k0_t20
  let c512_i32_571 : BitVec 32 := 512#32
  let v1266 : BitVec 32 := Scalar.muli arg20 c512_i32_571
  v1266
def k0_off19 (i : grid0.Coords) (k0_t20 : Fin (k0_t20_loop i).trips) : Fin 2 → Nat :=
  let c0_i32_424 : BitVec 32 := 0#32
  let c1_i32_427 : BitVec 32 := 1#32
  let arg20 : BitVec 32 := Scf.iv c0_i32_424 c1_i32_427 k0_t20
  let c512_i32_571 : BitVec 32 := 512#32
  let v1266 : BitVec 32 := Scalar.muli arg20 c512_i32_571
  let v1267 : BitVec 32 := v1266
  let v1268 : Index := Scalar.indexCast v1267
  let c0_572 : Index := 0#32
  ![v1268.toNat, 0]
def k0_off20 (i : grid0.Coords) (k0_t20 : Fin (k0_t20_loop i).trips) : Fin 2 → Nat :=
  let c0_575 : Index := 0#32
  let c0_i32_424 : BitVec 32 := 0#32
  let c1_i32_427 : BitVec 32 := 1#32
  let arg20 : BitVec 32 := Scf.iv c0_i32_424 c1_i32_427 k0_t20
  let c512_i32_571 : BitVec 32 := 512#32
  let v1266 : BitVec 32 := Scalar.muli arg20 c512_i32_571
  let v1267 : BitVec 32 := v1266
  let v1276 : Index := Scalar.indexCast v1267
  ![0, v1276.toNat]
def k0_mult19 (i : grid0.Coords) (k0_t20 : Fin (k0_t20_loop i).trips) : BitVec 32 :=
  let c0_i32_424 : BitVec 32 := 0#32
  let c1_i32_427 : BitVec 32 := 1#32
  let arg20 : BitVec 32 := Scf.iv c0_i32_424 c1_i32_427 k0_t20
  let c1_i32_576 : BitVec 32 := 1#32
  let v1279 : BitVec 32 := Scalar.addi arg20 c1_i32_576
  let c512_i32_577 : BitVec 32 := 512#32
  let v1280 : BitVec 32 := Scalar.muli v1279 c512_i32_577
  v1280
def k0_off21 (i : grid0.Coords) (k0_t20 : Fin (k0_t20_loop i).trips) : Fin 2 → Nat :=
  let c0_i32_424 : BitVec 32 := 0#32
  let c1_i32_427 : BitVec 32 := 1#32
  let arg20 : BitVec 32 := Scf.iv c0_i32_424 c1_i32_427 k0_t20
  let c1_i32_576 : BitVec 32 := 1#32
  let v1279 : BitVec 32 := Scalar.addi arg20 c1_i32_576
  let c512_i32_577 : BitVec 32 := 512#32
  let v1280 : BitVec 32 := Scalar.muli v1279 c512_i32_577
  let v1281 : BitVec 32 := v1280
  let v1282 : Index := Scalar.indexCast v1281
  let c0_578 : Index := 0#32
  ![v1282.toNat, 0]
@[reducible] def k0_t21_loop (i : grid0.Coords) : Scf.Loop 32 :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let v974 : BitVec 32 := Scalar.addi c0_i32_424 v973
  let c1_i32_428 : BitVec 32 := 1#32
  ⟨v977, v974, c1_i32_428⟩
def k0_mult20 (i : grid0.Coords) (k0_t21 : Fin (k0_t21_loop i).trips) : BitVec 32 :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_428 : BitVec 32 := 1#32
  let arg20 : BitVec 32 := Scf.iv v977 c1_i32_428 k0_t21
  let c512_i32_571 : BitVec 32 := 512#32
  let v1266 : BitVec 32 := Scalar.muli arg20 c512_i32_571
  v1266
def k0_off22 (i : grid0.Coords) (k0_t21 : Fin (k0_t21_loop i).trips) : Fin 2 → Nat :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_428 : BitVec 32 := 1#32
  let arg20 : BitVec 32 := Scf.iv v977 c1_i32_428 k0_t21
  let c512_i32_571 : BitVec 32 := 512#32
  let v1266 : BitVec 32 := Scalar.muli arg20 c512_i32_571
  let v1267 : BitVec 32 := v1266
  let v1268 : Index := Scalar.indexCast v1267
  let c0_572 : Index := 0#32
  ![v1268.toNat, 0]
def k0_off23 (i : grid0.Coords) (k0_t21 : Fin (k0_t21_loop i).trips) : Fin 2 → Nat :=
  let c0_575 : Index := 0#32
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_428 : BitVec 32 := 1#32
  let arg20 : BitVec 32 := Scf.iv v977 c1_i32_428 k0_t21
  let c512_i32_571 : BitVec 32 := 512#32
  let v1266 : BitVec 32 := Scalar.muli arg20 c512_i32_571
  let v1267 : BitVec 32 := v1266
  let v1276 : Index := Scalar.indexCast v1267
  ![0, v1276.toNat]
def k0_mult21 (i : grid0.Coords) (k0_t21 : Fin (k0_t21_loop i).trips) : BitVec 32 :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_428 : BitVec 32 := 1#32
  let arg20 : BitVec 32 := Scf.iv v977 c1_i32_428 k0_t21
  let c1_i32_576 : BitVec 32 := 1#32
  let v1279 : BitVec 32 := Scalar.addi arg20 c1_i32_576
  let c512_i32_577 : BitVec 32 := 512#32
  let v1280 : BitVec 32 := Scalar.muli v1279 c512_i32_577
  v1280
def k0_off24 (i : grid0.Coords) (k0_t21 : Fin (k0_t21_loop i).trips) : Fin 2 → Nat :=
  let c0_i32_424 : BitVec 32 := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_423 : BitVec 32 := 1#32
  let v972 : BitVec 32 := Scalar.subi v818 c1_i32_423
  let v973 : BitVec 32 := Scalar.subi v972 c0_i32_424
  let c1_i32_426 : BitVec 32 := 1#32
  let v975 : BitVec 32 := Scalar.divsi v973 c1_i32_426
  let v976 : BitVec 32 := Scalar.muli v975 c1_i32_426
  let v977 : BitVec 32 := Scalar.addi c0_i32_424 v976
  let c1_i32_428 : BitVec 32 := 1#32
  let arg20 : BitVec 32 := Scf.iv v977 c1_i32_428 k0_t21
  let c1_i32_576 : BitVec 32 := 1#32
  let v1279 : BitVec 32 := Scalar.addi arg20 c1_i32_576
  let c512_i32_577 : BitVec 32 := 512#32
  let v1280 : BitVec 32 := Scalar.muli v1279 c512_i32_577
  let v1281 : BitVec 32 := v1280
  let v1282 : Index := Scalar.indexCast v1281
  let c0_578 : Index := 0#32
  ![v1282.toNat, 0]
def k0_mult22 (i : grid0.Coords) : BitVec 32 :=
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_429 : BitVec 32 := 1#32
  let v980 : BitVec 32 := Scalar.subi v818 c1_i32_429
  let c512_i32_430 : BitVec 32 := 512#32
  let v981 : BitVec 32 := Scalar.muli v980 c512_i32_430
  v981
def k0_off25 (i : grid0.Coords) : Fin 2 → Nat :=
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_429 : BitVec 32 := 1#32
  let v980 : BitVec 32 := Scalar.subi v818 c1_i32_429
  let c512_i32_430 : BitVec 32 := 512#32
  let v981 : BitVec 32 := Scalar.muli v980 c512_i32_430
  let v982 : BitVec 32 := v981
  let v983 : Index := Scalar.indexCast v982
  let c0_431 : Index := 0#32
  ![v983.toNat, 0]
def k0_off26 (i : grid0.Coords) : Fin 2 → Nat :=
  let c0_433 : Index := 0#32
  let arg1 : BitVec 32 := BitVec.ofNat 32 (i 1).val
  let c1_i32_337 : BitVec 32 := 1#32
  let v814 : BitVec 32 := Scalar.addi arg1 c1_i32_337
  let c128_i32 : BitVec 32 := 128#32
  let v815 : BitVec 32 := Scalar.muli v814 c128_i32
  let c512_i32 : BitVec 32 := 512#32
  let v816 : BitVec 32 := Scalar.addi v815 c512_i32
  let c1_i32_338 : BitVec 32 := 1#32
  let v817 : BitVec 32 := Scalar.subi v816 c1_i32_338
  let c512_i32_339 : BitVec 32 := 512#32
  let v818 : BitVec 32 := Scalar.divsi v817 c512_i32_339
  let c1_i32_429 : BitVec 32 := 1#32
  let v980 : BitVec 32 := Scalar.subi v818 c1_i32_429
  let c512_i32_430 : BitVec 32 := 512#32
  let v981 : BitVec 32 := Scalar.muli v980 c512_i32_430
  let v982 : BitVec 32 := v981
  let v991 : Index := Scalar.indexCast v982
  ![0, v991.toNat]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S1024 : Shape := ⟨1, ![1024]⟩
abbrev S16384x2816 : Shape := ⟨2, ![16384, 2816]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S16384x2816, .f32⟩
  | .hbm, ⟨6, _⟩ => ⟨S16384x2816, .bf16⟩
  | .hbm, ⟨7, _⟩ => ⟨S2816x1024, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x8192x2816 : Shape := ⟨3, ![2, 8192, 2816]⟩
abbrev S2816x1024 : Shape := ⟨2, ![2816, 1024]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x5632 : Shape := ⟨2, ![1024, 5632]⟩
abbrev S3x2816 : Shape := ⟨2, ![3, 2816]⟩
abbrev S2816 : Shape := ⟨1, ![2816]⟩
abbrev S16384x1024 : Shape := ⟨2, ![16384, 1024]⟩
abbrev S1x2816 : Shape := ⟨2, ![1, 2816]⟩
abbrev S16384x2816 : Shape := ⟨2, ![16384, 2816]⟩
abbrev S512x1024 : Shape := ⟨2, ![512, 1024]⟩
abbrev S16x1024 : Shape := ⟨2, ![16, 1024]⟩
abbrev S1024x1408 : Shape := ⟨2, ![1024, 1408]⟩
abbrev S3x1408 : Shape := ⟨2, ![3, 1408]⟩
abbrev S1x1408 : Shape := ⟨2, ![1, 1408]⟩
abbrev S512x1408 : Shape := ⟨2, ![512, 1408]⟩
abbrev S528x1024 : Shape := ⟨2, ![528, 1024]⟩
abbrev S528x1408 : Shape := ⟨2, ![528, 1408]⟩

abbrev nBuf : Space → Nat
  | .hbm => 9
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S16384x1024, .f32⟩
  | .hbm, ⟨5, _⟩ => ⟨S16384x1024, .bf16⟩
  | .hbm, ⟨6, _⟩ => ⟨S1024x5632, .bf16⟩
  | .hbm, ⟨7, _⟩ => ⟨S1x2816, .f32⟩
  | .hbm, ⟨8, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S512x1408, .bf16⟩
  | .local _ .vmem, ⟨13, _⟩ => ⟨S512x1408, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x8192x1024 : Shape := ⟨3, ![2, 8192, 1024]⟩
abbrev S1024x5632 : Shape := ⟨2, ![1024, 5632]⟩
abbrev S3x2816 : Shape := ⟨2, ![3, 2816]⟩
abbrev S2816 : Shape := ⟨1, ![2816]⟩
abbrev S2x8192x5632 : Shape := ⟨3, ![2, 8192, 5632]⟩
abbrev S2x8192x2816 : Shape := ⟨3, ![2, 8192, 2816]⟩
abbrev S_ : Shape := ⟨0, ![]⟩
abbrev S2x8194x2816 : Shape := ⟨3, ![2, 8194, 2816]⟩
abbrev S1x2816 : Shape := ⟨2, ![1, 2816]⟩
abbrev S1x1x2816 : Shape := ⟨3, ![1, 1, 2816]⟩
abbrev S16384x2816 : Shape := ⟨2, ![16384, 2816]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2x8192x5632, .f32⟩
  | .hbm, ⟨5, _⟩ => ⟨S2x8192x2816, .f32⟩
  | .hbm, ⟨6, _⟩ => ⟨S2x8192x2816, .f32⟩
  | .hbm, ⟨7, _⟩ => ⟨S_, .i32⟩
  | .hbm, ⟨8, _⟩ => ⟨S_, .f32⟩
  | .hbm, ⟨9, _⟩ => ⟨S2x8194x2816, .f32⟩
  | .hbm, ⟨10, _⟩ => ⟨S1x2816, .f32⟩
  | .hbm, ⟨11, _⟩ => ⟨S2816, .f32⟩
  | .hbm, ⟨12, _⟩ => ⟨S2x8192x2816, .f32⟩
  | .hbm, ⟨13, _⟩ => ⟨S1x1x2816, .f32⟩
  | .hbm, ⟨14, _⟩ => ⟨S2x8192x2816, .f32⟩
  | .hbm, ⟨15, _⟩ => ⟨S2x8192x2816, .f32⟩
  | .hbm, ⟨16, _⟩ => ⟨S1x1x2816, .f32⟩
  | .hbm, ⟨17, _⟩ => ⟨S2x8192x2816, .f32⟩
  | .hbm, ⟨18, _⟩ => ⟨S2x8192x2816, .f32⟩
  | .hbm, ⟨19, _⟩ => ⟨S1x2816, .f32⟩
  | .hbm, ⟨20, _⟩ => ⟨S2816, .f32⟩
  | .hbm, ⟨21, _⟩ => ⟨S2x8192x2816, .f32⟩
  | .hbm, ⟨22, _⟩ => ⟨S1x1x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S1x2816, .f32⟩
  | .hbm, ⟨27, _⟩ => ⟨S2816, .f32⟩
  | .hbm, ⟨28, _⟩ => ⟨S2x8192x2816, .f32⟩
  | .hbm, ⟨29, _⟩ => ⟨S1x1x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .bf16⟩
  | .hbm, ⟨52, _⟩ => ⟨S16384x2816, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel4.lean ====
abbrev S2x8192x512 : Shape := ⟨3, ![2, 8192, 512]⟩
abbrev S1024x1024 : Shape := ⟨2, ![1024, 1024]⟩
abbrev S2x8192x1024 : Shape := ⟨3, ![2, 8192, 1024]⟩
abbrev S1024 : Shape := ⟨1, ![1024]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S512x1024, .bf16⟩
  | .hbm, ⟨12, _⟩ => ⟨S512x1024, .bf16⟩
  | .hbm, ⟨13, _⟩ => ⟨S16384x1024, .f32⟩
  | .hbm, ⟨14, _⟩ => ⟨S1x1024, .f32⟩
  | .hbm, ⟨15, _⟩ => ⟨S1x1024, .f32⟩
  | .hbm, ⟨16, _⟩ => ⟨S16384x1024, .f32⟩
  | .hbm, ⟨17, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S2x8192x512 : Shape := ⟨3, ![2, 8192, 512]⟩
abbrev S1024x1024 : Shape := ⟨2, ![1024, 1024]⟩
abbrev S2x8192x1024 : Shape := ⟨3, ![2, 8192, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | .hbm, ⟨42, _⟩ => ⟨S16384x1024, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x1024, .bf16⟩
  | .hbm, ⟨8, _⟩ => ⟨S16384x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x8192x1024 : Shape := ⟨3, ![2, 8192, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | .hbm, ⟨40, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x3080 : Shape := ⟨2, ![1024, 3080]⟩
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x3080, .f32⟩
  | .hbm, ⟨2, _⟩ => ⟨S16384x1024, .f32⟩
  | .hbm, ⟨3, _⟩ => ⟨S16384x1024, .bf16⟩
  | .hbm, ⟨4, _⟩ => ⟨S1024x3072, .f32⟩
  | .hbm, ⟨5, _⟩ => ⟨S1024x3072, .bf16⟩
  | .hbm, ⟨6, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x1024 : Shape := ⟨3, ![2, 8192, 1024]⟩
abbrev S1024x3080 : Shape := ⟨2, ![1024, 3080]⟩
abbrev S2x8192x3080 : Shape := ⟨3, ![2, 8192, 3080]⟩
abbrev S2x8192x3072 : Shape := ⟨3, ![2, 8192, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3080, .f32⟩
  | .hbm, ⟨2, _⟩ => ⟨S2x8192x3080, .f32⟩
  | .hbm, ⟨3, _⟩ => ⟨S2x8192x3072, .f32⟩
  | .hbm, ⟨4, _⟩ => ⟨S2x8192x3072, .bf16⟩
  | .hbm, ⟨5, _⟩ => ⟨S16384x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2x8192x1024 : Shape := ⟨3, ![2, 8192, 1024]⟩
abbrev S1024x5456 : Shape := ⟨2, ![1024, 5456]⟩
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x5456, .f32⟩
  | .hbm, ⟨2, _⟩ => ⟨S16384x1024, .f32⟩
  | .hbm, ⟨3, _⟩ => ⟨S16384x1024, .bf16⟩
  | .hbm, ⟨4, _⟩ => ⟨S1024x4096, .f32⟩
  | .hbm, ⟨5, _⟩ => ⟨S1024x4096, .bf16⟩
  | .hbm, ⟨6, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x1024 : Shape := ⟨3, ![2, 8192, 1024]⟩
abbrev S1024x5456 : Shape := ⟨2, ![1024, 5456]⟩
abbrev S2x8192x5456 : Shape := ⟨3, ![2, 8192, 5456]⟩
abbrev S2x8192x4096 : Shape := ⟨3, ![2, 8192, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5456, .f32⟩
  | .hbm, ⟨2, _⟩ => ⟨S2x8192x5456, .f32⟩
  | .hbm, ⟨3, _⟩ => ⟨S2x8192x4096, .f32⟩
  | .hbm, ⟨4, _⟩ => ⟨S2x8192x4096, .bf16⟩
  | .hbm, ⟨5, _⟩ => ⟨S16384x4096, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2x8192x1024 : Shape := ⟨3, ![2, 8192, 1024]⟩
abbrev S1024x5456 : Shape := ⟨2, ![1024, 5456]⟩
abbrev S16384x1024 : Shape := ⟨2, ![16384, 1024]⟩
abbrev S1024x1024 : Shape := ⟨2, ![1024, 1024]⟩
abbrev S1024x256 : Shape := ⟨2, ![1024, 256]⟩
abbrev S1024x80 : Shape := ⟨2, ![1024, 80]⟩
abbrev S_ : Shape := ⟨0, ![]⟩
abbrev S1024x48 : Shape := ⟨2, ![1024, 48]⟩
abbrev S1024x1408 : Shape := ⟨2, ![1024, 1408]⟩
abbrev S16384x1408 : Shape := ⟨2, ![16384, 1408]⟩
abbrev S512x1024 : Shape := ⟨2, ![512, 1024]⟩
abbrev S512x1408 : Shape := ⟨2, ![512, 1408]⟩

abbrev nBuf : Space → Nat
  | .hbm => 12
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x5456, .f32⟩
  | .hbm, ⟨2, _⟩ => ⟨S16384x1024, .f32⟩
  | .hbm, ⟨3, _⟩ => ⟨S16384x1024, .bf16⟩
  | .hbm, ⟨4, _⟩ => ⟨S1024x1024, .f32⟩
  | .hbm, ⟨5, _⟩ => ⟨S1024x256, .f32⟩
  | .hbm, ⟨6, _⟩ => ⟨S1024x80, .f32⟩
  | .hbm, ⟨7, _⟩ => ⟨S_, .f32⟩
  | .hbm, ⟨8, _⟩ => ⟨S1024x48, .f32⟩
  | .hbm, ⟨9, _⟩ => ⟨S1024x1408, .f32⟩
  | .hbm, ⟨10, _⟩ => ⟨S1024x1408, .bf16⟩
  | .hbm, ⟨11, _⟩ => ⟨S16384x1408, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S512x1408, .f32⟩
  | .local _ .vmem, ⟨4, _⟩ => ⟨S512x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2x8192x1024 : Shape := ⟨3, ![2, 8192, 1024]⟩
abbrev S1024x5456 : Shape := ⟨2, ![1024, 5456]⟩
abbrev S2x8192x5456 : Shape := ⟨3, ![2, 8192, 5456]⟩
abbrev S2x8192x256 : Shape := ⟨3, ![2, 8192, 256]⟩
abbrev S2x8192x80 : Shape := ⟨3, ![2, 8192, 80]⟩
abbrev S_ : Shape := ⟨0, ![]⟩
abbrev S2x8192x48 : Shape := ⟨3, ![2, 8192, 48]⟩
abbrev S2x8192x1408 : Shape := ⟨3, ![2, 8192, 1408]⟩
abbrev S16384x1408 : Shape := ⟨2, ![16384, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5456, .f32⟩
  | .hbm, ⟨2, _⟩ => ⟨S2x8192x5456, .f32⟩
  | .hbm, ⟨3, _⟩ => ⟨S2x8192x1024, .f32⟩
  | .hbm, ⟨4, _⟩ => ⟨S2x8192x256, .f32⟩
  | .hbm, ⟨5, _⟩ => ⟨S2x8192x80, .f32⟩
  | .hbm, ⟨6, _⟩ => ⟨S_, .f32⟩
  | .hbm, ⟨7, _⟩ => ⟨S2x8192x48, .f32⟩
  | .hbm, ⟨8, _⟩ => ⟨S2x8192x1408, .f32⟩
  | .hbm, ⟨9, _⟩ => ⟨S16384x1408, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2x8192x1024 : Shape := ⟨3, ![2, 8192, 1024]⟩
abbrev S1024x3080 : Shape := ⟨2, ![1024, 3080]⟩
abbrev S16384x1024 : Shape := ⟨2, ![16384, 1024]⟩
abbrev S1024x8 : Shape := ⟨2, ![1024, 8]⟩
abbrev S_ : Shape := ⟨0, ![]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x3080, .f32⟩
  | .hbm, ⟨2, _⟩ => ⟨S16384x1024, .f32⟩
  | .hbm, ⟨3, _⟩ => ⟨S16384x1024, .bf16⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x8192x1024 : Shape := ⟨3, ![2, 8192, 1024]⟩
abbrev S1024x3080 : Shape := ⟨2, ![1024, 3080]⟩
abbrev S2x8192x3080 : Shape := ⟨3, ![2, 8192, 3080]⟩
abbrev S2x8192x8 : Shape := ⟨3, ![2, 8192, 8]⟩
abbrev S_ : Shape := ⟨0, ![]⟩
abbrev S2x8192x128 : Shape := ⟨3, ![2, 8192, 128]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3080, .f32⟩
  | .hbm, ⟨2, _⟩ => ⟨S2x8192x3080, .f32⟩
  | .hbm, ⟨3, _⟩ => ⟨S2x8192x8, .f32⟩
  | .hbm, ⟨4, _⟩ => ⟨S_, .i32⟩
  | .hbm, ⟨5, _⟩ => ⟨S_, .f32⟩
  | .hbm, ⟨6, _⟩ => ⟨S2x8192x128, .f32⟩
  | .hbm, ⟨7, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S2x8192x3072 : Shape := ⟨3, ![2, 8192, 3072]⟩
abbrev S16384x3072 : Shape := ⟨2, ![16384, 3072]⟩
abbrev S16384x512 : Shape := ⟨2, ![16384, 512]⟩
abbrev S512x128 : Shape := ⟨2, ![512, 128]⟩
abbrev S8192x128 : Shape := ⟨2, ![8192, 128]⟩
abbrev S1024x128 : Shape := ⟨2, ![1024, 128]⟩
abbrev S1024x256 : Shape := ⟨2, ![1024, 256]⟩
abbrev S1x128 : Shape := ⟨2, ![1, 128]⟩
abbrev S512x256 : Shape := ⟨2, ![512, 256]⟩
abbrev S256x128 : Shape := ⟨2, ![256, 128]⟩
abbrev S1024x512 : Shape := ⟨2, ![1024, 512]⟩
abbrev S1024x1 : Shape := ⟨2, ![1024, 1]⟩

abbrev nBuf : Space → Nat
  | .hbm => 4
  | .vmem => 11
  | .smem => 0
  | _ => 0

abbrev bufTy : (tb : Table) → Fin (tcTables nBuf tb) → BufTy
  | .hbm, ⟨0, _⟩ => ⟨S2x8192x3072, .f32⟩
  | .hbm, ⟨1, _⟩ => ⟨S16384x3072, .f32⟩
  | .hbm, ⟨2, _⟩ => ⟨S16384x3072, .bf16⟩
  | .hbm, ⟨3, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c256_i32 : BitVec 32 := 256#32
  let v45 : BitVec 32 := Scalar.muli v44 c256_i32
  v45
def k0_off1 (i : grid0.Coords) : Fin 2 → Nat :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c256_i32 : BitVec 32 := 256#32
  let v45 : BitVec 32 := Scalar.muli v44 c256_i32
  let v46 : BitVec 32 := v45
  let v47 : Index := Scalar.indexCast v46
  let c0_13 : Index := 0#32
  ![v47.toNat, 0]
def k0_mult2 (i : grid0.Coords) : BitVec 32 :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c0_i32_17 : BitVec 32 := 0#32
  let v55 : BitVec 32 := Scalar.subi v44 c0_i32_17
  let c1_i32_18 : BitVec 32 := 1#32
  let v56 : BitVec 32 := Scalar.subi v55 c1_i32_18
  let c256_i32_21 : BitVec 32 := 256#32
  let v58 : BitVec 32 := Scalar.muli v56 c256_i32_21
  v58
def k0_off2 (i : grid0.Coords) : Fin 2 → Nat :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c0_i32_17 : BitVec 32 := 0#32
  let v55 : BitVec 32 := Scalar.subi v44 c0_i32_17
  let c1_i32_18 : BitVec 32 := 1#32
  let v56 : BitVec 32 := Scalar.subi v55 c1_i32_18
  let c256_i32_21 : BitVec 32 := 256#32
  let v58 : BitVec 32 := Scalar.muli v56 c256_i32_21
  let v59 : BitVec 32 := v58
  let v60 : Index := Scalar.indexCast v59
  let c0_22 : Index := 0#32
  ![v60.toNat, 0]
def k0_mult3 (i : grid0.Coords) : BitVec 32 :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c0_i32 : BitVec 32 := 0#32
  let v54 : BitVec 32 := Scalar.subi v44 c0_i32
  let c256_i32_26 : BitVec 32 := 256#32
  let v67 : BitVec 32 := Scalar.muli v54 c256_i32_26
  v67
def k0_off3 (i : grid0.Coords) : Fin 2 → Nat :=
  let arg2 : BitVec 32 := BitVec.ofNat 32 (i 2).val
  let c2_i32 : BitVec 32 := 2#32
  let v42 : BitVec 32 := Scalar.muli arg2 c2_i32
  let c2_i32_12 : BitVec 32 := 2#32
  let v43 : BitVec 32 := Scalar.addi v42 c2_i32_12
  let c1_i32 : BitVec 32 := 1#32
  let v44 : BitVec 32 := Scalar.subi v43 c1_i32
  let c0_i32 : BitVec 32 := 0#32
  let v54 : BitVec 32 := Scalar.subi v44 c0_i32
  let c256_i32_26 : BitVec 32 := 256#32
  let v67 : BitVec 32 := Scalar.muli v54 c256_i32_26
  let v68 : BitVec 32 := v67
  let v69 : Index := Scalar.indexCast v68
  let c0_27 : Index := 0#32
  ![v69.toNat, 0]
def k0_cond1 (i : grid0.Coords) : BitVec 1 :=
  let arg2 : BitVec 32 := BitVec.ofNat 32 (i 2).val
  let c0_i32_44 : BitVec 32 := 0#32
  let v117 : BitVec 1 := Scalar.cmpi .eq arg2 c0_i32_44
  let v118 : BitVec 32 := Scalar.extui v117
  let c0_i32_45 : BitVec 32 := 0#32
  let v119 : BitVec 1 := Scalar.cmpi .ne v118 c0_i32_45
  v119

def k0_mult4 : BitVec 32 :=
  let c0_i32_56 : BitVec 32 := 0#32
  c0_i32_56
def k0_cond2 (i : grid0.Coords) : BitVec 1 :=
  let arg2 : BitVec 32 := BitVec.ofNat 32 (i 2).val
  let c0_i32_46 : BitVec 32 := 0#32
  let v120 : BitVec 1 := Scalar.cmpi .sgt arg2 c0_i32_46
  let v121 : BitVec 32 := Scalar.extui v120
  let c0_i32_47 : BitVec 32 := 0#32
  let v122 : BitVec 1 := Scalar.cmpi .ne v121 c0_i32_47
  v122

def k0_mult5 (i : grid0.Coords) : BitVec 32 :=
  let arg2 : BitVec 32 := BitVec.ofNat 32 (i 2).val
  let c2_i32_55 : BitVec 32 := 2#32
  let v133 : BitVec 32 := Scalar.muli arg2 c2_i32_55
  let c1_i32_56 : BitVec 32 := 1#32
  let v134 : BitVec 32 := Scalar.subi v133 c1_i32_56
  let c256_i32_59 : BitVec 32 := 256#32
  let v136 : BitVec 32 := Scalar.muli v134 c256_i32_59
  v136
def k0_off4 (i : grid0.Coords) : Fin 2 → Nat :=
  let arg2 : BitVec 32 := BitVec.ofNat 32 (i 2).val
  let c2_i32_55 : BitVec 32 := 2#32
  let v133 : BitVec 32 := Scalar.muli arg2 c2_i32_55
  let c1_i32_56 : BitVec 32 := 1#32
  let v134 : BitVec 32 := Scalar.subi v133 c1_i32_56
  let c256_i32_59 : BitVec 32 := 256#32
  let v136 : BitVec 32 := Scalar.muli v134 c256_i32_59
  let v137 : BitVec 32 := v136
  let v138 : Index := Scalar.indexCast v137
  let c0_60 : Index := 0#32
  ![v138.toNat, 0]
def k0_mult6 (i : grid0.Coords) : BitVec 32 :=
  let arg2 : BitVec 32 := BitVec.ofNat 32 (i 2).val
  let c2_i32_54 : BitVec 32 := 2#32
  let v132 : BitVec 32 := Scalar.muli arg2 c2_i32_54
  let c256_i32_64 : BitVec 32 := 256#32
  let v145 : BitVec 32 := Scalar.muli v132 c256_i32_64
  v145
def k0_off5 (i : grid0.Coords) : Fin 2 → Nat :=
  let arg2 : BitVec 32 := BitVec.ofNat 32 (i 2).val
  let c2_i32_54 : BitVec 32 := 2#32
  let v132 : BitVec 32 := Scalar.muli arg2 c2_i32_54
  let c256_i32_64 : BitVec 32 := 256#32
  let v145 : BitVec 32 := Scalar.muli v132 c256_i32_64
  let v146 : BitVec 32 := v145
  let v147 : Index := Scalar.indexCast v146
  let c0_65 : Index := 0#32
  ![v147.toNat, 0]
@[reducible] def k0_t1_loop (i : grid0.Coords) : Scf.Loop 32 :=
  let c0_i32_83 : BitVec 32 := 0#32
  let arg2 : BitVec 32 := BitVec.ofNat 32 (i 2).val
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_86 : BitVec 32 := 1#32
  ⟨c0_i32_83, v200, c1_i32_86⟩
def k0_mult7 (i : grid0.Coords) (k0_t1 : Fin (k0_t1_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c1_i32_91 : BitVec 32 := 1#32
  let v207 : BitVec 32 := Scalar.subi v206 c1_i32_91
  let c256_i32_94 : BitVec 32 := 256#32
  let v209 : BitVec 32 := Scalar.muli v207 c256_i32_94
  v209
def k0_off6 (i : grid0.Coords) (k0_t1 : Fin (k0_t1_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c1_i32_91 : BitVec 32 := 1#32
  let v207 : BitVec 32 := Scalar.subi v206 c1_i32_91
  let c256_i32_94 : BitVec 32 := 256#32
  let v209 : BitVec 32 := Scalar.muli v207 c256_i32_94
  let v210 : BitVec 32 := v209
  let v211 : Index := Scalar.indexCast v210
  let c0_95 : Index := 0#32
  ![v211.toNat, 0]
def k0_mult8 (i : grid0.Coords) (k0_t1 : Fin (k0_t1_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c256_i32_99 : BitVec 32 := 256#32
  let v218 : BitVec 32 := Scalar.muli v206 c256_i32_99
  v218
def k0_off7 (i : grid0.Coords) (k0_t1 : Fin (k0_t1_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c256_i32_99 : BitVec 32 := 256#32
  let v218 : BitVec 32 := Scalar.muli v206 c256_i32_99
  let v219 : BitVec 32 := v218
  let v220 : Index := Scalar.indexCast v219
  let c0_100 : Index := 0#32
  ![v220.toNat, 0]
def k0_mult9 (i : grid0.Coords) (k0_t1 : Fin (k0_t1_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c2_i32_116 : BitVec 32 := 2#32
  let v261 : BitVec 32 := Scalar.subi v206 c2_i32_116
  let c0_i32_117 : BitVec 32 := 0#32
  let v262 : BitVec 32 := Scalar.maxsi v261 c0_i32_117
  let c256_i32_120 : BitVec 32 := 256#32
  let v264 : BitVec 32 := Scalar.muli v262 c256_i32_120
  v264
def k0_off8 (i : grid0.Coords) (k0_t1 : Fin (k0_t1_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c2_i32_116 : BitVec 32 := 2#32
  let v261 : BitVec 32 := Scalar.subi v206 c2_i32_116
  let c0_i32_117 : BitVec 32 := 0#32
  let v262 : BitVec 32 := Scalar.maxsi v261 c0_i32_117
  let c256_i32_120 : BitVec 32 := 256#32
  let v264 : BitVec 32 := Scalar.muli v262 c256_i32_120
  let v265 : BitVec 32 := v264
  let v266 : Index := Scalar.indexCast v265
  let c0_121 : Index := 0#32
  ![v266.toNat, 0]
def k0_mult10 (i : grid0.Coords) (k0_t1 : Fin (k0_t1_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_86 : BitVec 32 := 1#32
  let arg10 : BitVec 32 := Scf.iv c0_i32_83 c1_i32_86 k0_t1
  let v205 : BitVec 32 := Scalar.muli c2_i32_90 arg10
  let v206 : BitVec 32 := Scalar.subi v204 v205
  let c1_i32_115 : BitVec 32 := 1#32
  let v260 : BitVec 32 := Scalar.subi v206 c1_i32_115
  let c256_i32_125 : BitVec 32 := 256#32
  let v273 : BitVec 32 := Scalar.muli v260 c256_i32_125
  v273
@[reducible] def k0_t2_loop (i : grid0.Coords) : Scf.Loop 32 :=
  let c0_i32_83 : BitVec 32 := 0#32
  let arg2 : BitVec 32 := BitVec.ofNat 32 (i 2).val
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let v197 : BitVec 32 := Scalar.addi c0_i32_83 v196
  let c1_i32_87 : BitVec 32 := 1#32
  ⟨v200, v197, c1_i32_87⟩
def k0_mult11 (i : grid0.Coords) (k0_t2 : Fin (k0_t2_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c1_i32_91 : BitVec 32 := 1#32
  let v207 : BitVec 32 := Scalar.subi v206 c1_i32_91
  let c256_i32_94 : BitVec 32 := 256#32
  let v209 : BitVec 32 := Scalar.muli v207 c256_i32_94
  v209
def k0_off9 (i : grid0.Coords) (k0_t2 : Fin (k0_t2_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c1_i32_91 : BitVec 32 := 1#32
  let v207 : BitVec 32 := Scalar.subi v206 c1_i32_91
  let c256_i32_94 : BitVec 32 := 256#32
  let v209 : BitVec 32 := Scalar.muli v207 c256_i32_94
  let v210 : BitVec 32 := v209
  let v211 : Index := Scalar.indexCast v210
  let c0_95 : Index := 0#32
  ![v211.toNat, 0]
def k0_mult12 (i : grid0.Coords) (k0_t2 : Fin (k0_t2_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c256_i32_99 : BitVec 32 := 256#32
  let v218 : BitVec 32 := Scalar.muli v206 c256_i32_99
  v218
def k0_off10 (i : grid0.Coords) (k0_t2 : Fin (k0_t2_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c256_i32_99 : BitVec 32 := 256#32
  let v218 : BitVec 32 := Scalar.muli v206 c256_i32_99
  let v219 : BitVec 32 := v218
  let v220 : Index := Scalar.indexCast v219
  let c0_100 : Index := 0#32
  ![v220.toNat, 0]
def k0_mult13 (i : grid0.Coords) (k0_t2 : Fin (k0_t2_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c2_i32_116 : BitVec 32 := 2#32
  let v261 : BitVec 32 := Scalar.subi v206 c2_i32_116
  let c0_i32_117 : BitVec 32 := 0#32
  let v262 : BitVec 32 := Scalar.maxsi v261 c0_i32_117
  let c256_i32_120 : BitVec 32 := 256#32
  let v264 : BitVec 32 := Scalar.muli v262 c256_i32_120
  v264
def k0_off11 (i : grid0.Coords) (k0_t2 : Fin (k0_t2_loop i).trips) : Fin 2 → Nat :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c2_i32_116 : BitVec 32 := 2#32
  let v261 : BitVec 32 := Scalar.subi v206 c2_i32_116
  let c0_i32_117 : BitVec 32 := 0#32
  let v262 : BitVec 32 := Scalar.maxsi v261 c0_i32_117
  let c256_i32_120 : BitVec 32 := 256#32
  let v264 : BitVec 32 := Scalar.muli v262 c256_i32_120
  let v265 : BitVec 32 := v264
  let v266 : Index := Scalar.indexCast v265
  let c0_121 : Index := 0#32
  ![v266.toNat, 0]
def k0_mult14 (i : grid0.Coords) (k0_t2 : Fin (k0_t2_loop i).trips) : BitVec 32 :=
  let arg2 : BitVec 32 := BitVec.ofNat 32 (i 2).val
  let c2_i32_88 : BitVec 32 := 2#32
  let v203 : BitVec 32 := Scalar.muli arg2 c2_i32_88
  let c1_i32_89 : BitVec 32 := 1#32
  let v204 : BitVec 32 := Scalar.subi v203 c1_i32_89
  let c2_i32_90 : BitVec 32 := 2#32
  let c0_i32_83 : BitVec 32 := 0#32
  let c1_i32_82 : BitVec 32 := 1#32
  let v195 : BitVec 32 := Scalar.muli arg2 c1_i32_82
  let v196 : BitVec 32 := Scalar.subi v195 c0_i32_83
  let c1_i32_85 : BitVec 32 := 1#32
  let v198 : BitVec 32 := Scalar.divsi v196 c1_i32_85
  let v199 : BitVec 32 := Scalar.muli v198 c1_i32_85
  let v200 : BitVec 32 := Scalar.addi c0_i32_83 v199
  let c1_i32_87 : BitVec 32 := 1#32
  let arg10 : BitVec 32 := Scf.iv v200 c1_i32_87 k0_t2
  let v205 : BitVec 32 := Scalar.muli c2_i32_90 arg10
  let v206 : BitVec 32 := Scalar.subi v204 v205
  let c1_i32_115 : BitVec 32 := 1#32
  let v260 : BitVec 32 := Scalar.subi v206 c1_i32_115
  let c256_i32_125 : BitVec 32 := 256#32
  let v273 : BitVec 32 := Scalar.muli v260 c256_i32_125
  v273
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel10Ideal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== Reference10Ideal.lean ====
abbrev S2x8192x3072 : Shape := ⟨3, ![2, 8192, 3072]⟩
abbrev S2x8192x512 : Shape := ⟨3, ![2, 8192, 512]⟩
abbrev S2x8192x8x64 : Shape := ⟨4, ![2, 8192, 8, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩
abbrev S16384x512 : Shape := ⟨2, ![16384, 512]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S2x8192x512, .f32⟩
  | .hbm, ⟨2, _⟩ => ⟨S2x8192x8x64, .f32⟩
  | .hbm, ⟨3, _⟩ => ⟨S2x8192x512, .f32⟩
  | .hbm, ⟨4, _⟩ => ⟨S2x8192x8x64, .f32⟩
  | .hbm, ⟨5, _⟩ => ⟨S2x8192x512, .f32⟩
  | .hbm, ⟨6, _⟩ => ⟨S2x8192x8x64, .f32⟩
  | .hbm, ⟨7, _⟩ => ⟨S2x8x8192x8192, .f32⟩
  | .hbm, ⟨8, _⟩ => ⟨S_, .f32⟩
  | .hbm, ⟨9, _⟩ => ⟨S2x8x8192x8192, .f32⟩
  | .hbm, ⟨10, _⟩ => ⟨S2x8x8192x8192, .f32⟩
  | .hbm, ⟨11, _⟩ => ⟨S8192, .i32⟩
  | .hbm, ⟨12, _⟩ => ⟨S1x8192, .i32⟩
  | .hbm, ⟨13, _⟩ => ⟨S8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S_, .f32⟩
  | .hbm, ⟨37, _⟩ => ⟨S2x8x8192x8192, .i1⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S_, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S_, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .i1⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S_, .f32⟩
  | .hbm, ⟨63, _⟩ => ⟨S_, .f32⟩
  | .hbm, ⟨64, _⟩ => ⟨S2x8x8192x8192, .i1⟩
  | .hbm, ⟨65, _⟩ => ⟨S2x8x8192x8192, .f32⟩
  | .hbm, ⟨66, _⟩ => ⟨S2x8x8192x8192, .f32⟩
  | .hbm, ⟨67, _⟩ => ⟨S2x8x64x8192, .f32⟩
  | .hbm, ⟨68, _⟩ => ⟨S2x8192x8x64, .f32⟩
  | .hbm, ⟨69, _⟩ => ⟨S16384x512, .f32⟩
  | .hbm, ⟨70, _⟩ => ⟨S16384x512, .bf16⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Kernel11.lean ====
abbrev S2x8192x3072 : Shape := ⟨3, ![2, 8192, 3072]⟩
abbrev S2x8x8192 : Shape := ⟨3, ![2, 8, 8192]⟩
abbrev S16384x3072 : Shape := ⟨2, ![16384, 3072]⟩
abbrev S16x1x8192 : Shape := ⟨3, ![16, 1, 8192]⟩
abbrev S16384x512 : Shape := ⟨2, ![16384, 512]⟩
abbrev S512x128 : Shape := ⟨2, ![512, 128]⟩
abbrev S8192x128 : Shape := ⟨2, ![8192, 128]⟩
abbrev S2x1x512 : Shape := ⟨3, ![2, 1, 512]⟩
abbrev S2x1x8192 : Shape := ⟨3, ![2, 1, 8192]⟩
abbrev S1024x128 : Shape := ⟨2, ![1024, 128]⟩
abbrev S1024x256 : Shape := ⟨2, ![1024, 256]⟩
abbrev S1024x512 : Shape := ⟨2, ![1024, 512]⟩
abbrev S1x128 : Shape := ⟨2, ![1, 128]⟩
abbrev S128x128 : Shape := ⟨2, ![128, 128]⟩
abbrev S1x1x512 : Shape := ⟨3, ![1, 1, 512]⟩
abbrev S1x512 : Shape := ⟨2, ![1, 512]⟩
abbrev S128 : Shape := ⟨1, ![128]⟩
abbrev S128x1 : Shape := ⟨2, ![128, 1]⟩
abbrev S1024x1 : Shape := ⟨2, ![1024, 1]⟩
abbrev S512x512 : Shape := ⟨2, ![512, 512]⟩
abbrev S1024 : Shape := ⟨1, ![1024]⟩
abbrev S512x256 : Shape := ⟨2, ![512, 256]⟩

abbrev nBuf : Space → Nat
  | .hbm => 6
  | .vmem => 15
  | .smem => 0
  | _ => 0

abbrev bufTy : (tb : Table) → Fin (tcTables nBuf tb) → BufTy
  | .hbm, ⟨0, _⟩ => ⟨S2x8192x3072, .f32⟩
  | .hbm, ⟨1, _⟩ => ⟨S2x8x8192, .f32⟩
  | .hbm, ⟨2, _⟩ => ⟨S16384x3072, .f32⟩
  | .hbm, ⟨3, _⟩ => ⟨S16384x3072, .bf16⟩
  | .hbm, ⟨4, _⟩ => ⟨S16x1x8192, .f32⟩
  | .hbm, ⟨5, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2x1x512, .f32⟩
  | .local _ .vmem, ⟨7, _⟩ => ⟨S2x1x512, .f32⟩
  | .local _ .vmem, ⟨8, _⟩ => ⟨S2x1x8192, .f32⟩
  | .local _ .vmem, ⟨9, _⟩ => ⟨S2x1x8192, .f32⟩
  | .local _ .vmem, ⟨10, _⟩ => ⟨S512x128, .bf16⟩
  | .local _ .vmem, ⟨11, _⟩ => ⟨S512x128, .bf16⟩
  | .local _ .vmem, ⟨12, _⟩ => ⟨S1024x128, .f32⟩
  | .local _ .vmem, ⟨13, _⟩ => ⟨S1024x256, .f32⟩
  | .local _ .vmem, ⟨14, _⟩ => ⟨S1024x512, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c512_i32 : BitVec 32 := 512#32
  let v102 : BitVec 32 := Scalar.muli arg2 c512_i32
  v102
def k0_off1 (i : grid0.Coords) : Fin 2 → Nat :=
  let arg2 : BitVec 32 := BitVec.ofNat 32 (i 2).val
  let c512_i32 : BitVec 32 := 512#32
  let v102 : BitVec 32 := Scalar.muli arg2 c512_i32
  let v103 : BitVec 32 := v102
  let v104 : Index := Scalar.indexCast v103
  let c0_34 : Index := 0#32
  ![v104.toNat, 0]
def k0_off2 (i : grid0.Coords) : Fin 3 → Nat :=
  let c0_35 : Index := 0#32
  let c0_36 : Index := 0#32
  let arg2 : BitVec 32 := BitVec.ofNat 32 (i 2).val
  let c512_i32 : BitVec 32 := 512#32
  let v102 : BitVec 32 := Scalar.muli arg2 c512_i32
  let v103 : BitVec 32 := v102
  let v107 : Index := Scalar.indexCast v103
  ![0, 0, v107.toNat]
def k0_off3 (i : grid0.Coords) : Fin 3 → Nat :=
  let c1_38 : Index := 1#32
  let c0_39 : Index := 0#32
  let arg2 : BitVec 32 := BitVec.ofNat 32 (i 2).val
  let c512_i32 : BitVec 32 := 512#32
  let v102 : BitVec 32 := Scalar.muli arg2 c512_i32
  let v103 : BitVec 32 := v102
  let v114 : Index := Scalar.indexCast v103
  ![1, 0, v114.toNat]
def k0_cond1 (i : grid0.Coords) : BitVec 1 :=
  let arg2 : BitVec 32 := BitVec.ofNat 32 (i 2).val
  let c0_i32 : BitVec 32 := 0#32
  let v129 : BitVec 1 := Scalar.cmpi .eq arg2 c0_i32
  let v130 : BitVec 32 := Scalar.extui v129
  let c0_i32_44 : BitVec 32 := 0#32
  let v131 : BitVec 1 := Scalar.cmpi .ne v130 c0_i32_44
  v131

def k0_mult2 : BitVec 32 :=
  let c0_i32_56 : BitVec 32 := 0#32
  c0_i32_56
def k0_cond2 (i : grid0.Coords) : BitVec 1 :=
  let arg2 : BitVec 32 := BitVec.ofNat 32 (i 2).val
  let c0_i32_45 : BitVec 32 := 0#32
  let v132 : BitVec 1 := Scalar.cmpi .sgt arg2 c0_i32_45
  let v133 : BitVec 32 := Scalar.extui v132
  let c0_i32_46 : BitVec 32 := 0#32
  let v134 : BitVec 1 := Scalar.cmpi .ne v133 c0_i32_46
  v134

def k0_mult3 (i : grid0.Coords) : BitVec 32 :=
  let arg2 : BitVec 32 := BitVec.ofNat 32 (i 2).val
  let c1_i32 : BitVec 32 := 1#32
  let v147 : BitVec 32 := Scalar.subi arg2 c1_i32
  let c512_i32_55 : BitVec 32 := 512#32
  let v149 : BitVec 32 := Scalar.muli v147 c512_i32_55
  v149
def k0_off4 (i : grid0.Coords) : Fin 2 → Nat :=
  let arg2 : BitVec 32 := BitVec.ofNat 32 (i 2).val
  let c1_i32 : BitVec 32 := 1#32
  let v147 : BitVec 32 := Scalar.subi arg2 c1_i32
  let c512_i32_55 : BitVec 32 := 512#32
  let v149 : BitVec 32 := Scalar.muli v147 c512_i32_55
  let v150 : BitVec 32 := v149
  let v151 : Index := Scalar.indexCast v150
  let c0_56 : Index := 0#32
  ![v151.toNat, 0]
def k0_off5 (i : grid0.Coords) : Fin 3 → Nat :=
  let c0_57 : Index := 0#32
  let c0_58 : Index := 0#32
  let arg2 : BitVec 32 := BitVec.ofNat 32 (i 2).val
  let c1_i32 : BitVec 32 := 1#32
  let v147 : BitVec 32 := Scalar.subi arg2 c1_i32
  let c512_i32_55 : BitVec 32 := 512#32
  let v149 : BitVec 32 := Scalar.muli v147 c512_i32_55
  let v150 : BitVec 32 := v149
  let v154 : Index := Scalar.indexCast v150
  ![0, 0, v154.toNat]
def k0_off6 (i : grid0.Coords) : Fin 3 → Nat :=
  let c1_60 : Index := 1#32
  let c0_61 : Index := 0#32
  let arg2 : BitVec 32 := BitVec.ofNat 32 (i 2).val
  let c1_i32 : BitVec 32 := 1#32
  let v147 : BitVec 32 := Scalar.subi arg2 c1_i32
  let c512_i32_55 : BitVec 32 := 512#32
  let v149 : BitVec 32 := Scalar.muli v147 c512_i32_55
  let v150 : BitVec 32 := v149
  let v161 : Index := Scalar.indexCast v150
  ![1, 0, v161.toNat]
def k0_mult4 (i : grid0.Coords) : BitVec 32 :=
  let arg2 : BitVec 32 := BitVec.ofNat 32 (i 2).val
  let c512_i32_67 : BitVec 32 := 512#32
  let v178 : BitVec 32 := Scalar.muli arg2 c512_i32_67
  v178
def k0_off7 (i : grid0.Coords) : Fin 2 → Nat :=
  let arg2 : BitVec 32 := BitVec.ofNat 32 (i 2).val
  let c512_i32_67 : BitVec 32 := 512#32
  let v178 : BitVec 32 := Scalar.muli arg2 c512_i32_67
  let v179 : BitVec 32 := v178
  let v180 : Index := Scalar.indexCast v179
  let c0_68 : Index := 0#32
  ![v180.toNat, 0]
@[reducible] def k0_t1_loop (i : grid0.Coords) : Scf.Loop 32 :=
  let c1_i32_80 : BitVec 32 := 1#32
  let arg2 : BitVec 32 := BitVec.ofNat 32 (i 2).val
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_83 : BitVec 32 := 1#32
  ⟨c1_i32_80, v211, c1_i32_83⟩
def k0_mult5 (i : grid0.Coords) (k0_t1 : Fin (k0_t1_loop i).trips) : BitVec 32 :=
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  v219
def k0_off8 (i : grid0.Coords) (k0_t1 : Fin (k0_t1_loop i).trips) : Fin 2 → Nat :=
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v221 : Index := Scalar.indexCast v220
  let c0_90 : Index := 0#32
  ![v221.toNat, 0]
def k0_off9 (i : grid0.Coords) (k0_t1 : Fin (k0_t1_loop i).trips) : Fin 3 → Nat :=
  let c0_91 : Index := 0#32
  let c0_92 : Index := 0#32
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v224 : Index := Scalar.indexCast v220
  ![0, 0, v224.toNat]
def k0_off10 (i : grid0.Coords) (k0_t1 : Fin (k0_t1_loop i).trips) : Fin 3 → Nat :=
  let c1_94 : Index := 1#32
  let c0_95 : Index := 0#32
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v231 : Index := Scalar.indexCast v220
  ![1, 0, v231.toNat]
def k0_mult6 (i : grid0.Coords) (k0_t1 : Fin (k0_t1_loop i).trips) : BitVec 32 :=
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v214 : BitVec 32 := Scalar.subi arg2 arg12
  let c512_i32_100 : BitVec 32 := 512#32
  let v246 : BitVec 32 := Scalar.muli v214 c512_i32_100
  v246
def k0_off11 (i : grid0.Coords) (k0_t1 : Fin (k0_t1_loop i).trips) : Fin 2 → Nat :=
  let arg2 : BitVec 32 := BitVec.ofNat 32 (i 2).val
  let c1_i32_80 : BitVec 32 := 1#32
  let c1_i32_83 : BitVec 32 := 1#32
  let arg12 : BitVec 32 := Scf.iv c1_i32_80 c1_i32_83 k0_t1
  let v214 : BitVec 32 := Scalar.subi arg2 arg12
  let c512_i32_100 : BitVec 32 := 512#32
  let v246 : BitVec 32 := Scalar.muli v214 c512_i32_100
  let v247 : BitVec 32 := v246
  let v248 : Index := Scalar.indexCast v247
  let c0_101 : Index := 0#32
  ![v248.toNat, 0]
@[reducible] def k0_t2_loop (i : grid0.Coords) : Scf.Loop 32 :=
  let c1_i32_80 : BitVec 32 := 1#32
  let arg2 : BitVec 32 := BitVec.ofNat 32 (i 2).val
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let v208 : BitVec 32 := Scalar.addi c1_i32_80 v207
  let c1_i32_84 : BitVec 32 := 1#32
  ⟨v211, v208, c1_i32_84⟩
def k0_mult7 (i : grid0.Coords) (k0_t2 : Fin (k0_t2_loop i).trips) : BitVec 32 :=
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  v219
def k0_off12 (i : grid0.Coords) (k0_t2 : Fin (k0_t2_loop i).trips) : Fin 2 → Nat :=
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v221 : Index := Scalar.indexCast v220
  let c0_90 : Index := 0#32
  ![v221.toNat, 0]
def k0_off13 (i : grid0.Coords) (k0_t2 : Fin (k0_t2_loop i).trips) : Fin 3 → Nat :=
  let c0_91 : Index := 0#32
  let c0_92 : Index := 0#32
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v224 : Index := Scalar.indexCast v220
  ![0, 0, v224.toNat]
def k0_off14 (i : grid0.Coords) (k0_t2 : Fin (k0_t2_loop i).trips) : Fin 3 → Nat :=
  let c1_94 : Index := 1#32
  let c0_95 : Index := 0#32
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v215 : BitVec 32 := Scalar.subi arg2 arg12
  let c1_i32_85 : BitVec 32 := 1#32
  let v216 : BitVec 32 := Scalar.subi v215 c1_i32_85
  let c0_i32_86 : BitVec 32 := 0#32
  let v217 : BitVec 32 := Scalar.maxsi v216 c0_i32_86
  let c512_i32_89 : BitVec 32 := 512#32
  let v219 : BitVec 32 := Scalar.muli v217 c512_i32_89
  let v220 : BitVec 32 := v219
  let v231 : Index := Scalar.indexCast v220
  ![1, 0, v231.toNat]
def k0_mult8 (i : grid0.Coords) (k0_t2 : Fin (k0_t2_loop i).trips) : BitVec 32 :=
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v214 : BitVec 32 := Scalar.subi arg2 arg12
  let c512_i32_100 : BitVec 32 := 512#32
  let v246 : BitVec 32 := Scalar.muli v214 c512_i32_100
  v246
def k0_off15 (i : grid0.Coords) (k0_t2 : Fin (k0_t2_loop i).trips) : Fin 2 → Nat :=
  let arg2 : BitVec 32 := BitVec.ofNat 32 (i 2).val
  let c1_i32_80 : BitVec 32 := 1#32
  let c1_i32_79 : BitVec 32 := 1#32
  let v206 : BitVec 32 := Scalar.addi arg2 c1_i32_79
  let v207 : BitVec 32 := Scalar.subi v206 c1_i32_80
  let c1_i32_82 : BitVec 32 := 1#32
  let v209 : BitVec 32 := Scalar.divsi v207 c1_i32_82
  let v210 : BitVec 32 := Scalar.muli v209 c1_i32_82
  let v211 : BitVec 32 := Scalar.addi c1_i32_80 v210
  let c1_i32_84 : BitVec 32 := 1#32
  let arg12 : BitVec 32 := Scf.iv v211 c1_i32_84 k0_t2
  let v214 : BitVec 32 := Scalar.subi arg2 arg12
  let c512_i32_100 : BitVec 32 := 512#32
  let v246 : BitVec 32 := Scalar.muli v214 c512_i32_100
  let v247 : BitVec 32 := v246
  let v248 : Index := Scalar.indexCast v247
  let c0_101 : Index := 0#32
  ![v248.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel11Ideal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== Reference11Ideal.lean ====
abbrev S2x8192x3072 : Shape := ⟨3, ![2, 8192, 3072]⟩
abbrev S2x8x8192 : Shape := ⟨3, ![2, 8, 8192]⟩
abbrev S2x8192x512 : Shape := ⟨3, ![2, 8192, 512]⟩
abbrev S2x8192x8x64 : Shape := ⟨4, ![2, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S2x8x64x8192 : Shape := ⟨4, ![2, 8, 64, 8192]⟩
abbrev S16384x512 : Shape := ⟨2, ![16384, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S2x8x8192, .f32⟩
  | .hbm, ⟨2, _⟩ => ⟨S2x8192x512, .f32⟩
  | .hbm, ⟨3, _⟩ => ⟨S2x8192x8x64, .f32⟩
  | .hbm, ⟨4, _⟩ => ⟨S2x8192x512, .f32⟩
  | .hbm, ⟨5, _⟩ => ⟨S2x8192x8x64, .f32⟩
  | .hbm, ⟨6, _⟩ => ⟨S2x8192x512, .f32⟩
  | .hbm, ⟨7, _⟩ => ⟨S2x8192x8x64, .f32⟩
  | .hbm, ⟨8, _⟩ => ⟨S8192, .i32⟩
  | .hbm, ⟨9, _⟩ => ⟨S1x8192, .i32⟩
  | .hbm, ⟨10, _⟩ => ⟨S8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S2x8x8192x8192, .f32⟩
  | .hbm, ⟨16, _⟩ => ⟨S_, .f32⟩
  | .hbm, ⟨17, _⟩ => ⟨S2x8x8192x8192, .f32⟩
  | .hbm, ⟨18, _⟩ => ⟨S2x8x8192x8192, .f32⟩
  | .hbm, ⟨19, _⟩ => ⟨S2x8x8192x1, .f32⟩
  | .hbm, ⟨20, _⟩ => ⟨S2x8x8192x8192, .f32⟩
  | .hbm, ⟨21, _⟩ => ⟨S2x8x8192x8192, .f32⟩
  | .hbm, ⟨22, _⟩ => ⟨S2x8x1x8192, .f32⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S_, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S_, .f32⟩
  | .hbm, ⟨33, _⟩ => ⟨S2x8x8192, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S2x8x8192, .f32⟩
  | .hbm, ⟨41, _⟩ => ⟨S2x8x8192x1, .f32⟩
  | .hbm, ⟨42, _⟩ => ⟨S2x8x8192x8192, .f32⟩
  | .hbm, ⟨43, _⟩ => ⟨S2x8x8192x8192, .f32⟩
  | .hbm, ⟨44, _⟩ => ⟨S2x8x64x8192, .f32⟩
  | .hbm, ⟨45, _⟩ => ⟨S2x8192x8x64, .f32⟩
  | .hbm, ⟨46, _⟩ => ⟨S16384x512, .f32⟩
  | .hbm, ⟨47, _⟩ => ⟨S16384x512, .bf16⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel12.lean ====
abbrev S16384x1408 : Shape := ⟨2, ![16384, 1408]⟩
abbrev S2x8192 : Shape := ⟨2, ![2, 8192]⟩
abbrev S16384x1 : Shape := ⟨2, ![16384, 1]⟩
abbrev S32 : Shape := ⟨1, ![32]⟩
abbrev S_ : Shape := ⟨0, ![]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S8 : Shape := ⟨1, ![8]⟩
abbrev S1x8 : Shape := ⟨2, ![1, 8]⟩
abbrev S16384x8 : Shape := ⟨2, ![16384, 8]⟩
abbrev S16384x48 : Shape := ⟨2, ![16384, 48]⟩
abbrev S16384x256 : Shape := ⟨2, ![16384, 256]⟩
abbrev S512x256 : Shape := ⟨2, ![512, 256]⟩
abbrev S512x128 : Shape := ⟨2, ![512, 128]⟩
abbrev S1x128 : Shape := ⟨2, ![1, 128]⟩

abbrev nBuf : Space → Nat
  | .hbm => 50
  | .vmem => 16
  | .smem => 0
  | _ => 0

abbrev bufTy : (tb : Table) → Fin (tcTables nBuf tb) → BufTy
  | .hbm, ⟨0, _⟩ => ⟨S16384x1408, .f32⟩
  | .hbm, ⟨1, _⟩ => ⟨S2x8192, .i32⟩
  | .hbm, ⟨2, _⟩ => ⟨S2x8192, .f32⟩
  | .hbm, ⟨3, _⟩ => ⟨S16384x1, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S1x32, .f32⟩
  | .hbm, ⟨13, _⟩ => ⟨S16384x32, .f32⟩
  | .hbm, ⟨14, _⟩ => ⟨S16384x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S_, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x128, .f32⟩
  | .hbm, ⟨23, _⟩ => ⟨S16384x32, .f32⟩
  | .hbm, ⟨24, _⟩ => ⟨S16384x128, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S1x8, .f32⟩
  | .hbm, ⟨34, _⟩ => ⟨S16384x8, .f32⟩
  | .hbm, ⟨35, _⟩ => ⟨S16384x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S_, .f32⟩
  | .hbm, ⟨40, _⟩ => ⟨S16384x48, .f32⟩
  | .hbm, ⟨41, _⟩ => ⟨S16384x64, .f32⟩
  | .hbm, ⟨42, _⟩ => ⟨S16384x8, .f32⟩
  | .hbm, ⟨43, _⟩ => ⟨S_, .f32⟩
  | .hbm, ⟨44, _⟩ => ⟨S16384x48, .f32⟩
  | .hbm, ⟨45, _⟩ => ⟨S16384x64, .f32⟩
  | .hbm, ⟨46, _⟩ => ⟨S16384x128, .f32⟩
  | .hbm, ⟨47, _⟩ => ⟨S16384x128, .f32⟩
  | .hbm, ⟨48, _⟩ => ⟨S16384x256, .bf16⟩
  | .hbm, ⟨49, _⟩ => ⟨S16384x128, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | _, _ => ⟨S16384x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S16384x1408 : Shape := ⟨2, ![16384, 1408]⟩
abbrev S2x8192 : Shape := ⟨2, ![2, 8192]⟩
abbrev S2x8192x1408 : Shape := ⟨3, ![2, 8192, 1408]⟩
abbrev S2x8192x256 : Shape := ⟨3, ![2, 8192, 256]⟩
abbrev S2x8192x1 : Shape := ⟨3, ![2, 8192, 1]⟩
abbrev S32 : Shape := ⟨1, ![32]⟩
abbrev S_ : Shape := ⟨0, ![]⟩
abbrev S1x1x32 : Shape := ⟨3, ![1, 1, 32]⟩
abbrev S2x8192x32 : Shape := ⟨3, ![2, 8192, 32]⟩
abbrev S2x8192x192 : Shape := ⟨3, ![2, 8192, 192]⟩
abbrev S2x8192x64 : Shape := ⟨3, ![2, 8192, 64]⟩
abbrev S8 : Shape := ⟨1, ![8]⟩
abbrev S1x1x8 : Shape := ⟨3, ![1, 1, 8]⟩
abbrev S2x8192x8 : Shape := ⟨3, ![2, 8192, 8]⟩
abbrev S2x8192x48 : Shape := ⟨3, ![2, 8192, 48]⟩
abbrev S16384x256 : Shape := ⟨2, ![16384, 256]⟩
abbrev S2x8192x128 : Shape := ⟨3, ![2, 8192, 128]⟩
abbrev S16384x128 : Shape := ⟨2, ![16384, 128]⟩

abbrev nBuf : Space → Nat
  | .hbm => 66
  | .vmem => 0
  | .smem => 0
  | _ => 0

abbrev bufTy : (tb : Table) → Fin (tcTables nBuf tb) → BufTy
  | .hbm, ⟨0, _⟩ => ⟨S16384x1408, .f32⟩
  | .hbm, ⟨1, _⟩ => ⟨S2x8192, .i32⟩
  | .hbm, ⟨2, _⟩ => ⟨S2x8192x1408, .f32⟩
  | .hbm, ⟨3, _⟩ => ⟨S2x8192x256, .f32⟩
  | .hbm, ⟨4, _⟩ => ⟨S2x8192, .f32⟩
  | .hbm, ⟨5, _⟩ => ⟨S2x8192x1, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S1x1x32, .f32⟩
  | .hbm, ⟨15, _⟩ => ⟨S2x8192x32, .f32⟩
  | .hbm, ⟨16, _⟩ => ⟨S2x8192x32, .f32⟩
  | .hbm, ⟨17, _⟩ => ⟨S2x8192x32, .f32⟩
  | .hbm, ⟨18, _⟩ => ⟨S2x8192x32, .f32⟩
  | .hbm, ⟨19, _⟩ => ⟨S2x8192x32, .f32⟩
  | .hbm, ⟨20, _⟩ => ⟨S2x8192x32, .f32⟩
  | .hbm, ⟨21, _⟩ => ⟨S2x8192x32, .f32⟩
  | .hbm, ⟨22, _⟩ => ⟨S2x8192x32, .f32⟩
  | .hbm, ⟨23, _⟩ => ⟨S2x8192x32, .f32⟩
  | .hbm, ⟨24, _⟩ => ⟨S2x8192x32, .f32⟩
  | .hbm, ⟨25, _⟩ => ⟨S2x8192x32, .f32⟩
  | .hbm, ⟨26, _⟩ => ⟨S2x8192x32, .f32⟩
  | .hbm, ⟨27, _⟩ => ⟨S2x8192x32, .f32⟩
  | .hbm, ⟨28, _⟩ => ⟨S2x8192x32, .f32⟩
  | .hbm, ⟨29, _⟩ => ⟨S2x8192x32, .f32⟩
  | .hbm, ⟨30, _⟩ => ⟨S2x8192x192, .f32⟩
  | .hbm, ⟨31, _⟩ => ⟨S2x8192x256, .f32⟩
  | .hbm, ⟨32, _⟩ => ⟨S2x8192x64, .f32⟩
  | .hbm, ⟨33, _⟩ => ⟨S2x8192, .f32⟩
  | .hbm, ⟨34, _⟩ => ⟨S2x8192x1, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S1x1x8, .f32⟩
  | .hbm, ⟨44, _⟩ => ⟨S2x8192x8, .f32⟩
  | .hbm, ⟨45, _⟩ => ⟨S2x8192x8, .f32⟩
  | .hbm, ⟨46, _⟩ => ⟨S2x8192x8, .f32⟩
  | .hbm, ⟨47, _⟩ => ⟨S2x8192x8, .f32⟩
  | .hbm, ⟨48, _⟩ => ⟨S2x8192x8, .f32⟩
  | .hbm, ⟨49, _⟩ => ⟨S2x8192x8, .f32⟩
  | .hbm, ⟨50, _⟩ => ⟨S2x8192x8, .f32⟩
  | .hbm, ⟨51, _⟩ => ⟨S2x8192x8, .f32⟩
  | .hbm, ⟨52, _⟩ => ⟨S2x8192x8, .f32⟩
  | .hbm, ⟨53, _⟩ => ⟨S2x8192x8, .f32⟩
  | .hbm, ⟨54, _⟩ => ⟨S2x8192x8, .f32⟩
  | .hbm, ⟨55, _⟩ => ⟨S2x8192x8, .f32⟩
  | .hbm, ⟨56, _⟩ => ⟨S2x8192x8, .f32⟩
  | .hbm, ⟨57, _⟩ => ⟨S2x8192x8, .f32⟩
  | .hbm, ⟨58, _⟩ => ⟨S2x8192x8, .f32⟩
  | .hbm, ⟨59, _⟩ => ⟨S2x8192x48, .f32⟩
  | .hbm, ⟨60, _⟩ => ⟨S2x8192x64, .f32⟩
  | .hbm, ⟨61, _⟩ => ⟨S16384x256, .f32⟩
  | .hbm, ⟨62, _⟩ => ⟨S16384x256, .bf16⟩
  | .hbm, ⟨63, _⟩ => ⟨S2x8192x128, .f32⟩
  | .hbm, ⟨64, _⟩ => ⟨S16384x128, .f32⟩
  | .hbm, ⟨65, _⟩ => ⟨S16384x128, .bf16⟩
  | _, _ => ⟨S16384x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩

abbrev nD : Nat := 1
abbrev τ : Topo := Topo.v7x

variable {F : FTy → Type} [FloatOps F]
-- ==== Kernel13.lean ====
abbrev S16384x128 : Shape := ⟨2, ![16384, 128]⟩
abbrev S8 : Shape := ⟨1, ![8]⟩
abbrev S16384x8 : Shape := ⟨2, ![16384, 8]⟩
abbrev S2x8192x8 : Shape := ⟨3, ![2, 8192, 8]⟩
abbrev S2x8x8192 : Shape := ⟨3, ![2, 8, 8192]⟩
abbrev S1024x128 : Shape := ⟨2, ![1024, 128]⟩
abbrev S1x8 : Shape := ⟨2, ![1, 8]⟩
abbrev S2x8 : Shape := ⟨2, ![2, 8]⟩
abbrev S16 : Shape := ⟨1, ![16]⟩
abbrev S16x1x1 : Shape := ⟨3, ![16, 1, 1]⟩
abbrev S16x64x128 : Shape := ⟨3, ![16, 64, 128]⟩
abbrev S128x128 : Shape := ⟨2, ![128, 128]⟩
abbrev S1024x1 : Shape := ⟨2, ![1024, 1]⟩
abbrev S1024x1024 : Shape := ⟨2, ![1024, 1024]⟩

abbrev nBuf : Space → Nat
  | .hbm => 13
  | .vmem => 3
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S16384x8, .f32⟩
  | .hbm, ⟨3, _⟩ => ⟨S2x8192x8, .f32⟩
  | .hbm, ⟨4, _⟩ => ⟨S2x8x8192, .f32⟩
  | .hbm, ⟨5, _⟩ => ⟨S1024x128, .f32⟩
  | .hbm, ⟨6, _⟩ => ⟨S1x8, .f32⟩
  | .hbm, ⟨7, _⟩ => ⟨S2x8, .f32⟩
  | .hbm, ⟨8, _⟩ => ⟨S16, .f32⟩
  | .hbm, ⟨9, _⟩ => ⟨S16x1x1, .f32⟩
  | .hbm, ⟨10, _⟩ => ⟨S16x64x128, .f32⟩
  | .hbm, ⟨11, _⟩ => ⟨S1024x128, .f32⟩
  | .hbm, ⟨12, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference13Ideal.lean ====
abbrev S16384x128 : Shape := ⟨2, ![16384, 128]⟩
abbrev S8 : Shape := ⟨1, ![8]⟩
abbrev S16384x8 : Shape := ⟨2, ![16384, 8]⟩
abbrev S2x8192x8 : Shape := ⟨3, ![2, 8192, 8]⟩
abbrev S1x1x8 : Shape := ⟨3, ![1, 1, 8]⟩
abbrev S_ : Shape := ⟨0, ![]⟩
abbrev S2x8x8192 : Shape := ⟨3, ![2, 8, 8192]⟩
abbrev S1024x128 : Shape := ⟨2, ![1024, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S16384x8, .f32⟩
  | .hbm, ⟨3, _⟩ => ⟨S2x8192x8, .f32⟩
  | .hbm, ⟨4, _⟩ => ⟨S1x1x8, .f32⟩
  | .hbm, ⟨5, _⟩ => ⟨S2x8192x8, .f32⟩
  | .hbm, ⟨6, _⟩ => ⟨S2x8192x8, .f32⟩
  | .hbm, ⟨7, _⟩ => ⟨S2x8192x8, .f32⟩
  | .hbm, ⟨8, _⟩ => ⟨S_, .f32⟩
  | .hbm, ⟨9, _⟩ => ⟨S2x8192x8, .f32⟩
  | .hbm, ⟨10, _⟩ => ⟨S2x8192x8, .f32⟩
  | .hbm, ⟨11, _⟩ => ⟨S2x8192x8, .f32⟩
  | .hbm, ⟨12, _⟩ => ⟨S2x8192x8, .f32⟩
  | .hbm, ⟨13, _⟩ => ⟨S2x8192x8, .i1⟩
  | .hbm, ⟨14, _⟩ => ⟨S2x8192x8, .f32⟩
  | .hbm, ⟨15, _⟩ => ⟨S2x8192x8, .f32⟩
  | .hbm, ⟨16, _⟩ => ⟨S2x8192x8, .f32⟩
  | .hbm, ⟨17, _⟩ => ⟨S2x8192x8, .f32⟩
  | .hbm, ⟨18, _⟩ => ⟨S2x8192x8, .f32⟩
  | .hbm, ⟨19, _⟩ => ⟨S2x8192x8, .f32⟩
  | .hbm, ⟨20, _⟩ => ⟨S2x8192x8, .f32⟩
  | .hbm, ⟨21, _⟩ => ⟨S2x8192x8, .f32⟩
  | .hbm, ⟨22, _⟩ => ⟨S2x8192x8, .f32⟩
  | .hbm, ⟨23, _⟩ => ⟨S_, .f32⟩
  | .hbm, ⟨24, _⟩ => ⟨S_, .f32⟩
  | .hbm, ⟨25, _⟩ => ⟨S2x8192x8, .f32⟩
  | .hbm, ⟨26, _⟩ => ⟨S2x8x8192, .f32⟩
  | .hbm, ⟨27, _⟩ => ⟨S1024x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Proof.Safe.lean ====
/-
  Programs that only read and write buffers held whole.

  `Safe c R p` says that from the resource `R` the program `p` runs to its return and hands `R` back, whatever it
  returns. A resource of this kind names no contents of the buffers that are written, so it is the invariant of every
  counted loop at once. The lemmas below are one for each way a kernel's text is put together.
-/
module

public import Idealize.ShloMosaic.Lib.Tactic
public import Idealize.ShloMosaic.Lib.Pipeline.Kit

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

/-- From `R` the program runs to its return and gives `R` back. -/
def Safe (defs : Defs nD τ sig Val Λ) (c : Dev nD) (R : sProp 𝕄) {α : Type} (p : Prog (TpuEff nD τ sig Val Λ .tc) α) : Prop :=
  R ⊢ wp frame (wpE defs Variants.none (c : Thread nD τ) none) Set.univ p (fun _ => R)

/-- `R` lends the memref's elements for reading. -/
def Rd (c : Dev nD) (R : sProp 𝕄) {cs : CoreSpace} {s : Shape} {e : EltTy} (m : Memref sig .tc cs s e) : Prop :=
  R ⊢ iprop(∃ q f, (m.view.loc (c : Thread nD τ) ↦[m.view.set]{q} f) ∗ ((m.view.loc (c : Thread nD τ) ↦[m.view.set]{q} f) -∗ R))

/-- `R` lends the memref's elements for writing, and takes them back at any contents. -/
def Wr (c : Dev nD) (R : sProp 𝕄) {cs : CoreSpace} {s : Shape} {e : EltTy} (m : Memref sig .tc cs s e) : Prop :=
  R ⊢ iprop(∃ f, (m.view.loc (c : Thread nD τ) ↦[m.view.set]{fullShare} f) ∗ (∀ f', (m.view.loc (c : Thread nD τ) ↦[m.view.set]{fullShare} f') -∗ R))

variable {defs : Defs nD τ sig Val Λ}
variable {c : Dev nD}
variable {α β : Type}
variable {R : sProp (MT nD τ sig Unit Val ℕ (UR sig nD τ) ℕ)}

/-- What may be written may be read. -/
theorem Wr.rd {cs : CoreSpace} {s : Shape} {e : EltTy} {m : Memref sig .tc cs s e} (h : Wr c R m) : Rd c R m := by
  refine BIBase.Entails.trans h ?_
  iintro ⟨%f, H, Hb⟩
  iexists fullShare, f
  iframe H
  iintro H
  iapply Hb $$ %f H

theorem Safe.ret (a : α) : Safe defs c R (.ret a : Prog (TpuEff nD τ sig Val Λ .tc) α) := by
  unfold Safe
  rw [wp_ret]
  iintro H
  imodintro
  iexact H

theorem Safe.pure (a : α) : Safe defs c R (Pure.pure a : Prog (TpuEff nD τ sig Val Λ .tc) α) := Safe.ret a

theorem Safe.bind {p : Prog (TpuEff nD τ sig Val Λ .tc) α} {k : α → Prog (TpuEff nD τ sig Val Λ .tc) β}
    (hp : Safe defs c R p) (hk : ∀ a, Safe defs c R (k a)) : Safe defs c R (p >>= k) := by
  unfold Safe at *
  rw [wp_bind]
  exact hp.trans (wp_mono _ _ _ fun a => hk a)

theorem Safe.load {cs : CoreSpace} {s : Shape} {e : EltTy} {m : Memref sig .tc cs s e} {r : LoadRect s} {hl : m.view.LoadsAt r}
    (h : Rd c R m) : Safe defs c R (Prog.lift (.load m r hl)) := by
  unfold Safe
  refine BIBase.Entails.trans h ?_
  iintro ⟨%q, %f, H, Hb⟩
  iapply (wp_load Variants.none (c : Thread nD τ) none Set.univ (View.setOn_subset_set _ _)) $$ H
  iintro H
  rw [wp_ret]
  imodintro
  iapply Hb $$ H

theorem Safe.store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Wr c R m) : Safe defs c R (Prog.lift (.store m r w Mk hx hm)) := by
  unfold Safe
  refine BIBase.Entails.trans h ?_
  iintro ⟨%f, H, Hb⟩
  have hw := wp_store (defs := defs) (Γ := .empty) Variants.none (c : Thread nD τ) none Set.univ (m := m) (r := r) (w := w) (Mk := Mk) (hx := hx) (hm := hm)
    (k := .ret) (Q := fun _ => R) (S := m.view.set) (f := f)
    ((View.setOn_subset_set _ _).trans (View.set_slice_subset _ _))
  iapply hw $$ H
  iintro H
  rw [wp_ret]
  imodintro
  iapply Hb $$ H

theorem Safe.assume {P : Prop} {d : Decidable P} (h : P) :
    Safe defs c R (Prog.lift (TpuEff.assume P d) : Prog (TpuEff nD τ sig Val Λ .tc) (PLift P)) := by
  unfold Safe
  iintro H
  iapply (wp_assume Variants.none (c : Thread nD τ) none Set.univ h)
  rw [wp_ret]
  imodintro
  iexact H

theorem Safe.loop {l : Scf.Loop 32} {hok : l.OK} {σ : Type} {init : σ} {body : Fin l.trips → σ → Prog (TpuEff nD τ sig Val Λ .tc) σ}
    (h : ∀ k acc, Safe defs c R (body k acc)) : Safe defs c R (Scf.Loop.for l hok init body) := by
  unfold Safe
  have hf := Scf.wp_for frame (wpE defs Variants.none (c : Thread nD τ) none) Set.univ l.lb l.ub l.st hok init body
    (fun _ _ => R) (fun k acc => h k acc) (Q := fun _ => R)
  refine BIBase.Entails.trans ?_ hf
  iintro H
  isplitl [H]
  · iexact H
  iintro %acc H
  iexact H

theorem Safe.ite {P : Prop} [Decidable P] {p q : Prog (TpuEff nD τ sig Val Λ .tc) α}
    (hp : Safe defs c R p) (hq : Safe defs c R q) : Safe defs c R (if P then p else q) := by
  split
  · exact hp
  · exact hq

end Cert.Proof

end
-- ==== Proof.DsaBufs.lean ====
/-
  The buffers the kernel body is run on, all at once: what each of its parts is shown to need of the resource it runs from.
-/
module

public import proofs.«01_k».proof.Proof.Gen.Kernel
public import proofs.«01_k».proof.Proof.Safe

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : sProp (MT nD τ sig Unit (Elt F) ℕ (UR sig nD τ) ℕ)}
variable {i : grid0.Coords}
variable {arg2 : Memref sig .tc .vmem S128x4096 .bf16}
variable {harg2 : arg2.IsWhole}
variable {arg3 : Memref sig .tc .vmem S128x1024 .f32}
variable {harg3 : arg3.IsWhole}
variable {arg4 : Memref sig .tc .vmem S128x128 .f32}
variable {harg4 : arg4.IsWhole}
variable {arg5 : Memref sig .tc .vmem S128x128 .f32}
variable {harg5 : arg5.IsWhole}
variable {arg6 : Memref sig .tc .vmem S128x128 .f32}
variable {harg6 : arg6.IsWhole}
variable {arg7 : Memref sig .tc .vmem S128x128 .f32}
variable {harg7 : arg7.IsWhole}
variable {arg8 : Memref sig .tc .vmem S128x128 .f32}
variable {harg8 : arg8.IsWhole}
variable {arg9 : Memref sig .tc .vmem S8192x256 .bf16}
variable {harg9 : arg9.IsWhole}
variable {arg10 : Memref sig .tc .vmem S8192x128 .bf16}
variable {harg10 : arg10.IsWhole}
variable {arg11 : Memref sig .tc .vmem S8x512x128 .bf16}
variable {harg11 : arg11.IsWhole}
variable {arg12 : Memref sig .tc .vmem S128x1024 .bf16}
variable {harg12 : arg12.IsWhole}
variable {arg13 : Memref sig .tc .vmem S128x8192 .f32}
variable {harg13 : arg13.IsWhole}
variable {arg14 : Memref sig .tc .vmem S2048x256 .bf16}
variable {harg14 : arg14.IsWhole}
variable {arg15 : Memref sig .tc .vmem S2048x128 .bf16}
variable {harg15 : arg15.IsWhole}
variable {arg16 : Memref sig .tc .vmem S2048x128 .f32}
variable {harg16 : arg16.IsWhole}
variable {arg17 : Memref sig .tc .vmem S2048x128 .f32}
variable {harg17 : arg17.IsWhole}
variable {arg18 : Memref sig .tc .vmem S2048x256 .f32}
variable {harg18 : arg18.IsWhole}
variable {arg19 : Memref sig .tc .vmem S2048x512 .f32}
variable {harg19 : arg19.IsWhole}

/-- The resource lends the ten input windows for reading, the output window and the seven scratch buffers for writing. -/
structure Bufs (c : Dev nD) (R : sProp (MT nD τ sig Unit (Elt F) ℕ (UR sig nD τ) ℕ)) (arg2 : Memref sig .tc .vmem S128x4096 .bf16) (arg3 : Memref sig .tc .vmem S128x1024 .f32) (arg4 : Memref sig .tc .vmem S128x128 .f32) (arg5 : Memref sig .tc .vmem S128x128 .f32) (arg6 : Memref sig .tc .vmem S128x128 .f32) (arg7 : Memref sig .tc .vmem S128x128 .f32) (arg8 : Memref sig .tc .vmem S128x128 .f32) (arg9 : Memref sig .tc .vmem S8192x256 .bf16) (arg10 : Memref sig .tc .vmem S8192x128 .bf16) (arg11 : Memref sig .tc .vmem S8x512x128 .bf16) (arg12 : Memref sig .tc .vmem S128x1024 .bf16) (arg13 : Memref sig .tc .vmem S128x8192 .f32) (arg14 : Memref sig .tc .vmem S2048x256 .bf16) (arg15 : Memref sig .tc .vmem S2048x128 .bf16) (arg16 : Memref sig .tc .vmem S2048x128 .f32) (arg17 : Memref sig .tc .vmem S2048x128 .f32) (arg18 : Memref sig .tc .vmem S2048x256 .f32) (arg19 : Memref sig .tc .vmem S2048x512 .f32) : Prop where
  r2 : Rd c R arg2
  r3 : Rd c R arg3
  r4 : Rd c R arg4
  r5 : Rd c R arg5
  r6 : Rd c R arg6
  r7 : Rd c R arg7
  r8 : Rd c R arg8
  r9 : Rd c R arg9
  r10 : Rd c R arg10
  r11 : Rd c R arg11
  w12 : Wr c R arg12
  w13 : Wr c R arg13
  w14 : Wr c R arg14
  w15 : Wr c R arg15
  w16 : Wr c R arg16
  w17 : Wr c R arg17
  w18 : Wr c R arg18
  w19 : Wr c R arg19

end Cert.Proof.Kernel

end
-- ==== Proof.DsaPartsA.lean ====
/-
  The body's parts without a loop of their own, from the rotation of the query heads to the mask's first words: each runs from the buffers and hands them back.
-/
module

public import proofs.«01_k».proof.Proof.Gen.Kernel
public import proofs.«01_k».proof.Proof.DsaBufs

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : sProp (MT nD τ sig Unit (Elt F) ℕ (UR sig nD τ) ℕ)}
variable {i : grid0.Coords}
variable {arg2 : Memref sig .tc .vmem S128x4096 .bf16}
variable {harg2 : arg2.IsWhole}
variable {arg3 : Memref sig .tc .vmem S128x1024 .f32}
variable {harg3 : arg3.IsWhole}
variable {arg4 : Memref sig .tc .vmem S128x128 .f32}
variable {harg4 : arg4.IsWhole}
variable {arg5 : Memref sig .tc .vmem S128x128 .f32}
variable {harg5 : arg5.IsWhole}
variable {arg6 : Memref sig .tc .vmem S128x128 .f32}
variable {harg6 : arg6.IsWhole}
variable {arg7 : Memref sig .tc .vmem S128x128 .f32}
variable {harg7 : arg7.IsWhole}
variable {arg8 : Memref sig .tc .vmem S128x128 .f32}
variable {harg8 : arg8.IsWhole}
variable {arg9 : Memref sig .tc .vmem S8192x256 .bf16}
variable {harg9 : arg9.IsWhole}
variable {arg10 : Memref sig .tc .vmem S8192x128 .bf16}
variable {harg10 : arg10.IsWhole}
variable {arg11 : Memref sig .tc .vmem S8x512x128 .bf16}
variable {harg11 : arg11.IsWhole}
variable {arg12 : Memref sig .tc .vmem S128x1024 .bf16}
variable {harg12 : arg12.IsWhole}
variable {arg13 : Memref sig .tc .vmem S128x8192 .f32}
variable {harg13 : arg13.IsWhole}
variable {arg14 : Memref sig .tc .vmem S2048x256 .bf16}
variable {harg14 : arg14.IsWhole}
variable {arg15 : Memref sig .tc .vmem S2048x128 .bf16}
variable {harg15 : arg15.IsWhole}
variable {arg16 : Memref sig .tc .vmem S2048x128 .f32}
variable {harg16 : arg16.IsWhole}
variable {arg17 : Memref sig .tc .vmem S2048x128 .f32}
variable {harg17 : arg17.IsWhole}
variable {arg18 : Memref sig .tc .vmem S2048x256 .f32}
variable {harg18 : arg18.IsWhole}
variable {arg19 : Memref sig .tc .vmem S2048x512 .f32}
variable {harg19 : arg19.IsWhole}

theorem part1 (hB : Bufs c R arg2 arg3 arg4 arg5 arg6 arg7 arg8 arg9 arg10 arg11 arg12 arg13 arg14 arg15 arg16 arg17 arg18 arg19) (c0_i32_344 : BitVec 32) (c1_i32_347 : BitVec 32) (k0_t1 : Fin (k0_t1_loop i).trips) :
    Safe (defs₀ (F := F)) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_344 c1_i32_347 k0_t1) := by
  unfold k0_part1
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part2 (hB : Bufs c R arg2 arg3 arg4 arg5 arg6 arg7 arg8 arg9 arg10 arg11 arg12 arg13 arg14 arg15 arg16 arg17 arg18 arg19) (v834 : BitVec 32) (c1_i32_348 : BitVec 32) (k0_t2 : Fin (k0_t2_loop i).trips) :
    Safe (defs₀ (F := F)) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v834 c1_i32_348 k0_t2) := by
  unfold k0_part2
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part3 (hB : Bufs c R arg2 arg3 arg4 arg5 arg6 arg7 arg8 arg9 arg10 arg11 arg12 arg13 arg14 arg15 arg16 arg17 arg18 arg19) (v948 : IVec S1x256 32) (c0_i32_424 : BitVec 32) (c1_i32_427 : BitVec 32) (k0_t20 : Fin (k0_t20_loop i).trips) :
    Safe (defs₀ (F := F)) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v948 c0_i32_424 c1_i32_427 k0_t20) := by
  unfold k0_part3
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part4 (hB : Bufs c R arg2 arg3 arg4 arg5 arg6 arg7 arg8 arg9 arg10 arg11 arg12 arg13 arg14 arg15 arg16 arg17 arg18 arg19) (v1275 : FVec F S512x256 .bf16) (v1278 : FVec F S512x512 .f32) (v1283 : Vec F S512x256 .bf16) (v1295 : FVec F S512x128 .f32) (v1298 : FVec F S512x512 .f32) (v1303 : FVec F S512x256 .f32) :
    Safe (defs₀ (F := F)) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1275 v1278 v1283 v1295 v1298 v1303) := by
  unfold k0_part4
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part5 (hB : Bufs c R arg2 arg3 arg4 arg5 arg6 arg7 arg8 arg9 arg10 arg11 arg12 arg13 arg14 arg15 arg16 arg17 arg18 arg19) (v1275 : FVec F S512x256 .bf16) (v1278 : FVec F S512x512 .f32) (v1283 : Vec F S512x256 .bf16) (v1324 : FVec F S512x128 .f32) :
    Safe (defs₀ (F := F)) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1275 v1278 v1283 v1324) := by
  unfold k0_part5
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part6 (hB : Bufs c R arg2 arg3 arg4 arg5 arg6 arg7 arg8 arg9 arg10 arg11 arg12 arg13 arg14 arg15 arg16 arg17 arg18 arg19) (v948 : IVec S1x256 32) (v977 : BitVec 32) (c1_i32_428 : BitVec 32) (k0_t21 : Fin (k0_t21_loop i).trips) :
    Safe (defs₀ (F := F)) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v948 v977 c1_i32_428 k0_t21) := by
  unfold k0_part6
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part7 (hB : Bufs c R arg2 arg3 arg4 arg5 arg6 arg7 arg8 arg9 arg10 arg11 arg12 arg13 arg14 arg15 arg16 arg17 arg18 arg19) (v1275 : FVec F S512x256 .bf16) (v1278 : FVec F S512x512 .f32) (v1283 : Vec F S512x256 .bf16) (v1295 : FVec F S512x128 .f32) (v1298 : FVec F S512x512 .f32) (v1303 : FVec F S512x256 .f32) :
    Safe (defs₀ (F := F)) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1275 v1278 v1283 v1295 v1298 v1303) := by
  unfold k0_part7
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part8 (hB : Bufs c R arg2 arg3 arg4 arg5 arg6 arg7 arg8 arg9 arg10 arg11 arg12 arg13 arg14 arg15 arg16 arg17 arg18 arg19) (v1275 : FVec F S512x256 .bf16) (v1278 : FVec F S512x512 .f32) (v1283 : Vec F S512x256 .bf16) (v1324 : FVec F S512x128 .f32) :
    Safe (defs₀ (F := F)) c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1275 v1278 v1283 v1324) := by
  unfold k0_part8
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part9 (hB : Bufs c R arg2 arg3 arg4 arg5 arg6 arg7 arg8 arg9 arg10 arg11 arg12 arg13 arg14 arg15 arg16 arg17 arg18 arg19)  :
    Safe (defs₀ (F := F)) c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold k0_part9
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part10 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v30 : FVec F S128x128 .f32) (v32 : IVec S1x128 1) (v33 : FVec F S128x128 .f32) (c32_i32_15 : BitVec 32) :
    Safe (defs₀ (F := F)) c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v30 v32 v33 c32_i32_15) := by
  unfold k0_part10
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part11 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) :
    Safe (defs₀ (F := F)) c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2) := by
  unfold k0_part11
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part12 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v108 : FVec F S128x128 .f32) (v110 : IVec S1x128 1) :
    Safe (defs₀ (F := F)) c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v108 v110) := by
  unfold k0_part12
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part13 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v150 : FVec F S128x128 .bf16) :
    Safe (defs₀ (F := F)) c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v150) := by
  unfold k0_part13
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part14 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v186 : FVec F S128x128 .f32) :
    Safe (defs₀ (F := F)) c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v186) := by
  unfold k0_part14
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part15 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v225 : FVec F S128x128 .bf16) :
    Safe (defs₀ (F := F)) c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v225) := by
  unfold k0_part15
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part16 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) :
    Safe (defs₀ (F := F)) c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2) := by
  unfold k0_part16
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part17 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v302 : FVec F S128x128 .f32) :
    Safe (defs₀ (F := F)) c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v302) := by
  unfold k0_part17
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part18 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v337 : FVec F S128x128 .bf16) :
    Safe (defs₀ (F := F)) c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v337) := by
  unfold k0_part18
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part19 (hB : Bufs c R arg2 arg3 arg4 arg5 arg6 arg7 arg8 arg9 arg10 arg11 arg12 arg13 arg14 arg15 arg16 arg17 arg18 arg19) (v0 : IVec S1x128 32) (v1 : Vec F S128x128 .f32) (v2 : Vec F S128x128 .f32) (v378 : FVec F S128x128 .f32) :
    Safe (defs₀ (F := F)) c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v378) := by
  unfold k0_part19
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part20 (hB : Bufs c R arg2 arg3 arg4 arg5 arg6 arg7 arg8 arg9 arg10 arg11 arg12 arg13 arg14 arg15 arg16 arg17 arg18 arg19) (v0 : IVec S1x128 32) (v415 : FVec F S128x128 .bf16) :
    Safe (defs₀ (F := F)) c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v415) := by
  unfold k0_part20
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part21 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v434 : FVec F S128x128 .f32) :
    Safe (defs₀ (F := F)) c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v434) := by
  unfold k0_part21
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part22 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v483 : FVec F S128x128 .f32) (v492 : FVec F S128x128 .bf16) :
    Safe (defs₀ (F := F)) c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v483 v492) := by
  unfold k0_part22
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part23 (hB : Bufs c R arg2 arg3 arg4 arg5 arg6 arg7 arg8 arg9 arg10 arg11 arg12 arg13 arg14 arg15 arg16 arg17 arg18 arg19) (v0 : IVec S1x128 32) (v421 : Vec F S128x128 .f32) (v532 : FVec F S128x128 .f32) (c6_i32_223 : BitVec 32) :
    Safe (defs₀ (F := F)) c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v421 v532 c6_i32_223) := by
  unfold k0_part23
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part24 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v569 : Vec F S128x128 .f32) (v571 : IVec S1x128 32) (c8_i32_240 : BitVec 32) :
    Safe (defs₀ (F := F)) c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v569 v571 c8_i32_240) := by
  unfold k0_part24
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part25 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v614 : FVec F S128x128 .f32) :
    Safe (defs₀ (F := F)) c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v614) := by
  unfold k0_part25
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part26 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v630 : FVec F S128x128 .f32) (cst_272 : F .f32) (v653 : IVec S1x128 1) :
    Safe (defs₀ (F := F)) c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v630 cst_272 v653) := by
  unfold k0_part26
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part27 (hB : Bufs c R arg2 arg3 arg4 arg5 arg6 arg7 arg8 arg9 arg10 arg11 arg12 arg13 arg14 arg15 arg16 arg17 arg18 arg19) (v0 : IVec S1x128 32) (v419 : Vec F S128x128 .f32) (v420 : Vec F S128x128 .f32) (v421 : Vec F S128x128 .f32) (v679 : FVec F S128x128 .f32) (v694 : FVec F S128x128 .f32) :
    Safe (defs₀ (F := F)) c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v419 v420 v421 v679 v694) := by
  unfold k0_part27
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part28 (hB : Bufs c R arg2 arg3 arg4 arg5 arg6 arg7 arg8 arg9 arg10 arg11 arg12 arg13 arg14 arg15 arg16 arg17 arg18 arg19) (v0 : IVec S1x128 32) (v421 : Vec F S128x128 .f32) (v728 : FVec F S128x128 .f32) (cst_305 : F .f32) (v734 : IVec S128x128 1) :
    Safe (defs₀ (F := F)) c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v421 v728 cst_305 v734) := by
  unfold k0_part28
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part29 (hB : Bufs c R arg2 arg3 arg4 arg5 arg6 arg7 arg8 arg9 arg10 arg11 arg12 arg13 arg14 arg15 arg16 arg17 arg18 arg19) (arg1 : BitVec 32) (v0 : IVec S1x128 32) (v419 : Vec F S128x128 .f32) (v420 : Vec F S128x128 .f32) (v421 : Vec F S128x128 .f32) (v765 : Vec F S128x128 .f32) (v770 : FVec F S128x128 .f32) (v771 : FVec F S128x128 .f32) (v773 : IVec S128x128 1) :
    Safe (defs₀ (F := F)) c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v419 v420 v421 v765 v770 v771 v773) := by
  unfold k0_part29
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

end Cert.Proof.Kernel

end
-- ==== Proof.DsaPartsB.lean ====
/-
  The body's later parts: the score loop, the loops of the threshold search, the branch that settles ties, the attention loops and the output's heads.
-/
module

public import proofs.«01_k».proof.Proof.Gen.Kernel
public import proofs.«01_k».proof.Proof.DsaPartsA

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : sProp (MT nD τ sig Unit (Elt F) ℕ (UR sig nD τ) ℕ)}
variable {i : grid0.Coords}
variable {arg2 : Memref sig .tc .vmem S128x4096 .bf16}
variable {harg2 : arg2.IsWhole}
variable {arg3 : Memref sig .tc .vmem S128x1024 .f32}
variable {harg3 : arg3.IsWhole}
variable {arg4 : Memref sig .tc .vmem S128x128 .f32}
variable {harg4 : arg4.IsWhole}
variable {arg5 : Memref sig .tc .vmem S128x128 .f32}
variable {harg5 : arg5.IsWhole}
variable {arg6 : Memref sig .tc .vmem S128x128 .f32}
variable {harg6 : arg6.IsWhole}
variable {arg7 : Memref sig .tc .vmem S128x128 .f32}
variable {harg7 : arg7.IsWhole}
variable {arg8 : Memref sig .tc .vmem S128x128 .f32}
variable {harg8 : arg8.IsWhole}
variable {arg9 : Memref sig .tc .vmem S8192x256 .bf16}
variable {harg9 : arg9.IsWhole}
variable {arg10 : Memref sig .tc .vmem S8192x128 .bf16}
variable {harg10 : arg10.IsWhole}
variable {arg11 : Memref sig .tc .vmem S8x512x128 .bf16}
variable {harg11 : arg11.IsWhole}
variable {arg12 : Memref sig .tc .vmem S128x1024 .bf16}
variable {harg12 : arg12.IsWhole}
variable {arg13 : Memref sig .tc .vmem S128x8192 .f32}
variable {harg13 : arg13.IsWhole}
variable {arg14 : Memref sig .tc .vmem S2048x256 .bf16}
variable {harg14 : arg14.IsWhole}
variable {arg15 : Memref sig .tc .vmem S2048x128 .bf16}
variable {harg15 : arg15.IsWhole}
variable {arg16 : Memref sig .tc .vmem S2048x128 .f32}
variable {harg16 : arg16.IsWhole}
variable {arg17 : Memref sig .tc .vmem S2048x128 .f32}
variable {harg17 : arg17.IsWhole}
variable {arg18 : Memref sig .tc .vmem S2048x256 .f32}
variable {harg18 : arg18.IsWhole}
variable {arg19 : Memref sig .tc .vmem S2048x512 .f32}
variable {harg19 : arg19.IsWhole}

theorem part30 (hB : Bufs c R arg2 arg3 arg4 arg5 arg6 arg7 arg8 arg9 arg10 arg11 arg12 arg13 arg14 arg15 arg16 arg17 arg18 arg19) (arg1 : BitVec 32) (v814 : BitVec 32) :
    Safe (defs₀ (F := F)) c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v814) := by
  unfold k0_part30
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  have hB : Bufs c R arg2 arg3 arg4 arg5 arg6 arg7 arg8 arg9 arg10 arg11 arg12 arg13 arg14 arg15 arg16 arg17 arg18 arg19 := ⟨h2, h3, h4, h5, h6, h7, h8, h9, h10, h11, h12, h13, h14, h15, h16, h17, h18, h19⟩
  repeat' (first
    | with_reducible exact Safe.pure _
    | with_reducible exact Safe.load (by assumption)
    | with_reducible exact Safe.store (by assumption)
    | with_reducible exact part1 hB _ _ _
    | with_reducible exact part2 hB _ _ _
    | with_reducible refine Safe.loop fun _ _ => ?_
    | with_reducible refine Safe.bind ?_ fun _ => ?_
    | with_reducible refine Safe.ite ?_ ?_
    | split)

theorem part32 (hB : Bufs c R arg2 arg3 arg4 arg5 arg6 arg7 arg8 arg9 arg10 arg11 arg12 arg13 arg14 arg15 arg16 arg17 arg18 arg19) (v818 : BitVec 32) (v829 : IVec S128x512 32) (v838 : IVec S128x1 1) (v893 : FVec F S128x1 .f32) (cst_370 : F .f32) :
    Safe (defs₀ (F := F)) c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v818 v829 v838 v893 cst_370) := by
  unfold k0_part32
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part33 (hB : Bufs c R arg2 arg3 arg4 arg5 arg6 arg7 arg8 arg9 arg10 arg11 arg12 arg13 arg14 arg15 arg16 arg17 arg18 arg19) (v818 : BitVec 32) (v828 : IVec S128x1 32) (v829 : IVec S128x512 32) (v893 : FVec F S128x1 .f32) (v932 : IVec S128x1 32) (c0_i32_390 : BitVec 32) :
    Safe (defs₀ (F := F)) c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v818 v828 v829 v893 v932 c0_i32_390) := by
  unfold k0_part33
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part34 (hB : Bufs c R arg2 arg3 arg4 arg5 arg6 arg7 arg8 arg9 arg10 arg11 arg12 arg13 arg14 arg15 arg16 arg17 arg18 arg19) (v818 : BitVec 32) (v948 : IVec S1x256 32) (v951 : Vec F S512x256 .bf16) (v963 : FVec F S512x512 .f32) :
    Safe (defs₀ (F := F)) c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v818 v948 v951 v963) := by
  unfold k0_part34
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  have hB : Bufs c R arg2 arg3 arg4 arg5 arg6 arg7 arg8 arg9 arg10 arg11 arg12 arg13 arg14 arg15 arg16 arg17 arg18 arg19 := ⟨h2, h3, h4, h5, h6, h7, h8, h9, h10, h11, h12, h13, h14, h15, h16, h17, h18, h19⟩
  repeat' (first
    | with_reducible exact Safe.pure _
    | with_reducible exact Safe.load (by assumption)
    | with_reducible exact Safe.store (by assumption)
    | with_reducible exact part3 hB _ _ _ _
    | with_reducible exact part4 hB _ _ _ _ _ _
    | with_reducible exact part5 hB _ _ _ _
    | with_reducible exact part6 hB _ _ _ _
    | with_reducible exact part7 hB _ _ _ _ _ _
    | with_reducible exact part8 hB _ _ _ _
    | with_reducible refine Safe.loop fun _ _ => ?_
    | with_reducible refine Safe.bind ?_ fun _ => ?_
    | with_reducible refine Safe.ite ?_ ?_
    | split)

theorem part35 (hB : Bufs c R arg2 arg3 arg4 arg5 arg6 arg7 arg8 arg9 arg10 arg11 arg12 arg13 arg14 arg15 arg16 arg17 arg18 arg19) (v990 : FVec F S512x256 .bf16) (v993 : FVec F S512x512 .f32) (v995 : FVec F S512x512 .f32) (v996 : Vec F S512x128 .f32) (v997 : FVec F S512 .f32) :
    Safe (defs₀ (F := F)) c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v993 v995 v996 v997) := by
  unfold k0_part35
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part36 (hB : Bufs c R arg2 arg3 arg4 arg5 arg6 arg7 arg8 arg9 arg10 arg11 arg12 arg13 arg14 arg15 arg16 arg17 arg18 arg19) (v990 : FVec F S512x256 .bf16) (v993 : FVec F S512x512 .f32) (v1024 : FVec F S512x128 .f32) (v1038 : FVec F S512x256 .f32) :
    Safe (defs₀ (F := F)) c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v993 v1024 v1038) := by
  unfold k0_part36
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part37 (hB : Bufs c R arg2 arg3 arg4 arg5 arg6 arg7 arg8 arg9 arg10 arg11 arg12 arg13 arg14 arg15 arg16 arg17 arg18 arg19) (v990 : FVec F S512x256 .bf16) (v1068 : Vec F S512x128 .f32) (v1072 : FVec F S512x128 .f32) (v1075 : FVec F S512x512 .f32) :
    Safe (defs₀ (F := F)) c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v1068 v1072 v1075) := by
  unfold k0_part37
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part38 (hB : Bufs c R arg2 arg3 arg4 arg5 arg6 arg7 arg8 arg9 arg10 arg11 arg12 arg13 arg14 arg15 arg16 arg17 arg18 arg19)  :
    Safe (defs₀ (F := F)) c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold k0_part38
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part39 (hB : Bufs c R arg2 arg3 arg4 arg5 arg6 arg7 arg8 arg9 arg10 arg11 arg12 arg13 arg14 arg15 arg16 arg17 arg18 arg19) (v1150 : FVec F S128x512 .bf16) (v1151 : Vec F S1x512x128 .bf16) :
    Safe (defs₀ (F := F)) c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1150 v1151) := by
  unfold k0_part39
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part40 (hB : Bufs c R arg2 arg3 arg4 arg5 arg6 arg7 arg8 arg9 arg10 arg11 arg12 arg13 arg14 arg15 arg16 arg17 arg18 arg19) (v1185 : FVec F S128x256 .bf16) (v1186 : Vec F S128x256 .f32) (v1189 : FVec F S128x256 .f32) :
    Safe (defs₀ (F := F)) c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1185 v1186 v1189) := by
  unfold k0_part40
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

theorem part41 (hB : Bufs c R arg2 arg3 arg4 arg5 arg6 arg7 arg8 arg9 arg10 arg11 arg12 arg13 arg14 arg15 arg16 arg17 arg18 arg19) (v1222 : Vec F S128x256 .f32) (v1225 : FVec F S128x256 .f32) (cst_551 : F .f32) :
    Safe (defs₀ (F := F)) c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1222 v1225 cst_551) := by
  unfold k0_part41
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible refine Safe.loop fun _ _ => ?_
    | with_reducible refine Safe.bind ?_ fun _ => ?_
    | with_reducible refine Safe.ite ?_ ?_
    | split)

end Cert.Proof.Kernel

end
-- ==== Proof.DsaAssume.lean ====
/-
  The word the tie search starts from. The kernel takes, over the rows of a tile, the least number of leading zeros of
  the difference of two bit patterns (32 for a row with nothing to search) and runs its two searching loops from that
  word to 32. Whatever the bit patterns are, the word is at most 32, so both loops have a meaning.
-/
module

public import proofs.«01_k».proof.Proof.Gen.Kernel
public import Idealize.ShloMosaic.PureOps.Reduce

@[expose] public section

noncomputable section

namespace Cert.Proof.Kernel

open Cert.Kernel
open Idealize.ShloMosaic

/-- A number of leading zeros is at most the width. -/
theorem ctlz_le (x : BitVec 32) : (IntOp.ctlz x).toNat ≤ 32 := by
  unfold IntOp.ctlz
  rw [BitVec.toNat_ofNat]
  refine (Nat.mod_le _ _).trans ?_
  split <;> omega

/-- The signed minimum of two words, each at most 32 or the largest signed word, is such a word; and at most 32 if the
    first is. -/
theorem minsi_small (a b : BitVec 32) (hb : b.toNat ≤ 2147483647) (ha : a.toNat ≤ 32) :
    (IntOp.minsi a b).toNat ≤ 32 := by
  unfold IntOp.minsi
  split
  · exact ha
  · rename_i h
    simp only [BitVec.slt, decide_eq_true_eq] at h
    rw [BitVec.toInt_eq_toNat_of_lt (by omega), BitVec.toInt_eq_toNat_of_lt (by omega)] at h
    omega

theorem minsi_nonneg (a b : BitVec 32) (ha : a.toNat ≤ 2147483647) (hb : b.toNat ≤ 2147483647) :
    (IntOp.minsi a b).toNat ≤ 2147483647 := by
  unfold IntOp.minsi
  split <;> assumption

/-- A signed minimum over a nonempty set of words at most 32 is at most 32. -/
theorem fold_minsi_le {ι : Type} [DecidableEq ι] (s : Finset ι) (f : ι → BitVec 32) (hf : ∀ i, (f i).toNat ≤ 32) :
    (s.fold IntOp.minsi 2147483647#32 f).toNat ≤ 2147483647 ∧ (s.Nonempty → (s.fold IntOp.minsi 2147483647#32 f).toNat ≤ 32) := by
  induction s using Finset.induction_on with
  | empty => exact ⟨by simp, fun h => absurd h (by simp)⟩
  | insert i s hi ih =>
    rw [Finset.fold_insert hi]
    exact ⟨minsi_nonneg _ _ ((hf i).trans (by decide)) ih.1, fun _ => minsi_small _ _ ih.1 (hf i)⟩

/-- Both searching loops have a meaning from every word at most 32. -/
theorem chk1_small : ∀ n : Fin 33, k0_chk1 (BitVec.ofNat 32 n.val) := by
  decide +kernel

theorem chk1_of_le {v : BitVec 32} (h : v.toNat ≤ 32) : k0_chk1 v := by
  have := chk1_small ⟨v.toNat, by omega⟩
  simpa using this

/-- The least of one tile's words, each at most 32, is at most 32. -/
theorem reduce_min_le (src : IVec S1x128x1 32) (hs : ∀ i, (src i).toNat ≤ 32) (h2 : S1x128x1.Reduces [1, 2] S1) (j : S1.Idx) :
    (multiReductionI .minsi [1, 2] S1 src 2147483647#32 h2 rfl j).toNat ≤ 32 := by
  have e := multiReductionI_eq_fold .minsi src 2147483647#32 h2 rfl j
  refine (congrArg BitVec.toNat e).le.trans ((fold_minsi_le _ _ hs).2 ⟨fun a => ⟨0, by fin_cases a <;> decide⟩, ?_⟩)
  rw [Finset.mem_filter]
  refine ⟨Finset.mem_univ _, ?_⟩
  funext a
  have e : S1.size a = 1 := by fin_cases a; rfl
  apply Fin.ext
  have l1 := (h2.drop (fun a => ⟨0, by fin_cases a <;> decide⟩) a).isLt
  have l2 := (j a).isLt
  omega

/-- The side condition of the two searching loops holds of the word the kernel computes, for any rows. -/
theorem chk1_word (b : IVec S128x1 1) (w : IVec S128x1 32) {h1 : S128x1.ShapeCasts S1x128x1} {h2 : S1x128x1.Reduces [1, 2] S1}
    {h3 : S1.ShapeCasts S1x1x1} {h4} :
    k0_chk1 (extractAt ![0, 0, 0] (shapeCast S1x1x1 (multiReductionI .minsi [1, 2] S1
      (shapeCast S1x128x1 (select b (broadcast S128x1 32#32) (ctlz w)) h1) 2147483647#32 h2 rfl) h3) h4) := by
  apply chk1_of_le
  refine reduce_min_le _ (fun i => ?_) h2 _
  unfold shapeCast select broadcast ctlz Scalar.select
  beta_reduce
  split
  · decide
  · exact ctlz_le _

end Cert.Proof.Kernel

end
-- ==== Proof.DsaPart31.lean ====
/-
  The part that counts leading zeros and searches the threshold's remaining bits: its side condition is `chk1_word`.
-/
module

public import proofs.«01_k».proof.Proof.Gen.Kernel
public import proofs.«01_k».proof.Proof.DsaBufs
public import proofs.«01_k».proof.Proof.DsaAssume

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : sProp (MT nD τ sig Unit (Elt F) ℕ (UR sig nD τ) ℕ)}
variable {i : grid0.Coords}
variable {arg2 : Memref sig .tc .vmem S128x4096 .bf16}
variable {harg2 : arg2.IsWhole}
variable {arg3 : Memref sig .tc .vmem S128x1024 .f32}
variable {harg3 : arg3.IsWhole}
variable {arg4 : Memref sig .tc .vmem S128x128 .f32}
variable {harg4 : arg4.IsWhole}
variable {arg5 : Memref sig .tc .vmem S128x128 .f32}
variable {harg5 : arg5.IsWhole}
variable {arg6 : Memref sig .tc .vmem S128x128 .f32}
variable {harg6 : arg6.IsWhole}
variable {arg7 : Memref sig .tc .vmem S128x128 .f32}
variable {harg7 : arg7.IsWhole}
variable {arg8 : Memref sig .tc .vmem S128x128 .f32}
variable {harg8 : arg8.IsWhole}
variable {arg9 : Memref sig .tc .vmem S8192x256 .bf16}
variable {harg9 : arg9.IsWhole}
variable {arg10 : Memref sig .tc .vmem S8192x128 .bf16}
variable {harg10 : arg10.IsWhole}
variable {arg11 : Memref sig .tc .vmem S8x512x128 .bf16}
variable {harg11 : arg11.IsWhole}
variable {arg12 : Memref sig .tc .vmem S128x1024 .bf16}
variable {harg12 : arg12.IsWhole}
variable {arg13 : Memref sig .tc .vmem S128x8192 .f32}
variable {harg13 : arg13.IsWhole}
variable {arg14 : Memref sig .tc .vmem S2048x256 .bf16}
variable {harg14 : arg14.IsWhole}
variable {arg15 : Memref sig .tc .vmem S2048x128 .bf16}
variable {harg15 : arg15.IsWhole}
variable {arg16 : Memref sig .tc .vmem S2048x128 .f32}
variable {harg16 : arg16.IsWhole}
variable {arg17 : Memref sig .tc .vmem S2048x128 .f32}
variable {harg17 : arg17.IsWhole}
variable {arg18 : Memref sig .tc .vmem S2048x256 .f32}
variable {harg18 : arg18.IsWhole}
variable {arg19 : Memref sig .tc .vmem S2048x512 .f32}
variable {harg19 : arg19.IsWhole}

theorem part31 (hB : Bufs c R arg2 arg3 arg4 arg5 arg6 arg7 arg8 arg9 arg10 arg11 arg12 arg13 arg14 arg15 arg16 arg17 arg18 arg19) (v818 : BitVec 32) (v829 : IVec S128x512 32) (v838 : IVec S128x1 1) (v846_1 : FVec F S128x128 .f32) (v849 : IVec S128x1 32) (v851 : IVec S128x1 1) (v852 : IVec S128x1 32) :
    Safe (defs₀ (F := F)) c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v818 v829 v838 v846_1 v849 v851 v852) := by
  unfold k0_part31
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  repeat' (first
    | with_reducible exact Safe.pure _
    | with_reducible exact Safe.load (by assumption)
    | with_reducible exact Safe.store (by assumption)
    | with_reducible exact Safe.assume (chk1_word _ _)
    | with_reducible refine Safe.loop fun _ _ => ?_
    | with_reducible refine Safe.bind ?_ fun _ => ?_
    | with_reducible refine Safe.ite ?_ ?_
    | split)

end Cert.Proof.Kernel

end
-- ==== Proof.DsaBody.lean ====
/-
  The whole kernel body, part by part.
-/
module

public import proofs.«01_k».proof.Proof.Gen.Kernel
public import proofs.«01_k».proof.Proof.DsaPartsB
public import proofs.«01_k».proof.Proof.DsaPart31

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

variable {c : Dev nD} {R : sProp (MT nD τ sig Unit (Elt F) ℕ (UR sig nD τ) ℕ)}
variable {i : grid0.Coords}
variable {arg2 : Memref sig .tc .vmem S128x4096 .bf16}
variable {harg2 : arg2.IsWhole}
variable {arg3 : Memref sig .tc .vmem S128x1024 .f32}
variable {harg3 : arg3.IsWhole}
variable {arg4 : Memref sig .tc .vmem S128x128 .f32}
variable {harg4 : arg4.IsWhole}
variable {arg5 : Memref sig .tc .vmem S128x128 .f32}
variable {harg5 : arg5.IsWhole}
variable {arg6 : Memref sig .tc .vmem S128x128 .f32}
variable {harg6 : arg6.IsWhole}
variable {arg7 : Memref sig .tc .vmem S128x128 .f32}
variable {harg7 : arg7.IsWhole}
variable {arg8 : Memref sig .tc .vmem S128x128 .f32}
variable {harg8 : arg8.IsWhole}
variable {arg9 : Memref sig .tc .vmem S8192x256 .bf16}
variable {harg9 : arg9.IsWhole}
variable {arg10 : Memref sig .tc .vmem S8192x128 .bf16}
variable {harg10 : arg10.IsWhole}
variable {arg11 : Memref sig .tc .vmem S8x512x128 .bf16}
variable {harg11 : arg11.IsWhole}
variable {arg12 : Memref sig .tc .vmem S128x1024 .bf16}
variable {harg12 : arg12.IsWhole}
variable {arg13 : Memref sig .tc .vmem S128x8192 .f32}
variable {harg13 : arg13.IsWhole}
variable {arg14 : Memref sig .tc .vmem S2048x256 .bf16}
variable {harg14 : arg14.IsWhole}
variable {arg15 : Memref sig .tc .vmem S2048x128 .bf16}
variable {harg15 : arg15.IsWhole}
variable {arg16 : Memref sig .tc .vmem S2048x128 .f32}
variable {harg16 : arg16.IsWhole}
variable {arg17 : Memref sig .tc .vmem S2048x128 .f32}
variable {harg17 : arg17.IsWhole}
variable {arg18 : Memref sig .tc .vmem S2048x256 .f32}
variable {harg18 : arg18.IsWhole}
variable {arg19 : Memref sig .tc .vmem S2048x512 .f32}
variable {harg19 : arg19.IsWhole}

theorem body (hB : Bufs c R arg2 arg3 arg4 arg5 arg6 arg7 arg8 arg9 arg10 arg11 arg12 arg13 arg14 arg15 arg16 arg17 arg18 arg19)  :
    Safe (defs₀ (F := F)) c R (cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold cc0_dsa_attention
  obtain ⟨h2, h3, h4, h5, h6, h7, h8, h9, h10, h11, h12, h13, h14, h15, h16, h17, h18, h19⟩ := hB
  have r12 := h12.rd
  have r13 := h13.rd
  have r14 := h14.rd
  have r15 := h15.rd
  have r16 := h16.rd
  have r17 := h17.rd
  have r18 := h18.rd
  have r19 := h19.rd
  have hB : Bufs c R arg2 arg3 arg4 arg5 arg6 arg7 arg8 arg9 arg10 arg11 arg12 arg13 arg14 arg15 arg16 arg17 arg18 arg19 := ⟨h2, h3, h4, h5, h6, h7, h8, h9, h10, h11, h12, h13, h14, h15, h16, h17, h18, h19⟩
  repeat' (first
    | with_reducible exact Safe.pure _
    | with_reducible exact Safe.load (by assumption)
    | with_reducible exact Safe.store (by assumption)
    | with_reducible exact part9 hB
    | with_reducible exact part10 hB _ _ _ _ _ _ _
    | with_reducible exact part11 hB _ _ _
    | with_reducible exact part12 hB _ _ _ _ _
    | with_reducible exact part13 hB _ _ _ _
    | with_reducible exact part14 hB _ _ _ _
    | with_reducible exact part15 hB _ _ _ _
    | with_reducible exact part16 hB _ _ _
    | with_reducible exact part17 hB _ _ _ _
    | with_reducible exact part18 hB _ _ _ _
    | with_reducible exact part19 hB _ _ _ _
    | with_reducible exact part20 hB _ _
    | with_reducible exact part21 hB _ _ _ _ _
    | with_reducible exact part22 hB _ _ _ _ _ _
    | with_reducible exact part23 hB _ _ _ _
    | with_reducible exact part24 hB _ _ _ _ _ _ _
    | with_reducible exact part25 hB _ _ _ _ _
    | with_reducible exact part26 hB _ _ _ _ _ _ _
    | with_reducible exact part27 hB _ _ _ _ _ _
    | with_reducible exact part28 hB _ _ _ _ _
    | with_reducible exact part29 hB _ _ _ _ _ _ _ _ _
    | with_reducible exact part30 hB _ _
    | with_reducible exact part31 hB _ _ _ _ _ _ _
    | with_reducible exact part32 hB _ _ _ _ _
    | with_reducible exact part33 hB _ _ _ _ _ _
    | with_reducible exact part34 hB _ _ _ _
    | with_reducible exact part35 hB _ _ _ _ _
    | with_reducible exact part36 hB _ _ _ _
    | with_reducible exact part37 hB _ _ _ _
    | with_reducible exact part38 hB
    | with_reducible exact part39 hB _ _
    | with_reducible exact part40 hB _ _ _
    | with_reducible exact part41 hB _ _ _
    | with_reducible refine Safe.loop fun _ _ => ?_
    | with_reducible refine Safe.bind ?_ fun _ => ?_
    | with_reducible refine Safe.ite ?_ ?_
    | split)

end Cert.Proof.Kernel

end
-- ==== Proof.DsaFrame.lean ====
/-
  The run of the sparse-attention call: every argument is left as it was and every semaphore is zero.

  The proof data say nothing of what the body leaves in the output window; an input window keeps what was fetched.
-/
module

public import proofs.«01_k».proof.Proof.DsaBody
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Lending one buffer out of a conjunction -/

section Lend

variable {nD : Nat} {τ : Topo} {sig : RefSig} {Val : EltTy → Type}
variable {c : Dev nD}
variable {A R : sProp (MT nD τ sig Unit Val ℕ (UR sig nD τ) ℕ)}
variable {cs : CoreSpace} {s : Shape} {e : EltTy} {m : Memref sig .tc cs s e}

theorem Rd.left (h : Rd c R m) : Rd c iprop(R ∗ A) m := by
  unfold Rd at h ⊢
  iintro ⟨HR, HA⟩
  icases h $$ HR with ⟨%q, %f, H, Hb⟩
  iexists q, f
  iframe H
  iintro H
  iframe HA
  iapply Hb $$ H

theorem Rd.right (h : Rd c R m) : Rd c iprop(A ∗ R) m := by
  unfold Rd at h ⊢
  iintro ⟨HA, HR⟩
  icases h $$ HR with ⟨%q, %f, H, Hb⟩
  iexists q, f
  iframe H
  iintro H
  iframe HA
  iapply Hb $$ H

theorem Wr.left (h : Wr c R m) : Wr c iprop(R ∗ A) m := by
  unfold Wr at h ⊢
  iintro ⟨HR, HA⟩
  icases h $$ HR with ⟨%f, H, Hb⟩
  iexists f
  iframe H
  iintro %f' H
  iframe HA
  iapply Hb $$ %f' H

theorem Wr.right (h : Wr c R m) : Wr c iprop(A ∗ R) m := by
  unfold Wr at h ⊢
  iintro ⟨HA, HR⟩
  icases h $$ HR with ⟨%f, H, Hb⟩
  iexists f
  iframe H
  iintro %f' H
  iframe HA
  iapply Hb $$ %f' H

/-- A window's buffer at known contents lends itself for reading. -/
theorem Rd.owns (q : PosShare TreeShare) (X : s.Idx → Val e) : Rd c (owns (c : Thread nD τ) m q X) m := by
  unfold Rd Idealize.ShloMosaic.owns
  iintro ⟨%f, %hf, H⟩
  iexists q, f
  iframe H
  iintro H
  iexists f
  iframe H
  ipureintro; exact hf

/-- A window's buffer at unnamed contents lends itself for writing. -/
theorem Wr.owns : Wr c (iprop(∃ X, Idealize.ShloMosaic.owns (c : Thread nD τ) m fullShare X) : sProp (MT nD τ sig Unit Val ℕ (UR sig nD τ) ℕ)) m := by
  unfold Wr Idealize.ShloMosaic.owns
  iintro ⟨%X, %f, %hf, H⟩
  iexists f
  iframe H
  iintro %f' H
  iexists (m.view.read Val f'), f'
  iframe H
  ipureintro; rfl

/-- A scratch buffer at unnamed contents, as a whole buffer's memref owns it. -/
theorem scratch_owns (b : Ref sig .tc) :
    (iprop(∃ f : Buf Val ((c : Thread nD τ).loc b), ((c : Thread nD τ).loc b) ↦{fullShare} f) : sProp (MT nD τ sig Unit Val ℕ (UR sig nD τ) ℕ))
      = iprop(∃ X, Idealize.ShloMosaic.owns (c : Thread nD τ) (Memref.whole b) fullShare X) := by
  simp only [owns_whole]

end Lend

end Cert.Proof

namespace Cert.Proof.Kernel

open Cert.Kernel Cert.Kernel.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The proof data of the one region: the input windows keep what they were handed, the output window is left at
    anything. -/
def rdat (m : (ℓ : Loc nD τ sig) → Buf (Elt F) ℓ) (c : Dev nD) : RDat τ (Elt F) Unit ℕ (UR sig nD τ) ℕ cfg0 c where
  A w := V m c (arrRef spec0 w)
  after w _ Y X := (spec0 w).isOut = true ∨ X = Y
  Φ _ := ΦA spec0 c
  q w := shareOf spec0 w
  owed _ := 0

/-- What the body holds at a point: the input windows at their contents, the output window and the scratch buffers at
    unnamed contents, and `G` untouched. -/
def res (c : Dev nD) (t : Fin cfg0.N) (Y : (w : Fin cfg0.W) → (cfg0.win w).block.Idx → Elt F (cfg0.win w).elt)
    (G : sProp (MT nD τ sig Unit (Elt F) ℕ (UR sig nD τ) ℕ)) : sProp (MT nD τ sig Unit (Elt F) ℕ (UR sig nD τ) ℕ) :=
  iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ (∃ X, owns (c : Thread nD τ) (st0_10 t) fullShare X) ∗ (∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ G)

/-- Every memref the body is given is lent by `res`. -/
theorem bufs (c : Dev nD) (t : Fin cfg0.N) (Y : (w : Fin cfg0.W) → (cfg0.win w).block.Idx → Elt F (cfg0.win w).elt)
    (G : sProp (MT nD τ sig Unit (Elt F) ℕ (UR sig nD τ) ℕ)) :
    Bufs c (res c t Y G) (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.whole cc0_scratch3) (Memref.whole cc0_scratch4) (Memref.whole cc0_scratch5) (Memref.whole cc0_scratch6) := by
  unfold res
  exact ⟨
    (Rd.owns _ _).left,
    ((Rd.owns _ _).left).right,
    ((Rd.owns _ _).left).right.right,
    ((Rd.owns _ _).left).right.right.right,
    ((Rd.owns _ _).left).right.right.right.right,
    ((Rd.owns _ _).left).right.right.right.right.right,
    ((Rd.owns _ _).left).right.right.right.right.right.right,
    ((Rd.owns _ _).left).right.right.right.right.right.right.right,
    ((Rd.owns _ _).left).right.right.right.right.right.right.right.right,
    ((Rd.owns _ _).left).right.right.right.right.right.right.right.right.right,
    Wr.owns.left.right.right.right.right.right.right.right.right.right.right,
    Wr.owns.left.right.right.right.right.right.right.right.right.right.right.right,
    Wr.owns.left.right.right.right.right.right.right.right.right.right.right.right.right,
    Wr.owns.left.right.right.right.right.right.right.right.right.right.right.right.right.right,
    Wr.owns.left.right.right.right.right.right.right.right.right.right.right.right.right.right.right,
    Wr.owns.left.right.right.right.right.right.right.right.right.right.right.right.right.right.right.right,
    Wr.owns.left.right.right.right.right.right.right.right.right.right.right.right.right.right.right.right.right,
    Wr.owns.left.right.right.right.right.right.right.right.right.right.right.right.right.right.right.right.right.right⟩

theorem dsa_row (t : Fin cfg0.N) : defs₀ (F := F) .tc cfg0.body (cfg0.bodyArgs t (cfg0.slots t)) = bodyAt0 t := by
  unfold defs₀; rw [Defs.onTc_tc]

/-- The body obligation at every point. -/
theorem obligation (m : (ℓ : Loc nD τ sig) → Buf (Elt F) ℓ) (c : Dev nD) :
    (rdat m c).BodyObligation (defs₀ (F := F)) Variants.none () Set.univ := fun t Y _ => by
  rw [bigSep_W0, bigSep_W0, dsa_row]
  have h : Safe (defs₀ (F := F)) c (res c t Y iprop((∃ r, prngReg c r) ∗ (rdat m c).owesAt () t.castSucc)) (bodyAt0 t) := body (bufs c t Y _)
  have e : (rdat m c).Φ t.castSucc = ΦA spec0 c := rfl
  have e' : (rdat m c).Φ t.succ = ΦA spec0 c := rfl
  have e'' : (rdat m c).owesAt () t.succ = (rdat m c).owesAt () t.castSucc := rfl
  rw [e, e', e'']
  unfold Safe res at h
  unfold ΦA
  rw [scopedRest0_eq]
  simp only [scratch_owns]
  refine BIBase.Entails.trans ?_ (BIBase.Entails.trans h (wp_mono _ _ _ fun _ => ?_))
  · iintro ⟨⟨⟨S0, S1, S2, S3, S4, S5, S6⟩, Hp⟩, Ho, H0, H1, H2, H3, H4, H5, H6, H7, H8, H9, H10⟩
    iframe H0 H1 H2 H3 H4 H5 H6 H7 H8 H9 S0 S1 S2 S3 S4 S5 S6 Hp Ho
    iexists (Y 10); iexact H10
  · iintro ⟨H0, H1, H2, H3, H4, H5, H6, H7, H8, H9, H10, S0, S1, S2, S3, S4, S5, S6, Hp, Ho⟩
    iframe S0 S1 S2 S3 S4 S5 S6 Hp Ho
    isplitl [H0]
    · iexists (Y 0); iframe H0; ipureintro; exact .inr rfl
    isplitl [H1]
    · iexists (Y 1); iframe H1; ipureintro; exact .inr rfl
    isplitl [H2]
    · iexists (Y 2); iframe H2; ipureintro; exact .inr rfl
    isplitl [H3]
    · iexists (Y 3); iframe H3; ipureintro; exact .inr rfl
    isplitl [H4]
    · iexists (Y 4); iframe H4; ipureintro; exact .inr rfl
    isplitl [H5]
    · iexists (Y 5); iframe H5; ipureintro; exact .inr rfl
    isplitl [H6]
    · iexists (Y 6); iframe H6; ipureintro; exact .inr rfl
    isplitl [H7]
    · iexists (Y 7); iframe H7; ipureintro; exact .inr rfl
    isplitl [H8]
    · iexists (Y 8); iframe H8; ipureintro; exact .inr rfl
    isplitl [H9]
    · iexists (Y 9); iframe H9; ipureintro; exact .inr rfl
    icases H10 with ⟨%X, H10⟩
    iexists X; iframe H10; ipureintro; exact .inl rfl

set_option backward.isDefEq.respectTransparency.types false in
set_option maxHeartbeats 4000000 in
/-- The run: it ends with every argument as it was and every semaphore zero. -/
theorem run (m : (ℓ : Loc nD τ sig) → Buf (Elt F) ℓ) (g : Dev nD → PrngReg) :
    θ_run (Cert.Kernel.defs (F := F)) (onTc (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
        ∧ r.2.sem = fun _ => 0) :=
  Pipeline.RDat.θ_run_frame_track_shared cfgs (0 : Fin 1) launch₀0 defs₀ Variants.none (rdat m) m g main
    (hbody := obligation m)
    (hq := fun _ _ _ => rfl)
    (howed := fun _ _ => rfl)
    (V := V m)
    (hmain := hmain m Variants.none)
    (hA := fun _ _ => rfl)
    (hin := fun _ => .rfl)
    (hout := fun _ => .rfl)
    (Q' := _)
    (hQ' := fun r h => ⟨fun c => ⟨RDat.FramePost.arr_in h.1 c 0 rfl,
      RDat.FramePost.arr_in h.1 c 2 rfl,
      RDat.FramePost.arr_in h.1 c 3 rfl,
      RDat.FramePost.arr_in h.1 c 4 rfl,
      RDat.FramePost.arr_in h.1 c 5 rfl,
      RDat.FramePost.arr_in h.1 c 6 rfl,
      RDat.FramePost.arr_in h.1 c 7 rfl,
      RDat.FramePost.arr_in h.1 c 8 rfl,
      RDat.FramePost.arr_in h.1 c 9 rfl⟩, h.2⟩)

end Cert.Proof.Kernel
-- ==== Proof.DownRef.lean ====
/-
  The feed-forward's second product with its residual and layer norm: the reference's result as a few named tensors.
-/
module

public import proofs.«01_k».proof.Proof.Gen.Reference2Ideal
public import Idealize.ShloMosaic.PureOps.Ideal

@[expose] public section

set_option maxRecDepth 16384

noncomputable section

namespace Cert.Proof.Down

open Idealize.ShloMosaic Idealize.ShloMosaic.TcCoe
open Cert.Reference2Ideal Cert.Reference2Ideal.Gen

/-- The residual sum before the norm: the scaled input plus the product. -/
def pre (h : FVec Ideal S2x8192x2816 .f32) (w : FVec Ideal S2816x1024 .f32) (x : FVec Ideal S2x8192x1024 .f32) : FVec Ideal S2x8192x1024 .f32 :=
  addf (mulf (broadcastInDim S2x8192x1024 ![] bcast_S_S2x8192x1024 (constant S_ .f32 0x3FB504F3#32)) x)
    (Host.dotGeneral dot_S2x8192x2816_S2816x1024_S2x8192x1024_2_0_01_1_n_n none h w)

/-- The mean of each row. -/
def mean (y : FVec Ideal S2x8192x1024 .f32) : FVec Ideal S2x8192x1 .f32 :=
  Host.divf (broadcastInDim S2x8192x1 ![0, 1] bcast_S2x8192_S2x8192x1_0_1
      (Host.reduceAdd y (constant S_ .f32 0x00000000#32) reducesTo_S2x8192x1024_S2x8192_d2 h_S_))
    (broadcastInDim S2x8192x1 ![] bcast_S_S2x8192x1 (constant S_ .f32 0x44800000#32))

/-- A row less its mean. -/
def dev (y : FVec Ideal S2x8192x1024 .f32) : FVec Ideal S2x8192x1024 .f32 :=
  subf y (broadcastInDim S2x8192x1024 ![0, 1, 2] bcast_S2x8192x1_S2x8192x1024_0_1_2 (mean y))

/-- The reciprocal root of a row's variance. -/
def rstd (y : FVec Ideal S2x8192x1024 .f32) : FVec Ideal S2x8192x1 .f32 :=
  Host.rsqrt (addf (mean (mulf (dev y) (dev y))) (broadcastInDim S2x8192x1 ![] bcast_S_S2x8192x1 (constant S_ .f32 0x3727C5AC#32)))

/-- A length-1024 vector laid along every row. -/
def row (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- The normed rows. -/
def normed (h : FVec Ideal S2x8192x2816 .f32) (w : FVec Ideal S2816x1024 .f32) (x : FVec Ideal S2x8192x1024 .f32)
    (g : FVec Ideal S1024 .f32) (b : FVec Ideal S1024 .f32) : FVec Ideal S2x8192x1024 .f32 :=
  addf (mulf (mulf (dev (pre h w x))
    (broadcastInDim S2x8192x1024 ![0, 1, 2] bcast_S2x8192x1_S2x8192x1024_0_1_2 (rstd (pre h w x)))) (row g)) (row b)

/-- The reference's result. -/
def ref (h : FVec Ideal S2x8192x2816 .f32) (w : FVec Ideal S2816x1024 .f32) (x : FVec Ideal S2x8192x1024 .f32)
    (g : FVec Ideal S1024 .f32) (b : FVec Ideal S1024 .f32) : FVec Ideal S16384x1024 .f32 :=
  shapeCast S16384x1024 (normed h w x g b) shapeCasts_S2x8192x1024_S16384x1024

end Cert.Proof.Down

end
-- ==== Proof.Down.lean ====
/-
  The feed-forward's second product with its residual and layer norm: the kernel's result array is the reference's.

  A grid point handles 512 whole rows, so the comparison is row by row: the same sums over the same terms.
-/
module

public import proofs.«01_k».proof.Proof.DownRef
public import proofs.«01_k».proof.Proof.Gen.Kernel2Ideal
public import proofs.«01_k».proof.Proof.Gen.Kernel2Ideal.Frame
public import proofs.«01_k».proof.Proof.Gen.Kernel2Ideal.Value
public import Idealize.ShloMosaic.Lib.Pipeline.ValueKit

@[expose] public section

set_option maxRecDepth 16384

noncomputable section

namespace Cert.Proof.Down

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Which block each window shows at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The reference's result at the kernel's arguments. -/
def goal (c : Dev nD) : FVec Ideal S16384x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4))

/-- One row: equal inputs give equal outputs. -/
theorem row_eq (a0 : Vec Ideal S512x2816 .bf16) (a1 : Vec Ideal S2816x1024 .bf16) (a2 : Vec Ideal S512x1024 .f32)
    (a3 a4 : Vec Ideal S1x1024 .f32) (h : FVec Ideal S2x8192x2816 .f32) (w : FVec Ideal S2816x1024 .f32)
    (x : FVec Ideal S2x8192x1024 .f32) (g b : FVec Ideal S1024 .f32) (i : Fin 512) (p : Fin 2) (q : Fin 8192)
    (e0 : ∀ k : Fin 2816, a0 (ix2 i k) = h (ix3 p q k)) (e1 : ∀ (k : Fin 2816) (j : Fin 1024), a1 (ix2 k j) = w (ix2 k j))
    (e2 : ∀ j : Fin 1024, a2 (ix2 i j) = x (ix3 p q j)) (e3 : ∀ j : Fin 1024, a3 (ix2 0 j) = g (ix1 j))
    (e4 : ∀ j : Fin 1024, a4 (ix2 0 j) = b (ix1 j)) (j : Fin 1024) :
    k0_pay1 a0 a1 a2 a3 a4 (ix2 i j) = normed h w x g b (ix3 p q j) := by
  pointwise [k0_pay1, normed, pre, mean, dev, rstd, row, e0, e1, e2, e3, e4]

section Blocks

variable (c : Dev nD) (t : Fin cfg0.N)

/-- The batch a row of the point's block lies in. -/
def bat (i : Fin 512) : Fin 2 := ⟨(t.val * 512 + i.val) / 8192, by have := t.isLt; have : cfg0.N = 32 := N_0; omega⟩
/-- The position in its batch of a row of the point's block. -/
def pos (i : Fin 512) : Fin 8192 := ⟨(t.val * 512 + i.val) % 8192, by omega⟩

theorem blk0 (i : Fin 512) (k : Fin 2816) : iblk m c 0 t (ix2 i k) = m ((c : Thread nD τ).loc main_arg0) (ix3 (bat t i) (pos t i) k) := by
  blk_point [iblk, V, idx t, bat, pos]
theorem blk1 (k : Fin 2816) (j : Fin 1024) : iblk m c 1 t (ix2 k j) = m ((c : Thread nD τ).loc main_arg1) (ix2 k j) := by
  blk_point [iblk, V, idx t]
theorem blk2 (i : Fin 512) (j : Fin 1024) : iblk m c 2 t (ix2 i j) = m ((c : Thread nD τ).loc main_arg2) (ix3 (bat t i) (pos t i) j) := by
  blk_point [iblk, V, idx t, bat, pos]
theorem blk3 (j : Fin 1024) : iblk m c 3 t (ix2 0 j) = m ((c : Thread nD τ).loc main_arg3) (ix1 j) := by
  blk_point [iblk, V, idx t]
theorem blk4 (j : Fin 1024) : iblk m c 4 t (ix2 0 j) = m ((c : Thread nD τ).loc main_arg4) (ix1 j) := by
  blk_point [iblk, V, idx t]

end Blocks

/-- What a point stores is the reference's value at the place of its block. -/
theorem point (c : Dev nD) (t : Fin cfg0.N) (y : S512x1024.Idx) :
    k0_pay1 (iblk m c 0 t) (iblk m c 1 t) (iblk m c 2 t) (iblk m c 3 t) (iblk m c 4 t) y
      = goal m c (((cfg0.win 5).blk t).view.emb y) := by
  idx_vars y
  refine (row_eq _ _ _ _ _ _ _ _ _ _ y0 (bat t y0) (pos t y0) (blk0 m c t y0) (blk1 m c t) (blk2 m c t y0) (blk3 m c t) (blk4 m c t) y1).trans ?_
  unfold goal
  pointwise [ref]
  blk_ext [idx t, bat, pos]

/-- The result array after the run. -/
theorem final (c : Dev nD) : (dats m 0 c).arrAt 5 (cfgs 0).N = goal m c := by
  refine (dats m 0 c).arrAt_eq_of_covers 5 _ (by decide +kernel) fun t _ y => ?_
  blk_simp
  rw [after0_5]; frame_out
  exact point m c t y

end Cert.Proof.Down

end
-- ==== Proof.DownClaim.lean ====
/-
  The claims of this call: both programs run, end with equal results and leave their arguments as they were.
-/
module

public import proofs.«01_k».proof.Defs
public import proofs.«01_k».proof.Proof.Down
public import proofs.«01_k».proof.Proof.Gen.Kernel2
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Proof.Down

open Idealize.ShloMosaic Idealize.ShloMosaic.TcCoe Idealize.SL.Sem

/-- The kernel as printed runs and leaves its arguments. -/
theorem frameBits : Cert.quiescent_Kernel2 (hKernel2 := Cert.Kernel2.Gen.facts) := fun m ρ _ => Cert.Kernel2.Gen.frame m ρ

/-- The kernel over the extended reals runs and leaves its arguments. -/
theorem frameIdeal : Cert.quiescent_Kernel2Ideal (hKernel2Ideal := Cert.Kernel2Ideal.Gen.facts) := fun m ρ _ => Cert.Kernel2Ideal.Gen.frame m ρ

/-- The reference runs and leaves its arguments. -/
theorem frameRef : Cert.quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩)
    (Cert.Reference2Ideal.Value.run (F := Ideal) m ρ)

/-- Equal results. -/
theorem value : Cert.algebraic_Kernel2Ideal_Reference2Ideal (hKernel2Ideal := Cert.Kernel2Ideal.Gen.facts) (hReference2Ideal := Cert.Reference2Ideal.Gen.facts) := by
  intro m ρ m' ρ' _ hag
  refine ⟨fun c => goal m c, (θ_run _ _ _).mono (fun r h c => ⟨(h c).1.trans (final m c), (h c).2.2⟩) (Cert.Kernel2Ideal.Value.run_blocks m ρ),
    (θ_run _ _ _).mono (fun r h c => ⟨(h c).1.trans ?_, (h c).2⟩) (Cert.Reference2Ideal.Value.run (F := Ideal) m' ρ')⟩
  obtain ⟨h0, h1, h2, h3, h4⟩ := hag c
  show ref (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
  rw [h0, h1, h2, h3, h4]
  rfl

end Cert.Proof.Down

end
-- ==== Proof.UpRef.lean ====
/-
  The feed-forward's first product, its short causal convolution and its gate: the reference's result as named tensors.
-/
module

public import proofs.«01_k».proof.Proof.Gen.Reference3Ideal
public import Idealize.ShloMosaic.PureOps.Ideal
public import Idealize.ShloMosaic.Lib.Pointwise

@[expose] public section

set_option maxRecDepth 16384

noncomputable section

namespace Cert.Proof.Up

open Idealize.ShloMosaic Idealize.ShloMosaic.TcCoe
open Cert.Reference3Ideal Cert.Reference3Ideal.Gen

/-- The product of the input with both halves of the weight. -/
def prod (x : FVec Ideal S2x8192x1024 .f32) (w : FVec Ideal S1024x5632 .f32) : FVec Ideal S2x8192x5632 .f32 :=
  Host.dotGeneral dot_S2x8192x1024_S1024x5632_S2x8192x5632_2_0_01_1_n_n none x w

/-- The half that is not convolved. -/
def lin (x : FVec Ideal S2x8192x1024 .f32) (w : FVec Ideal S1024x5632 .f32) : FVec Ideal S2x8192x2816 .f32 :=
  extractStridedSlice S2x8192x2816 ![0, 0, 2816] (prod x w) slices_S2x8192x5632_S2x8192x2816_0_0_2816

/-- The half that is convolved, two zero rows before each batch. -/
def padded (x : FVec Ideal S2x8192x1024 .f32) (w : FVec Ideal S1024x5632 .f32) : FVec Ideal S2x8194x2816 .f32 :=
  pad S2x8194x2816 ![0, 2, 0] ![0, 0, 0] ![0, 0, 0]
    (extractStridedSlice S2x8192x2816 ![0, 0, 0] (prod x w) slices_S2x8192x5632_S2x8192x2816_0_0_0)
    (sitofp .f32 (constantI S_ 32 0#32)) pads_S2x8192x2816_S2x8194x2816_000_200_000 h_S_

/-- A length-2816 vector laid along every row. -/
def row (g : FVec Ideal S2816 .f32) : FVec Ideal S2x8192x2816 .f32 :=
  broadcastInDim S2x8192x2816 ![0, 1, 2] bcast_S1x1x2816_S2x8192x2816_0_1_2 (broadcastInDim S1x1x2816 ![2] bcast_S2816_S1x1x2816_2 g)

/-- The three taps of the convolution. -/
def conv (x : FVec Ideal S2x8192x1024 .f32) (w : FVec Ideal S1024x5632 .f32) (cw : FVec Ideal S3x2816 .f32) (cb : FVec Ideal S2816 .f32) : FVec Ideal S2x8192x2816 .f32 :=
  addf (addf (addf (row cb)
    (mulf (row (shapeCast S2816 (extractStridedSlice S1x2816 ![0, 0] cw slices_S3x2816_S1x2816_0_0) shapeCasts_S1x2816_S2816))
      (extractStridedSlice S2x8192x2816 ![0, 0, 0] (padded x w) slices_S2x8194x2816_S2x8192x2816_0_0_0)))
    (mulf (row (shapeCast S2816 (extractStridedSlice S1x2816 ![1, 0] cw slices_S3x2816_S1x2816_1_0) shapeCasts_S1x2816_S2816))
      (extractStridedSlice S2x8192x2816 ![0, 1, 0] (padded x w) slices_S2x8194x2816_S2x8192x2816_0_1_0)))
    (mulf (row (shapeCast S2816 (extractStridedSlice S1x2816 ![2, 0] cw slices_S3x2816_S1x2816_2_0) shapeCasts_S1x2816_S2816))
      (extractStridedSlice S2x8192x2816 ![0, 2, 0] (padded x w) slices_S2x8194x2816_S2x8192x2816_0_2_0))

/-- One number everywhere. -/
def all (b : BitVec 32) : FVec Ideal S2x8192x2816 .f32 := broadcastInDim S2x8192x2816 ![] bcast_S_S2x8192x2816 (constant S_ .f32 b)

/-- The smooth gate of a tensor, by the hyperbolic tangent. -/
def gelu (y : FVec Ideal S2x8192x2816 .f32) : FVec Ideal S2x8192x2816 .f32 :=
  mulf y (mulf (all 0x3F000000#32) (addf (all 0x3F800000#32)
    (Host.tanh (mulf (all 0x3F4C422A#32) (addf y (mulf (all 0x3D372713#32) (mulf (mulf y y) y)))))))

/-- The gated product. -/
def gated (x : FVec Ideal S2x8192x1024 .f32) (w : FVec Ideal S1024x5632 .f32) (cw : FVec Ideal S3x2816 .f32) (cb : FVec Ideal S2816 .f32) : FVec Ideal S2x8192x2816 .bf16 :=
  truncf .bf16 (mulf (gelu (conv x w cw cb)) (lin x w)) bitsLt_bf16_f32

/-- The reference's result. -/
def ref (x : FVec Ideal S2x8192x1024 .f32) (w : FVec Ideal S1024x5632 .f32) (cw : FVec Ideal S3x2816 .f32) (cb : FVec Ideal S2816 .f32) : FVec Ideal S16384x2816 .bf16 :=
  shapeCast S16384x2816 (gated x w cw cb) shapeCasts_S2x8192x2816_S16384x2816

/-- A padded row: nothing in the first two, then the product's rows. -/
theorem padded_at (x : FVec Ideal S2x8192x1024 .f32) (w : FVec Ideal S1024x5632 .f32) (p : Fin 2) (s : Fin 8194) (j : Fin 2816) :
    padded x w (ix3 p s j) = if h : 2 ≤ s.val then ∑ k : Fin 1024, x (ix3 p ⟨s.val - 2, by omega⟩ k) * w (ix2 k ⟨j.val, by omega⟩) else (0 : EReal) := by
  pointwise [padded, prod]
  have z : FloatOps.sitofp (F := Ideal) FTy.f32 0#32 = (0 : EReal) := by
    show (((0#32 : BitVec 32).toInt : ℝ) : EReal) = 0
    norm_num
  by_cases h : 2 ≤ s.val
  · rw [dif_pos ⟨h, by omega⟩, dif_pos h]
  · rw [dif_neg (fun h' => h h'.1), dif_neg h]; exact z

end Cert.Proof.Up

end
-- ==== Proof.Up.lean ====
/-
  The feed-forward's first product, its convolution and gate: the kernel's result array is the reference's.
-/
module

public import proofs.«01_k».proof.Proof.UpRef
public import proofs.«01_k».proof.Proof.Gen.Kernel3Ideal
public import proofs.«01_k».proof.Proof.Gen.Kernel3Ideal.Frame
public import proofs.«01_k».proof.Proof.Gen.Kernel3Ideal.Value
public import Idealize.ShloMosaic.Lib.Pipeline.ValueKit

@[expose] public section

set_option maxRecDepth 16384

noncomputable section

namespace Cert.Proof.Up

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Which block each window shows at a point. -/
theorem idx : ∀ t : Fin cfg0.N, win0_0.index t = ![t.val / 2, 0] ∧ win0_1.index t = ![t.val / 2 * 32 - 1, 0] ∧ win0_2.index t = ![0, t.val % 2]
    ∧ win0_3.index t = ![0, 2 + t.val % 2] ∧ win0_4.index t = ![0, t.val % 2] ∧ win0_5.index t = ![0, t.val % 2] ∧ win0_6.index t = ![t.val / 2, t.val % 2] :=
  (by decide +kernel : ∀ t : Fin grid0.N, _)

/-- The point's first coordinate. -/
theorem coord0 : ∀ t : Fin cfg0.N, (grid0.coords t 0).val = t.val / 2 := (by decide +kernel : ∀ t : Fin grid0.N, _)

/-- The halo is cleared exactly where a batch begins. -/
theorem clear_iff : ∀ i : Fin 32, Scalar.cmpi .eq (Scalar.remsi (Scalar.muli (BitVec.ofNat 32 i.val) 512#32) 8192#32) 0#32 = if i.val % 16 = 0 then 1#1 else 0#1 := by
  decide +kernel

/-- One shifted tap: the row `e` above, read across the halo, nothing above the batch. -/
theorem tap (x : FVec Ideal S2x8192x1024 .f32) (w : Fin 1024 → EReal) (b1 : BitVec 1) (a1 : FVec Ideal S16x1024 .bf16) (a0 : FVec Ideal S512x1024 .bf16)
    (w' : Fin 1024 → EReal) (p : Fin 2) (q : Nat) (hq : q + 512 ≤ 8192) (h16 : q = 0 ∨ 16 ≤ q) (hb : b1 = if q = 0 then 1#1 else 0#1)
    (e0 : ∀ (r : Fin 512) (k : Fin 1024), a0 (ix2 r k) = x (ix3 p ⟨q + r.val, by omega⟩ k))
    (e1 : 16 ≤ q → ∀ (r : Fin 16) (k : Fin 1024), a1 (ix2 r k) = x (ix3 p ⟨q - 16 + r.val, by omega⟩ k))
    (ew : ∀ k, w' k = w k) (e : Nat) (he : 1 ≤ e ∧ e ≤ 2) (r : Fin 512) :
    ∑ k : Fin 1024, (if h : (16 + r.val + 528 - e) % 528 < 16 then Scalar.select b1 (0 : EReal) (a1 (ix2 ⟨(16 + r.val + 528 - e) % 528, h⟩ k))
        else a0 (ix2 ⟨(16 + r.val + 528 - e) % 528 - 16, by omega⟩ k) : EReal) * w' k
      = if h : 2 ≤ q + r.val + (2 - e) then ∑ k : Fin 1024, x (ix3 p ⟨q + r.val + (2 - e) - 2, by omega⟩ k) * w k else (0 : EReal) := by
  obtain ⟨r, hr⟩ := r
  have l3 : ∀ k, (if h : (16 + r + 528 - e) % 528 < 16 then Scalar.select b1 (0 : EReal) (a1 (ix2 ⟨(16 + r + 528 - e) % 528, h⟩ k))
        else a0 (ix2 ⟨(16 + r + 528 - e) % 528 - 16, by omega⟩ k) : EReal)
      = if h : 2 ≤ q + r + (2 - e) then x (ix3 p ⟨q + r + (2 - e) - 2, by omega⟩ k) else (0 : EReal) := by
    intro k
    by_cases h : (16 + r + 528 - e) % 528 < 16
    · rw [dif_pos h]
      rcases h16 with h0 | h0
      · rw [dif_neg (by omega), hb, if_pos h0]; rfl
      · rw [dif_pos (by omega), hb, if_neg (by omega)]
        show a1 _ = _
        rw [e1 h0]
        congr 3
        all_goals (simp only [Fin.mk.injEq]; omega)
    · rw [dif_neg h, dif_pos (by omega)]
      rw [e0]
      congr 3
      all_goals (simp only [Fin.mk.injEq]; omega)
  rw [Finset.sum_congr rfl fun k _ => by rw [l3 k, ew k]]
  by_cases h : 2 ≤ q + r + (2 - e)
  · simp only [dif_pos h]
  · simp only [dif_neg h, zero_mul, Finset.sum_const_zero]

/-- One entry: equal inputs give equal outputs. -/
theorem entry_eq (i : grid0.Coords) (a1 : Vec Ideal S16x1024 .bf16) (a0 : Vec Ideal S512x1024 .bf16) (a2 a3 : Vec Ideal S1024x1408 .bf16)
    (a4 : Vec Ideal S3x1408 .f32) (a5 : Vec Ideal S1x1408 .f32)
    (x : FVec Ideal S2x8192x1024 .f32) (w : FVec Ideal S1024x5632 .f32) (cw : FVec Ideal S3x2816 .f32) (cb : FVec Ideal S2816 .f32)
    (p : Fin 2) (q : Nat) (hq : q + 512 ≤ 8192) (h16 : q = 0 ∨ 16 ≤ q)
    (hb : Scalar.cmpi .eq (Scalar.remsi (Scalar.muli (BitVec.ofNat 32 (i 0).val) 512#32) 8192#32) 0#32 = if q = 0 then 1#1 else 0#1)
    (e0 : ∀ (r : Fin 512) (k : Fin 1024), a0 (ix2 r k) = x (ix3 p ⟨q + r.val, by omega⟩ k))
    (e1 : 16 ≤ q → ∀ (r : Fin 16) (k : Fin 1024), a1 (ix2 r k) = x (ix3 p ⟨q - 16 + r.val, by omega⟩ k))
    (j : Fin 1408) (jj : Fin 2816)
    (e2 : ∀ k : Fin 1024, a2 (ix2 k j) = w (ix2 k ⟨jj.val, by omega⟩)) (e3 : ∀ k : Fin 1024, a3 (ix2 k j) = w (ix2 k ⟨2816 + jj.val, by omega⟩))
    (e4 : ∀ d : Fin 3, a4 (ix2 d j) = cw (ix2 d jj)) (e5 : a5 (ix2 0 j) = cb (ix1 jj)) (r : Fin 512) :
    k0_pay1 (k0_pay3 a0 a3) (k0_pay4 i a1 a0 a2 a4 a5) (k0_pay5 i a1 a0 a2 a4 a5) (ix2 r j)
      = gated x w cw cb (ix3 p ⟨q + r.val, by omega⟩ jj) := by
  have t0 : k0_pay3 a0 a3 (ix2 r j) = lin x w (ix3 p ⟨q + r.val, by omega⟩ jj) := by
    pointwise [k0_pay3, k0_pay2, lin, prod, e0, e3]
  have t1 : k0_pay4 i a1 a0 a2 a4 a5 (ix2 r j) = conv x w cw cb (ix3 p ⟨q + r.val, by omega⟩ jj) := by
    pointwise [k0_pay4, k0_pay2, conv, row, e4, e5]
    rw [padded_at, padded_at, padded_at]
    have u0 := tap x (fun k => w (ix2 k ⟨jj.val, by omega⟩)) _ a1 a0 (fun k => a2 (ix2 k j)) p q hq h16 hb e0 e1 e2 2 (by omega) r
    have u1 := tap x (fun k => w (ix2 k ⟨jj.val, by omega⟩)) _ a1 a0 (fun k => a2 (ix2 k j)) p q hq h16 hb e0 e1 e2 1 (by omega) r
    refine congrArg₂ (· + ·) (congrArg₂ (· + ·) (congrArg (cb (ix1 jj) + ·) (congrArg (cw (ix2 0 jj) * ·) ?_)) (congrArg (cw (ix2 1 jj) * ·) ?_)) (congrArg (cw (ix2 2 jj) * ·) ?_)
    · exact u0
    · refine u1.trans ?_
      simp only [show q + r.val + (2 - 1) = 1 + (q + r.val) by omega]
    · rw [dif_pos (by show 2 ≤ 2 + (q + r.val); omega)]
      refine Finset.sum_congr rfl fun k _ => ?_
      refine Ideal.mul_congr ?_ (e2 k)
      refine (e0 r k).trans ?_
      congr 3
      simp only [Fin.mk.injEq]; omega
  pointwise [k0_pay1, k0_pay5, gated, gelu, all, t0, t1]

section Blocks

variable (c : Dev nD) (t : Fin cfg0.N)

theorem lt64 : t.val < 64 := by have := t.isLt; have : cfg0.N = 64 := N_0; omega
/-- The batch of the point's rows. -/
def bat : Fin 2 := ⟨t.val / 32, by have := lt64 t; omega⟩
/-- The first of the point's rows in its batch. -/
def top : Nat := t.val / 2 % 16 * 512
/-- A column of the point's block in the array. -/
def col (j : Fin 1408) : Fin 2816 := ⟨t.val % 2 * 1408 + j.val, by omega⟩

theorem top_le : top t + 512 ≤ 8192 := by unfold top; omega
theorem top_or : top t = 0 ∨ 16 ≤ top t := by unfold top; omega

theorem blk0 (r : Fin 512) (k : Fin 1024) : iblk m c 0 t (ix2 r k) = m ((c : Thread nD τ).loc main_arg0) (ix3 (bat t) ⟨top t + r.val, by have := top_le t; omega⟩ k) := by
  have := lt64 t
  blk_point [iblk, V, idx t, bat, top]
theorem blk1 (h : 16 ≤ top t) (r : Fin 16) (k : Fin 1024) : iblk m c 1 t (ix2 r k) = m ((c : Thread nD τ).loc main_arg0) (ix3 (bat t) ⟨top t - 16 + r.val, by have := top_le t; omega⟩ k) := by
  have := lt64 t
  unfold top at h
  blk_point [iblk, V, idx t, bat, top]
theorem blk2 (k : Fin 1024) (j : Fin 1408) : iblk m c 2 t (ix2 k j) = m ((c : Thread nD τ).loc main_arg1) (ix2 k ⟨(col t j).val, by omega⟩) := by
  blk_point [iblk, V, idx t, col]
theorem blk3 (k : Fin 1024) (j : Fin 1408) : iblk m c 3 t (ix2 k j) = m ((c : Thread nD τ).loc main_arg1) (ix2 k ⟨2816 + (col t j).val, by omega⟩) := by
  blk_point [iblk, V, idx t, col]
theorem blk4 (d : Fin 3) (j : Fin 1408) : iblk m c 4 t (ix2 d j) = m ((c : Thread nD τ).loc main_arg2) (ix2 d (col t j)) := by
  blk_point [iblk, V, idx t, col]
theorem blk5 (j : Fin 1408) : iblk m c 5 t (ix2 0 j) = m ((c : Thread nD τ).loc main_arg3) (ix1 (col t j)) := by
  blk_point [iblk, V, idx t, col]

theorem clear : Scalar.cmpi .eq (Scalar.remsi (Scalar.muli (BitVec.ofNat 32 (grid0.coords t 0).val) 512#32) 8192#32) 0#32 = if top t = 0 then 1#1 else 0#1 := by
  rw [coord0 t]
  refine (clear_iff ⟨t.val / 2, by have := lt64 t; omega⟩).trans ?_
  unfold top
  by_cases h : t.val / 2 % 16 = 0
  · rw [if_pos h, if_pos (by omega)]
  · rw [if_neg h, if_neg (by omega)]

end Blocks

/-- The reference's result at the kernel's arguments. -/
def goal (c : Dev nD) : FVec Ideal S16384x2816 .bf16 :=
  ref (m ((c : Thread nD τ).loc main_arg0)) (m ((c : Thread nD τ).loc main_arg1)) (m ((c : Thread nD τ).loc main_arg2))
    (m ((c : Thread nD τ).loc main_arg3))

/-- What a point stores is the reference's value at the place of its block. -/
theorem point (c : Dev nD) (t : Fin cfg0.N) (y : S512x1408.Idx) :
    k0_pay1 (k0_pay3 (iblk m c 0 t) (iblk m c 3 t)) (k0_pay4 (grid0.coords t) (iblk m c 1 t) (iblk m c 0 t) (iblk m c 2 t) (iblk m c 4 t) (iblk m c 5 t))
        (k0_pay5 (grid0.coords t) (iblk m c 1 t) (iblk m c 0 t) (iblk m c 2 t) (iblk m c 4 t) (iblk m c 5 t)) y
      = goal m c (((cfg0.win 6).blk t).view.emb y) := by
  idx_vars y
  refine (entry_eq (grid0.coords t) _ _ _ _ _ _ _ _ _ _ (bat t) (top t) (top_le t) (top_or t) (clear t) (blk0 m c t) (blk1 m c t) y1 (col t y1)
    (fun k => blk2 m c t k y1) (fun k => blk3 m c t k y1) (fun d => blk4 m c t d y1) (blk5 m c t y1) y0).trans ?_
  unfold goal
  pointwise [ref]
  have := lt64 t
  blk_ext [idx t, bat, top, col]

/-- The result array after the run. -/
theorem final (c : Dev nD) : (dats m 0 c).arrAt 6 (cfgs 0).N = goal m c := by
  refine (dats m 0 c).arrAt_eq_of_covers 6 _ (by decide +kernel) fun t _ y => ?_
  blk_simp
  rw [after0_6]; frame_out
  exact point m c t y

end Cert.Proof.Up

end
-- ==== Proof.UpClaim.lean ====
/-
  The claims of this call: both programs run, end with equal results and leave their arguments as they were.
-/
module

public import proofs.«01_k».proof.Defs
public import proofs.«01_k».proof.Proof.Up
public import proofs.«01_k».proof.Proof.Gen.Kernel3
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Proof.Up

open Idealize.ShloMosaic Idealize.ShloMosaic.TcCoe Idealize.SL.Sem

/-- The kernel as printed runs and leaves its arguments. -/
theorem frameBits : Cert.quiescent_Kernel3 (hKernel3 := Cert.Kernel3.Gen.facts) := fun m ρ _ => Cert.Kernel3.Gen.frame m ρ

/-- The kernel over the extended reals runs and leaves its arguments. -/
theorem frameIdeal : Cert.quiescent_Kernel3Ideal (hKernel3Ideal := Cert.Kernel3Ideal.Gen.facts) := fun m ρ _ => Cert.Kernel3Ideal.Gen.frame m ρ

/-- The reference runs and leaves its arguments. -/
theorem frameRef : Cert.quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩)
    (Cert.Reference3Ideal.Value.run (F := Ideal) m ρ)

/-- Equal results. -/
theorem value : Cert.algebraic_Kernel3Ideal_Reference3Ideal (hKernel3Ideal := Cert.Kernel3Ideal.Gen.facts) (hReference3Ideal := Cert.Reference3Ideal.Gen.facts) := by
  intro m ρ m' ρ' _ hag
  refine ⟨fun c => goal m c, (θ_run _ _ _).mono (fun r h c => ⟨(h c).1.trans (final m c), (h c).2⟩) (Cert.Kernel3Ideal.Value.run_blocks m ρ),
    (θ_run _ _ _).mono (fun r h c => ⟨(h c).1.trans ?_, (h c).2⟩) (Cert.Reference3Ideal.Value.run (F := Ideal) m' ρ')⟩
  obtain ⟨h0, h1, h2, h3⟩ := hag c
  show ref (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = _
  rw [h0, h1, h2, h3]
  rfl

end Cert.Proof.Up

end
-- ==== Proof.OutARef.lean ====
/-
  The first layer's output product with its residual and layer norm: the reference's result as a few named tensors.
-/
module

public import proofs.«01_k».proof.Proof.Gen.Reference4Ideal
public import Idealize.ShloMosaic.PureOps.Ideal
public import Idealize.ShloMosaic.Lib.Pointwise

@[expose] public section

set_option maxRecDepth 16384

noncomputable section

namespace Cert.Proof.OutA

open Idealize.ShloMosaic Idealize.ShloMosaic.TcCoe
open Cert.Reference4Ideal Cert.Reference4Ideal.Gen

/-- Both heads' outputs side by side. -/
def both (oa ob : FVec Ideal S2x8192x512 .f32) : FVec Ideal S2x8192x1024 .f32 :=
  concatenate S2x8192x1024 2 [⟨S2x8192x512, oa⟩, ⟨S2x8192x512, ob⟩] concatenates_S2x8192x512_S2x8192x512_S2x8192x1024_d2

/-- The residual sum before the norm: the scaled input plus the product. -/
def pre (oa ob : FVec Ideal S2x8192x512 .f32) (w : FVec Ideal S1024x1024 .f32) (x : FVec Ideal S2x8192x1024 .f32) : FVec Ideal S2x8192x1024 .f32 :=
  addf (mulf (broadcastInDim S2x8192x1024 ![] bcast_S_S2x8192x1024 (constant S_ .f32 0x3FB504F3#32)) x)
    (Host.dotGeneral dot_S2x8192x1024_S1024x1024_S2x8192x1024_2_0_01_1_n_n none (both oa ob) w)

/-- The residual sum at a place, the product as two halves. -/
theorem pre_at (oa ob : FVec Ideal S2x8192x512 .f32) (w : FVec Ideal S1024x1024 .f32) (x : FVec Ideal S2x8192x1024 .f32)
    (p : Fin 2) (q : Fin 8192) (j : Fin 1024) :
    pre oa ob w x (ix3 p q j) = Ideal.ofBits .f32 0x3FB504F3#32 * x (ix3 p q j)
      + ((∑ k : Fin 512, oa (ix3 p q k) * w (ix2 ⟨k.val, by omega⟩ j)) + ∑ k : Fin 512, ob (ix3 p q k) * w (ix2 ⟨512 + k.val, by omega⟩ j)) := by
  pointwise [pre, both]

/-- The mean of each row. -/
def mean (y : FVec Ideal S2x8192x1024 .f32) : FVec Ideal S2x8192x1 .f32 :=
  Host.divf (broadcastInDim S2x8192x1 ![0, 1] bcast_S2x8192_S2x8192x1_0_1
      (Host.reduceAdd y (constant S_ .f32 0x00000000#32) reducesTo_S2x8192x1024_S2x8192_d2 h_S_))
    (broadcastInDim S2x8192x1 ![] bcast_S_S2x8192x1 (constant S_ .f32 0x44800000#32))

/-- A row less its mean. -/
def dev (y : FVec Ideal S2x8192x1024 .f32) : FVec Ideal S2x8192x1024 .f32 :=
  subf y (broadcastInDim S2x8192x1024 ![0, 1, 2] bcast_S2x8192x1_S2x8192x1024_0_1_2 (mean y))

/-- The reciprocal root of a row's variance. -/
def rstd (y : FVec Ideal S2x8192x1024 .f32) : FVec Ideal S2x8192x1 .f32 :=
  Host.rsqrt (addf (mean (mulf (dev y) (dev y))) (broadcastInDim S2x8192x1 ![] bcast_S_S2x8192x1 (constant S_ .f32 0x3727C5AC#32)))

/-- A length-1024 vector laid along every row. -/
def row (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- The normed rows. -/
def normed (oa ob : FVec Ideal S2x8192x512 .f32) (w : FVec Ideal S1024x1024 .f32) (x : FVec Ideal S2x8192x1024 .f32)
    (g : FVec Ideal S1024 .f32) (b : FVec Ideal S1024 .f32) : FVec Ideal S2x8192x1024 .f32 :=
  addf (mulf (mulf (dev (pre oa ob w x))
    (broadcastInDim S2x8192x1024 ![0, 1, 2] bcast_S2x8192x1_S2x8192x1024_0_1_2 (rstd (pre oa ob w x)))) (row g)) (row b)

/-- The reference's result. -/
def ref (oa ob : FVec Ideal S2x8192x512 .f32) (w : FVec Ideal S1024x1024 .f32) (x : FVec Ideal S2x8192x1024 .f32)
    (g : FVec Ideal S1024 .f32) (b : FVec Ideal S1024 .f32) : FVec Ideal S16384x1024 .f32 :=
  shapeCast S16384x1024 (normed oa ob w x g b) shapeCasts_S2x8192x1024_S16384x1024

/-- The reference's second result: the first one rounded. -/
def ref16 (oa ob : FVec Ideal S2x8192x512 .f32) (w : FVec Ideal S1024x1024 .f32) (x : FVec Ideal S2x8192x1024 .f32)
    (g : FVec Ideal S1024 .f32) (b : FVec Ideal S1024 .f32) : FVec Ideal S16384x1024 .bf16 :=
  truncf .bf16 (ref oa ob w x g b) bitsLt_bf16_f32

end Cert.Proof.OutA

end
-- ==== Proof.OutA.lean ====
/-
  The first layer's output product with its residual and layer norm: the kernel's result array is the reference's.

  A grid point handles 512 whole rows, so the comparison is row by row: the same sums over the same terms.
-/
module

public import proofs.«01_k».proof.Proof.OutARef
public import proofs.«01_k».proof.Proof.Gen.Kernel4Ideal
public import proofs.«01_k».proof.Proof.Gen.Kernel4Ideal.Frame
public import proofs.«01_k».proof.Proof.Gen.Kernel4Ideal.Value
public import Idealize.ShloMosaic.Lib.Pipeline.ValueKit

@[expose] public section

set_option maxRecDepth 16384

noncomputable section

namespace Cert.Proof.OutA

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Which block each window shows at a point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, _)

/-- The reference's result at the kernel's arguments. -/
def goal (c : Dev nD) : FVec Ideal S16384x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's second result at the kernel's arguments. -/
def goal16 (c : Dev nD) : FVec Ideal S16384x1024 .bf16 :=
  ref16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- One row: equal inputs give equal outputs. -/
theorem row_eq (a0 a1 : Vec Ideal S512x512 .bf16) (a2 a3 : Vec Ideal S512x1024 .bf16) (a4 : Vec Ideal S512x1024 .f32)
    (a5 a6 : Vec Ideal S1x1024 .f32) (oa ob : FVec Ideal S2x8192x512 .f32) (w : FVec Ideal S1024x1024 .f32)
    (x : FVec Ideal S2x8192x1024 .f32) (g b : FVec Ideal S1024 .f32) (i : Fin 512) (p : Fin 2) (q : Fin 8192)
    (e0 : ∀ k : Fin 512, a0 (ix2 i k) = oa (ix3 p q k)) (e1 : ∀ k : Fin 512, a1 (ix2 i k) = ob (ix3 p q k))
    (e2 : ∀ (k : Fin 512) (j : Fin 1024), a2 (ix2 k j) = w (ix2 ⟨k.val, by omega⟩ j))
    (e3 : ∀ (k : Fin 512) (j : Fin 1024), a3 (ix2 k j) = w (ix2 ⟨512 + k.val, by omega⟩ j))
    (e4 : ∀ j : Fin 1024, a4 (ix2 i j) = x (ix3 p q j)) (e5 : ∀ j : Fin 1024, a5 (ix2 0 j) = g (ix1 j))
    (e6 : ∀ j : Fin 1024, a6 (ix2 0 j) = b (ix1 j)) (j : Fin 1024) :
    k0_pay1 (k0_pay3 a6) (k0_pay4 a0 a2 a1 a3 a4) (k0_pay5 a5) (ix2 i j) = normed oa ob w x g b (ix3 p q j) := by
  pointwise [k0_pay1, k0_pay3, k0_pay4, k0_pay5, normed, mean, dev, rstd, row, e0, e1, e2, e3, e4, e5, e6]
  simp only [pre_at]

section Blocks

variable (c : Dev nD) (t : Fin cfg0.N)

/-- The batch a row of the point's block lies in. -/
def bat (i : Fin 512) : Fin 2 := ⟨(t.val * 512 + i.val) / 8192, by have := t.isLt; have : cfg0.N = 32 := N_0; omega⟩
/-- The position in its batch of a row of the point's block. -/
def pos (i : Fin 512) : Fin 8192 := ⟨(t.val * 512 + i.val) % 8192, by omega⟩

theorem blk0 (i : Fin 512) (k : Fin 512) : iblk m c 0 t (ix2 i k) = m ((c : Thread nD τ).loc main_arg0) (ix3 (bat t i) (pos t i) k) := by
  blk_point [iblk, V, idx t, bat, pos]
theorem blk1 (i : Fin 512) (k : Fin 512) : iblk m c 1 t (ix2 i k) = m ((c : Thread nD τ).loc main_arg1) (ix3 (bat t i) (pos t i) k) := by
  blk_point [iblk, V, idx t, bat, pos]
theorem blk2 (k : Fin 512) (j : Fin 1024) : iblk m c 2 t (ix2 k j) = m ((c : Thread nD τ).loc main_arg2) (ix2 ⟨k.val, by omega⟩ j) := by
  blk_point [iblk, V, idx t]
theorem blk3 (k : Fin 512) (j : Fin 1024) : iblk m c 3 t (ix2 k j) = m ((c : Thread nD τ).loc main_arg2) (ix2 ⟨512 + k.val, by omega⟩ j) := by
  blk_point [iblk, V, idx t]
theorem blk4 (i : Fin 512) (j : Fin 1024) : iblk m c 4 t (ix2 i j) = m ((c : Thread nD τ).loc main_arg3) (ix3 (bat t i) (pos t i) j) := by
  blk_point [iblk, V, idx t, bat, pos]
theorem blk5 (j : Fin 1024) : iblk m c 5 t (ix2 0 j) = m ((c : Thread nD τ).loc main_arg4) (ix1 j) := by
  blk_point [iblk, V, idx t]
theorem blk6 (j : Fin 1024) : iblk m c 6 t (ix2 0 j) = m ((c : Thread nD τ).loc main_arg5) (ix1 j) := by
  blk_point [iblk, V, idx t]

end Blocks

/-- What a point stores is the reference's value at the place of its block. -/
theorem point (c : Dev nD) (t : Fin cfg0.N) (y : S512x1024.Idx) :
    k0_pay1 (k0_pay3 (iblk m c 6 t)) (k0_pay4 (iblk m c 0 t) (iblk m c 2 t) (iblk m c 1 t) (iblk m c 3 t) (iblk m c 4 t)) (k0_pay5 (iblk m c 5 t)) y
      = goal m c (((cfg0.win 7).blk t).view.emb y) := by
  idx_vars y
  refine (row_eq _ _ _ _ _ _ _ _ _ _ _ _ _ y0 (bat t y0) (pos t y0) (blk0 m c t y0) (blk1 m c t y0) (blk2 m c t) (blk3 m c t) (blk4 m c t y0) (blk5 m c t) (blk6 m c t) y1).trans ?_
  unfold goal
  pointwise [ref]
  blk_ext [idx t, bat, pos]

/-- The result array after the run. -/
theorem final (c : Dev nD) : (dats m 0 c).arrAt 7 (cfgs 0).N = goal m c := by
  refine (dats m 0 c).arrAt_eq_of_covers 7 _ (by decide +kernel) fun t _ y => ?_
  blk_simp
  rw [after0_7]; unfold_out out0_7; frame_out
  exact point m c t y

/-- What a point stores in the second array. -/
theorem point16 (c : Dev nD) (t : Fin cfg0.N) (y : S512x1024.Idx) :
    k0_pay2 (k0_pay3 (iblk m c 6 t)) (k0_pay4 (iblk m c 0 t) (iblk m c 2 t) (iblk m c 1 t) (iblk m c 3 t) (iblk m c 4 t)) (k0_pay5 (iblk m c 5 t)) y
      = goal16 m c (((cfg0.win 8).blk t).view.emb y) := by
  have e : goal16 m c (((cfg0.win 8).blk t).view.emb y) = goal m c (((cfg0.win 7).blk t).view.emb y) := by
    unfold goal16 goal ref16
    show ref _ _ _ _ _ _ _ = _
    congr 1
  rw [e, ← point m c t y]
  rfl

/-- The second result array after the run. -/
theorem final16 (c : Dev nD) : (dats m 0 c).arrAt 8 (cfgs 0).N = goal16 m c := by
  refine (dats m 0 c).arrAt_eq_of_covers 8 _ (by decide +kernel) fun t _ y => ?_
  blk_simp
  rw [after0_8]; unfold_out out0_8; frame_out
  exact point16 m c t y

end Cert.Proof.OutA

end
-- ==== Proof.OutAClaim.lean ====
/-
  The claims of this call: both programs run, end with equal results and leave their arguments as they were.
-/
module

public import proofs.«01_k».proof.Defs
public import proofs.«01_k».proof.Proof.OutA
public import proofs.«01_k».proof.Proof.Gen.Kernel4
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Proof.OutA

open Idealize.ShloMosaic Idealize.ShloMosaic.TcCoe Idealize.SL.Sem

/-- The kernel as printed runs and leaves its arguments. -/
theorem frameBits : Cert.quiescent_Kernel4 (hKernel4 := Cert.Kernel4.Gen.facts) := fun m ρ _ => Cert.Kernel4.Gen.frame m ρ

/-- The kernel over the extended reals runs and leaves its arguments. -/
theorem frameIdeal : Cert.quiescent_Kernel4Ideal (hKernel4Ideal := Cert.Kernel4Ideal.Gen.facts) := fun m ρ _ => Cert.Kernel4Ideal.Gen.frame m ρ

/-- The reference runs and leaves its arguments. -/
theorem frameRef : Cert.quiescent_Reference4Ideal (hReference4Ideal := Cert.Reference4Ideal.Gen.facts) := fun m ρ _ =>
  (θ_run _ _ _).mono (fun r h => ⟨fun c => (h c).2.2, Idealize.ShloMosaic.sem_eq_zero_of_no_sems (by decide) r.2⟩)
    (Cert.Reference4Ideal.Value.run (F := Ideal) m ρ)

/-- Equal results. -/
theorem value : Cert.algebraic_Kernel4Ideal_Reference4Ideal (hKernel4Ideal := Cert.Kernel4Ideal.Gen.facts) (hReference4Ideal := Cert.Reference4Ideal.Gen.facts) := by
  intro m ρ m' ρ' _ hag
  refine ⟨fun c => goal m c, fun c => goal16 m c,
    (θ_run _ _ _).mono (fun r h c => ⟨(h c).1.trans (final m c), (h c).2.1.trans (final16 m c), (h c).2.2⟩) (Cert.Kernel4Ideal.Value.run_blocks m ρ),
    (θ_run _ _ _).mono (fun r h c => ⟨(h c).1.trans ?_, (h c).2.1.trans ?_, (h c).2.2⟩) (Cert.Reference4Ideal.Value.run (F := Ideal) m' ρ')⟩
  · obtain ⟨h0, h1, h2, h3, h4, h5⟩ := hag c
    show ref (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) = _
    rw [h0, h1, h2, h3, h4, h5]
    rfl
  · obtain ⟨h0, h1, h2, h3, h4, h5⟩ := hag c
    show ref16 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) = _
    rw [h0, h1, h2, h3, h4, h5]
    rfl

end Cert.Proof.OutA

end
-- ==== Proof.OutBRef.lean ====
/-
  The second layer's output product with its residual and layer norm: the reference's result as a few named tensors.
-/
module

public import proofs.«01_k».proof.Proof.Gen.Reference5Ideal
public import Idealize.ShloMosaic.PureOps.Ideal

@[expose] public section

set_option maxRecDepth 16384

noncomputable section

namespace Cert.Proof.OutB

open Idealize.ShloMosaic Idealize.ShloMosaic.TcCoe
open Cert.Reference5Ideal Cert.Reference5Ideal.Gen

/-- The residual sum before the norm: the scaled input plus the product. -/
def pre (h : FVec Ideal S2x8192x1024 .f32) (w : FVec Ideal S1024x1024 .f32) (x : FVec Ideal S2x8192x1024 .f32) : FVec Ideal S2x8192x1024 .f32 :=
  addf (mulf (broadcastInDim S2x8192x1024 ![] bcast_S_S2x8192x1024 (constant S_ .f32 0x3FB504F3#32)) x)
    (Host.dotGeneral dot_S2x8192x1024_S1024x1024_S2x8192x1024_2_0_01_1_n_n none h w)

/-- The mean of each row. -/
def mean (y : FVec Ideal S2x8192x1024 .f32) : FVec Ideal S2x8192x1 .f32 :=
  Host.divf (broadcastInDim S2x8192x1 ![0, 1] bcast_S2x8192_S2x8192x1_0_1
      (Host.reduceAdd y (constant S_ .f32 0x00000000#32) reducesTo_S2x8192x1024_S2x8192_d2 h_S_))
    (broadcastInDim S2x8192x1 ![] bcast_S_S2x8192x1 (constant S_ .f32 0x44800000#32))

/-- A row less its mean. -/
def dev (y : FVec Ideal S2x8192x1024 .f32) : FVec Ideal S2x8192x1024 .f32 :=
  subf y (broadcastInDim S2x8192x1024 ![0, 1, 2] bcast_S2x8192x1_S2x8192x1024_0_1_2 (mean y))

/-- The reciprocal root of a row's variance. -/
def rstd (y : FVec Ideal S2x8192x1024 .f32) : FVec Ideal S2x8192x1 .f32 :=
  Host.rsqrt (addf (mean (mulf (dev y) (dev y))) (broadcastInDim S2x8192x1 ![] bcast_S_S2x8192x1 (constant S_ .f32 0x3727C5AC#32)))

/-- A length-1024 vector laid along every row. -/
def row (g : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 g)

/-- The normed rows. -/
def normed (h : FVec Ideal S2x8192x1024 .f32) (w : FVec Ideal S1024x1024 .f32) (x : FVec Ideal S2x8192x1024 .f32)
    (g : FVec Ideal S1024 .f32) (b : FVec Ideal S1024 .f32) : FVec Ideal S2x8192x1024 .f32 :=
  addf (mulf (mulf (dev (pre h w x))
    (broadcastInDim S2x8192x1024 ![0, 1, 2] bcast_S2x8192x1_S2x8192x1024_0_1_2 (rstd (pre h w x)))) (row g)) (row b)

/-- The reference's result. -/
def ref (h : FVec Ideal S2x8192x1024 .f32) (w : FVec Ideal S1024x1024 .f32) (x : FVec Ideal S2x8192x1024 .f32)
    (g : FVec Ideal S1024 .f32) (b : FVec Ideal S1024 .f32) : FVec Ideal S16384x1024 .f32 :=
  shapeCast S16384x1024 (normed h w x g b) shapeCasts_S2x8192x1024_S16384x1024

/-- The reference's second result: the first one rounded. -/
def ref16 (h : FVec Ideal S2x8192x1024 .f32) (w : FVec Ideal S1024x1024 .f32) (x : FVec Ideal S2x8192x1024 .f32)
    (g : FVec Ideal S1024 .f32) (b : FVec Ideal S1024 .f32) : FVec Ideal S16384x1024 .bf16 :=
  truncf .bf16 (ref h w x g b) bitsLt_bf16_f32

end Cert.Proof.OutB

end
-- ==== Proof.OutB.lean ====
/-
  The second layer's output product with its residual and layer norm: the kernel's result array is the reference's.

  A grid point handles 512 whole rows, so the comparison is row by row: the same sums over the same terms.
-/
module

public import proofs.«01_k».proof.Proof.OutBRef
public import proofs.«01_k».proof.Proof.Gen.Kernel5Ideal
public import proofs.«01_k».proof.Proof.Gen.Kernel5Ideal.Frame
public import proofs.«01_k».proof.Proof.Gen.Kernel5Ideal.Value
public import Idealize.ShloMosaic.Lib.Pipeline.ValueKit

@[expose] public section

set_option maxRecDepth 16384

noncomputable section

namespace Cert.Proof.OutB

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- Which block each window shows at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The reference's result at the kernel's arguments. -/
def goal (c : Dev nD) : FVec Ideal S16384x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4))

/-- The reference's second result at the kernel's arguments. -/
def goal16 (c : Dev nD) : FVec Ideal S16384x1024 .bf16 :=
  ref16 (m ((c : Thread nD τ).loc main_arg0)) (m ((c : Thread nD τ).loc main_arg1)) (m ((c : Thread nD τ).loc main_arg2)) (m ((c : Thread nD τ).loc main_arg3)) (m ((c : Thread nD τ).loc main_arg4))

/-- One row: equal inputs give equal outputs. -/
theorem row_eq (a0 : Vec Ideal S512x1024 .bf16) (a1 : Vec Ideal S1024x1024 .bf16) (a2 : Vec Ideal S512x1024 .f32)
    (a3 a4 : Vec Ideal S1x1024 .f32) (h : FVec Ideal S2x8192x1024 .f32) (w : FVec Ideal S1024x1024 .f32)
    (x : FVec Ideal S2x8192x1024 .f32) (g b : FVec Ideal S1024 .f32) (i : Fin 512) (p : Fin 2) (q : Fin 8192)
    (e0 : ∀ k : Fin 1024, a0 (ix2 i k) = h (ix3 p q k)) (e1 : ∀ (k : Fin 1024) (j : Fin 1024), a1 (ix2 k j) = w (ix2 k j))
    (e2 : ∀ j : Fin 1024, a2 (ix2 i j) = x (ix3 p q j)) (e3 : ∀ j : Fin 1024, a3 (ix2 0 j) = g (ix1 j))
    (e4 : ∀ j : Fin 1024, a4 (ix2 0 j) = b (ix1 j)) (j : Fin 1024) :
    k0_pay1 a0 a1 a2 a3 a4 (ix2 i j) = normed h w x g b (ix3 p q j) := by
  pointwise [k0_pay1, normed, pre, mean, dev, rstd, row, e0, e1, e2, e3, e4]

section Blocks

variable (c : Dev nD) (t : Fin cfg0.N)

/-- The batch a row of the point's block lies in. -/
def bat (i : Fin 512) : Fin 2 := ⟨(t.val * 512 + i.val) / 8192, by have := t.isLt; have : cfg0.N = 32 := N_0; omega⟩
/-- The position in its batch of a row of the point's block. -/
def pos (i : Fin 512) : Fin 8192 := ⟨(t.val * 512 + i.val) % 8192, by omega⟩

theorem blk0 (i : Fin 512) (k : Fin 1024) : iblk m c 0 t (ix2 i k) = m ((c : Thread nD τ).loc main_arg0) (ix3 (bat t i) (pos t i) k) := by
  blk_point [iblk, V, idx t, bat, pos]
theorem blk1 (k : Fin 1024) (j : Fin 1024) : iblk m c 1 t (ix2 k j) = m ((c : Thread nD τ).loc main_arg1) (ix2 k j) := by
  blk_point [iblk, V, idx t]
theorem blk2 (i : Fin 512) (j : Fin 1024) : iblk m c 2 t (ix2 i j) = m ((c : Thread nD τ).loc main_arg2) (ix3 (bat t i) (pos t i) j) := by
  blk_point [iblk, V, idx t, bat, pos]
theorem blk3 (j : Fin 1024) : iblk m c 3 t (ix2 0 j) = m ((c : Thread nD τ).loc main_arg3) (ix1 j) := by
  blk_point [iblk, V, idx t]
theorem blk4 (j : Fin 1024) : iblk m c 4 t (ix2 0 j) = m ((c : Thread nD τ).loc main_arg4) (ix1 j) := by
  blk_point [iblk, V, idx t]

end Blocks

/-- What a point stores is the reference's value at the place of its block. -/
theorem point (c : Dev nD) (t : Fin cfg0.N) (y : S512x1024.Idx) :
    k0_pay1 (iblk m c 0 t) (iblk m c 1 t) (iblk m c 2 t) (iblk m c 3 t) (iblk m c 4 t) y
      = goal m c (((cfg0.win 5).blk t).view.emb y) := by
  idx_vars y
  refine (row_eq _ _ _ _ _ _ _ _ _ _ y0 (bat t y0) (pos t y0) (blk0 m c t y0) (blk1 m c t) (blk2 m c t y0) (blk3 m c t) (blk4 m c t) y1).trans ?_
  unfold goal
  pointwise [ref]
  blk_ext [idx t, bat, pos]

/-- The result array after the run. -/
theorem final (c : Dev nD) : (dats m 0 c).arrAt 5 (cfgs 0).N = goal m c := by
  refine (dats m 0 c).arrAt_eq_of_covers 5 _ (by decide +kernel) fun t _ y => ?_
  blk_simp
  rw [after0_5]; frame_out
  exact point m c t y

/-- What a point stores in the second array. -/
theorem point16 (c : Dev nD) (t : Fin cfg0.N) (y : S512x1024.Idx) :
    k0_pay2 (iblk m c 0 t) (iblk m c 1 t) (iblk m c 2 t) (iblk m c 3 t) (iblk m c 4 t) y
      = goal16 m c (((cfg0.win 6).blk t).view.emb y) := by
  have e : goal16 m c (((cfg0.win 6).blk t).view.emb y) = goal m c (((cfg0.win 5).blk t).view.emb y) := by
    unfold goal16 goal ref16
    show ref _ _ _ _ _ _ = _
    congr 1
  rw [e, ← point m c t y]
  rfl

/-- The second result array after the run. -/
theorem final16 (c : Dev nD) : (dats m 0 c).arrAt 6 (cfgs 0).N = goal16 m c := by
  refine (dats m 0 c).arrAt_eq_of_covers 6 _ (by decide +kernel) fun t _ y => ?_
  blk_simp
  rw [after0_6]; frame_out
  exact point16 m c t y

end Cert.Proof.OutB

end
-- ==== Proof.OutBClaim.lean ====
/-
  The claims of this call: both programs run, end with equal results and leave their arguments as they were.
-/
module

public import proofs.«01_k».proof.Defs
public import proofs.«01_k».proof.Proof.OutB
public import proofs.«01_k».proof.Proof.Gen.Kernel5
public import proofs.«01_k».proof.Proof.Gen.Kernel5.Frame
public import proofs.«01_k».proof.Proof.Gen.Reference5Ideal.Run
public import Idealize.ShloMosaic.Lib.Quiescent

@[expose] public section

set_option maxRecDepth 16384

noncomputable section

namespace Cert.Proof.OutB

open Idealize.ShloMosaic Idealize.ShloMosaic.TcCoe Idealize.SL.Sem

/-- The kernel as printed runs and leaves its arguments. -/
theorem frameBits : Cert.quiescent_Kernel5 (hKernel5 := Cert.Kernel5.Gen.facts) := fun m ρ _ => Cert.Kernel5.Gen.frame m ρ

/-- The kernel over the extended reals runs and leaves its arguments. -/
theorem frameIdeal : Cert.quiescent_Kernel5Ideal (hKernel5Ideal := Cert.Kernel5Ideal.Gen.facts) := fun m ρ _ => Cert.Kernel5Ideal.Gen.frame m ρ

/-- The reference runs and leaves its arguments. -/
theorem frameRef : Cert.quiescent_Reference5Ideal (hReference5Ideal := Cert.Reference5Ideal.Gen.facts) := fun m ρ _ =>
  (θ_run _ _ _).mono (fun r h => ⟨fun c => (h c).2.2, Idealize.ShloMosaic.sem_eq_zero_of_no_sems (by decide) r.2⟩)
    (Cert.Reference5Ideal.Value.run (F := Ideal) m ρ)

/-- Equal results. -/
theorem value : Cert.algebraic_Kernel5Ideal_Reference5Ideal (hKernel5Ideal := Cert.Kernel5Ideal.Gen.facts) (hReference5Ideal := Cert.Reference5Ideal.Gen.facts) := by
  intro m ρ m' ρ' _ hag
  refine ⟨fun c => goal m c, fun c => goal16 m c,
    (θ_run _ _ _).mono (fun r h c => ⟨(h c).1.trans (final m c), (h c).2.1.trans (final16 m c), (h c).2.2⟩) (Cert.Kernel5Ideal.Value.run_blocks m ρ),
    (θ_run _ _ _).mono (fun r h c => ⟨(h c).1.trans ?_, (h c).2.1.trans ?_, (h c).2.2⟩) (Cert.Reference5Ideal.Value.run (F := Ideal) m' ρ')⟩
  · obtain ⟨h0, h1, h2, h3, h4⟩ := hag c
    show ref (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h1, h2, h3, h4]
    rfl
  · obtain ⟨h0, h1, h2, h3, h4⟩ := hag c
    show ref16 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h1, h2, h3, h4]
    rfl

end Cert.Proof.OutB

end
-- ==== Proof.InQkvRef.lean ====
/-
  The first layer's query, key and value projection: the reference's result as named tensors.
-/
module

public import proofs.«01_k».proof.Proof.Gen.Reference6Ideal
public import Idealize.ShloMosaic.PureOps.Ideal
public import Idealize.ShloMosaic.Lib.Pointwise

@[expose] public section

set_option maxRecDepth 16384

noncomputable section

namespace Cert.Proof.InQkv

open Idealize.ShloMosaic Idealize.ShloMosaic.TcCoe
open Cert.Reference6Ideal Cert.Reference6Ideal.Gen

/-- The product of the input with the whole weight. -/
def prod (x : FVec Ideal S2x8192x1024 .f32) (w : FVec Ideal S1024x3080 .f32) : FVec Ideal S2x8192x3080 .f32 :=
  Host.dotGeneral dot_S2x8192x1024_S1024x3080_S2x8192x3080_2_0_01_1_n_n none x w

/-- The columns this call computes. -/
def part (x : FVec Ideal S2x8192x1024 .f32) (w : FVec Ideal S1024x3080 .f32) : FVec Ideal S2x8192x3072 .bf16 :=
  truncf .bf16 (extractStridedSlice S2x8192x3072 ![0, 0, 0] (prod x w) slices_S2x8192x3080_S2x8192x3072_0_0_0) bitsLt_bf16_f32

/-- The reference's result. -/
def ref (x : FVec Ideal S2x8192x1024 .f32) (w : FVec Ideal S1024x3080 .f32) : FVec Ideal S16384x3072 .bf16 :=
  shapeCast S16384x3072 (part x w) shapeCasts_S2x8192x3072_S16384x3072

end Cert.Proof.InQkv

end
-- ==== Proof.InQkv.lean ====
/-
  The first layer's query, key and value projection: the kernel's result array is the reference's.
-/
module

public import proofs.«01_k».proof.Proof.InQkvRef
public import proofs.«01_k».proof.Proof.Gen.Kernel6Ideal
public import proofs.«01_k».proof.Proof.Gen.Kernel6Ideal.Frame
public import proofs.«01_k».proof.Proof.Gen.Kernel6Ideal.Value
public import Idealize.ShloMosaic.Lib.Pipeline.ValueKit

@[expose] public section

set_option maxRecDepth 16384

noncomputable section

namespace Cert.Proof.InQkv

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- Which block each window shows at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The weight's entry behind a column of the result. -/
def wcol (w : FVec Ideal S1024x3080 .f32) (k : Fin 1024) (j : Fin 3072) : EReal :=
  w (ix2 k ⟨j.val, by omega⟩)

/-- The reference's value at a place. -/
theorem part_at (x : FVec Ideal S2x8192x1024 .f32) (w : FVec Ideal S1024x3080 .f32) (p : Fin 2) (q : Fin 8192) (j : Fin 3072) :
    part x w (ix3 p q j) = ∑ k : Fin 1024, x (ix3 p q k) * wcol w k j := by
  pointwise [part, prod, wcol]

/-- One entry: equal inputs give equal outputs. -/
theorem entry_eq (a0 : Vec Ideal S1024x1024 .bf16) (a1 : Vec Ideal S1024x1536 .bf16) (x : FVec Ideal S2x8192x1024 .f32) (w : FVec Ideal S1024x3080 .f32)
    (i : Fin 1024) (j : Fin 1536) (p : Fin 2) (q : Fin 8192) (jj : Fin 3072)
    (e0 : ∀ k : Fin 1024, a0 (ix2 i k) = x (ix3 p q k)) (e1 : ∀ k : Fin 1024, a1 (ix2 k j) = wcol w k jj) :
    k0_pay1 a0 a1 (ix2 i j) = part x w (ix3 p q jj) := by
  rw [part_at]
  pointwise [k0_pay1, e0, e1]

section Blocks

variable (c : Dev nD) (t : Fin cfg0.N)

theorem lt : t.val < 32 := by have := t.isLt; have : cfg0.N = 32 := N_0; omega
/-- The batch a row of the point's block lies in. -/
def bat (i : Fin 1024) : Fin 2 := ⟨(t.val / 2 * 1024 + i.val) / 8192, by have := lt t; omega⟩
/-- The position in its batch of a row of the point's block. -/
def pos (i : Fin 1024) : Fin 8192 := ⟨(t.val / 2 * 1024 + i.val) % 8192, by omega⟩
/-- A column of the point's block in the array. -/
def col (j : Fin 1536) : Fin 3072 := ⟨t.val % 2 * 1536 + j.val, by omega⟩

theorem blk0 (i : Fin 1024) (k : Fin 1024) : iblk m c 0 t (ix2 i k) = m ((c : Thread nD τ).loc main_arg0) (ix3 (bat t i) (pos t i) k) := by
  have := lt t
  blk_point [iblk, V, idx t, bat, pos]
theorem blk1 (k : Fin 1024) (j : Fin 1536) : iblk m c 1 t (ix2 k j) = wcol (m ((c : Thread nD τ).loc main_arg1)) k (col t j) := by
  blk_point [iblk, V, idx t, col, wcol]

end Blocks

/-- The reference's result at the kernel's arguments. -/
def goal (c : Dev nD) : FVec Ideal S16384x3072 .bf16 :=
  ref (m ((c : Thread nD τ).loc main_arg0)) (m ((c : Thread nD τ).loc main_arg1))

/-- What a point stores is the reference's value at the place of its block. -/
theorem point (c : Dev nD) (t : Fin cfg0.N) (y : S1024x1536.Idx) :
    k0_pay1 (iblk m c 0 t) (iblk m c 1 t) y = goal m c (((cfg0.win 2).blk t).view.emb y) := by
  idx_vars y
  refine (entry_eq _ _ _ _ y0 y1 (bat t y0) (pos t y0) (col t y1) (blk0 m c t y0) (fun k => blk1 m c t k y1)).trans ?_
  unfold goal
  pointwise [ref]
  have := lt t
  blk_ext [idx t, bat, pos, col]

/-- The result array after the run. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Proof.InQkv

end
-- ==== Proof.InQkvClaim.lean ====
/-
  The claims of this call: both programs run, end with equal results and leave their arguments as they were.
-/
module

public import proofs.«01_k».proof.Defs
public import proofs.«01_k».proof.Proof.InQkv
public import proofs.«01_k».proof.Proof.Gen.Kernel6
public import proofs.«01_k».proof.Proof.Gen.Kernel6.Frame
public import proofs.«01_k».proof.Proof.Gen.Reference6Ideal.Run
public import Idealize.ShloMosaic.Lib.Quiescent

@[expose] public section

set_option maxRecDepth 16384

noncomputable section

namespace Cert.Proof.InQkv

open Idealize.ShloMosaic Idealize.ShloMosaic.TcCoe Idealize.SL.Sem

/-- The kernel as printed runs and leaves its arguments. -/
theorem frameBits : Cert.quiescent_Kernel6 (hKernel6 := Cert.Kernel6.Gen.facts) := fun m ρ _ => Cert.Kernel6.Gen.frame m ρ

/-- The kernel over the extended reals runs and leaves its arguments. -/
theorem frameIdeal : Cert.quiescent_Kernel6Ideal (hKernel6Ideal := Cert.Kernel6Ideal.Gen.facts) := fun m ρ _ => Cert.Kernel6Ideal.Gen.frame m ρ

/-- The reference runs and leaves its arguments. -/
theorem frameRef : Cert.quiescent_Reference6Ideal (hReference6Ideal := Cert.Reference6Ideal.Gen.facts) := fun m ρ _ =>
  (θ_run _ _ _).mono (fun r h => ⟨fun c => (h c).2, Idealize.ShloMosaic.sem_eq_zero_of_no_sems (by decide) r.2⟩)
    (Cert.Reference6Ideal.Value.run (F := Ideal) m ρ)

/-- Equal results. -/
theorem value : Cert.algebraic_Kernel6Ideal_Reference6Ideal (hKernel6Ideal := Cert.Kernel6Ideal.Gen.facts) (hReference6Ideal := Cert.Reference6Ideal.Gen.facts) := by
  intro m ρ m' ρ' _ hag
  refine ⟨fun c => goal m c, (θ_run _ _ _).mono (fun r h c => ⟨(h c).1.trans (final m c), (h c).2⟩) (Cert.Kernel6Ideal.Value.run_blocks m ρ),
    (θ_run _ _ _).mono (fun r h c => ⟨(h c).1.trans ?_, (h c).2⟩) (Cert.Reference6Ideal.Value.run (F := Ideal) m' ρ')⟩
  obtain ⟨h0, h1⟩ := hag c
  show ref (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = _
  rw [h0, h1]
  rfl

end Cert.Proof.InQkv

end
-- ==== Proof.InQRef.lean ====
/-
  The second layer's query projection: the reference's result as named tensors.
-/
module

public import proofs.«01_k».proof.Proof.Gen.Reference7Ideal
public import Idealize.ShloMosaic.PureOps.Ideal
public import Idealize.ShloMosaic.Lib.Pointwise

@[expose] public section

set_option maxRecDepth 16384

noncomputable section

namespace Cert.Proof.InQ

open Idealize.ShloMosaic Idealize.ShloMosaic.TcCoe
open Cert.Reference7Ideal Cert.Reference7Ideal.Gen

/-- The product of the input with the whole weight. -/
def prod (x : FVec Ideal S2x8192x1024 .f32) (w : FVec Ideal S1024x5456 .f32) : FVec Ideal S2x8192x5456 .f32 :=
  Host.dotGeneral dot_S2x8192x1024_S1024x5456_S2x8192x5456_2_0_01_1_n_n none x w

/-- The columns this call computes. -/
def part (x : FVec Ideal S2x8192x1024 .f32) (w : FVec Ideal S1024x5456 .f32) : FVec Ideal S2x8192x4096 .bf16 :=
  truncf .bf16 (extractStridedSlice S2x8192x4096 ![0, 0, 0] (prod x w) slices_S2x8192x5456_S2x8192x4096_0_0_0) bitsLt_bf16_f32

/-- The reference's result. -/
def ref (x : FVec Ideal S2x8192x1024 .f32) (w : FVec Ideal S1024x5456 .f32) : FVec Ideal S16384x4096 .bf16 :=
  shapeCast S16384x4096 (part x w) shapeCasts_S2x8192x4096_S16384x4096

end Cert.Proof.InQ

end
-- ==== Proof.InQ.lean ====
/-
  The second layer's query projection: the kernel's result array is the reference's.
-/
module

public import proofs.«01_k».proof.Proof.InQRef
public import proofs.«01_k».proof.Proof.Gen.Kernel7Ideal
public import proofs.«01_k».proof.Proof.Gen.Kernel7Ideal.Frame
public import proofs.«01_k».proof.Proof.Gen.Kernel7Ideal.Value
public import Idealize.ShloMosaic.Lib.Pipeline.ValueKit

@[expose] public section

set_option maxRecDepth 16384

noncomputable section

namespace Cert.Proof.InQ

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- Which block each window shows at a point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The weight's entry behind a column of the result. -/
def wcol (w : FVec Ideal S1024x5456 .f32) (k : Fin 1024) (j : Fin 4096) : EReal :=
  w (ix2 k ⟨j.val, by omega⟩)

/-- The reference's value at a place. -/
theorem part_at (x : FVec Ideal S2x8192x1024 .f32) (w : FVec Ideal S1024x5456 .f32) (p : Fin 2) (q : Fin 8192) (j : Fin 4096) :
    part x w (ix3 p q j) = ∑ k : Fin 1024, x (ix3 p q k) * wcol w k j := by
  pointwise [part, prod, wcol]

/-- One entry: equal inputs give equal outputs. -/
theorem entry_eq (a0 : Vec Ideal S1024x1024 .bf16) (a1 : Vec Ideal S1024x1024 .bf16) (x : FVec Ideal S2x8192x1024 .f32) (w : FVec Ideal S1024x5456 .f32)
    (i : Fin 1024) (j : Fin 1024) (p : Fin 2) (q : Fin 8192) (jj : Fin 4096)
    (e0 : ∀ k : Fin 1024, a0 (ix2 i k) = x (ix3 p q k)) (e1 : ∀ k : Fin 1024, a1 (ix2 k j) = wcol w k jj) :
    k0_pay1 a0 a1 (ix2 i j) = part x w (ix3 p q jj) := by
  rw [part_at]
  pointwise [k0_pay1, e0, e1]

section Blocks

variable (c : Dev nD) (t : Fin cfg0.N)

theorem lt : t.val < 64 := by have := t.isLt; have : cfg0.N = 64 := N_0; omega
/-- The batch a row of the point's block lies in. -/
def bat (i : Fin 1024) : Fin 2 := ⟨(t.val / 4 * 1024 + i.val) / 8192, by have := lt t; omega⟩
/-- The position in its batch of a row of the point's block. -/
def pos (i : Fin 1024) : Fin 8192 := ⟨(t.val / 4 * 1024 + i.val) % 8192, by omega⟩
/-- A column of the point's block in the array. -/
def col (j : Fin 1024) : Fin 4096 := ⟨t.val % 4 * 1024 + j.val, by omega⟩

theorem blk0 (i : Fin 1024) (k : Fin 1024) : iblk m c 0 t (ix2 i k) = m ((c : Thread nD τ).loc main_arg0) (ix3 (bat t i) (pos t i) k) := by
  have := lt t
  blk_point [iblk, V, idx t, bat, pos]
theorem blk1 (k : Fin 1024) (j : Fin 1024) : iblk m c 1 t (ix2 k j) = wcol (m ((c : Thread nD τ).loc main_arg1)) k (col t j) := by
  blk_point [iblk, V, idx t, col, wcol]

end Blocks

/-- The reference's result at the kernel's arguments. -/
def goal (c : Dev nD) : FVec Ideal S16384x4096 .bf16 :=
  ref (m ((c : Thread nD τ).loc main_arg0)) (m ((c : Thread nD τ).loc main_arg1))

/-- What a point stores is the reference's value at the place of its block. -/
theorem point (c : Dev nD) (t : Fin cfg0.N) (y : S1024x1024.Idx) :
    k0_pay1 (iblk m c 0 t) (iblk m c 1 t) y = goal m c (((cfg0.win 2).blk t).view.emb y) := by
  idx_vars y
  refine (entry_eq _ _ _ _ y0 y1 (bat t y0) (pos t y0) (col t y1) (blk0 m c t y0) (fun k => blk1 m c t k y1)).trans ?_
  unfold goal
  pointwise [ref]
  have := lt t
  blk_ext [idx t, bat, pos, col]

/-- The result array after the run. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Proof.InQ

end
-- ==== Proof.InQClaim.lean ====
/-
  The claims of this call: both programs run, end with equal results and leave their arguments as they were.
-/
module

public import proofs.«01_k».proof.Defs
public import proofs.«01_k».proof.Proof.InQ
public import proofs.«01_k».proof.Proof.Gen.Kernel7
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.Proof.InQ

open Idealize.ShloMosaic Idealize.ShloMosaic.TcCoe Idealize.SL.Sem

/-- The kernel as printed runs and leaves its arguments. -/
theorem frameBits : Cert.quiescent_Kernel7 (hKernel7 := Cert.Kernel7.Gen.facts) := fun m ρ _ => Cert.Kernel7.Gen.frame m ρ

/-- The kernel over the extended reals runs and leaves its arguments. -/
theorem frameIdeal : Cert.quiescent_Kernel7Ideal (hKernel7Ideal := Cert.Kernel7Ideal.Gen.facts) := fun m ρ _ => Cert.Kernel7Ideal.Gen.frame m ρ

/-- The reference runs and leaves its arguments. -/
theorem frameRef : Cert.quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩)
    (Cert.Reference7Ideal.Value.run (F := Ideal) m ρ)

/-- Equal results. -/
theorem value : Cert.algebraic_Kernel7Ideal_Reference7Ideal (hKernel7Ideal := Cert.Kernel7Ideal.Gen.facts) (hReference7Ideal := Cert.Reference7Ideal.Gen.facts) := by
  intro m ρ m' ρ' _ hag
  refine ⟨fun c => goal m c, (θ_run _ _ _).mono (fun r h c => ⟨(h c).1.trans (final m c), (h c).2⟩) (Cert.Kernel7Ideal.Value.run_blocks m ρ),
    (θ_run _ _ _).mono (fun r h c => ⟨(h c).1.trans ?_, (h c).2⟩) (Cert.Reference7Ideal.Value.run (F := Ideal) m' ρ')⟩
  obtain ⟨h0, h1⟩ := hag c
  show ref (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) = _
  rw [h0, h1]
  rfl

end Cert.Proof.InQ

end
-- ==== Proof.InKidxRef.lean ====
/-
  The second layer's indexer, latent and rotary projection: the reference's result as named tensors.
-/
module

public import proofs.«01_k».proof.Proof.Gen.Reference8Ideal
public import Idealize.ShloMosaic.PureOps.Ideal
public import Idealize.ShloMosaic.Lib.Pointwise

@[expose] public section

set_option maxRecDepth 16384

noncomputable section

namespace Cert.Proof.InKidx

open Idealize.ShloMosaic Idealize.ShloMosaic.TcCoe
open Cert.Reference8Ideal Cert.Reference8Ideal.Gen

/-- The product of the input with the whole weight. -/
def prod (x : FVec Ideal S2x8192x1024 .f32) (w : FVec Ideal S1024x5456 .f32) : FVec Ideal S2x8192x5456 .f32 :=
  Host.dotGeneral dot_S2x8192x1024_S1024x5456_S2x8192x5456_2_0_01_1_n_n none x w

/-- The columns this call computes. -/
def part (x : FVec Ideal S2x8192x1024 .f32) (w : FVec Ideal S1024x5456 .f32) : FVec Ideal S2x8192x1408 .f32 :=
  concatenate S2x8192x1408 2 [⟨S2x8192x1024, (extractStridedSlice S2x8192x1024 ![0, 0, 4352] (prod x w) slices_S2x8192x5456_S2x8192x1024_0_0_4352 : FVec Ideal S2x8192x1024 .f32)⟩,
    ⟨S2x8192x256, (extractStridedSlice S2x8192x256 ![0, 0, 4096] (prod x w) slices_S2x8192x5456_S2x8192x256_0_0_4096 : FVec Ideal S2x8192x256 .f32)⟩,
    ⟨S2x8192x80, (extractStridedSlice S2x8192x80 ![0, 0, 5376] (prod x w) slices_S2x8192x5456_S2x8192x80_0_0_5376 : FVec Ideal S2x8192x80 .f32)⟩,
    ⟨S2x8192x48, (broadcastInDim S2x8192x48 ![] bcast_S_S2x8192x48 (constant S_ .f32 0x00000000#32) : FVec Ideal S2x8192x48 .f32)⟩]
    concatenates_S2x8192x1024_S2x8192x256_S2x8192x80_S2x8192x48_S2x8192x1408_d2

/-- The reference's result. -/
def ref (x : FVec Ideal S2x8192x1024 .f32) (w : FVec Ideal S1024x5456 .f32) : FVec Ideal S16384x1408 .f32 :=
  shapeCast S16384x1408 (part x w) shapeCasts_S2x8192x1408_S16384x1408

end Cert.Proof.InKidx

end
-- ==== Proof.InKidx.lean ====
/-
  The second layer's indexer, latent and rotary projection: the kernel's result array is the reference's.
-/
module

public import proofs.«01_k».proof.Proof.InKidxRef
public import proofs.«01_k».proof.Proof.Gen.Kernel8Ideal
public import proofs.«01_k».proof.Proof.Gen.Kernel8Ideal.Frame
public import proofs.«01_k».proof.Proof.Gen.Kernel8Ideal.Value
public import Idealize.ShloMosaic.Lib.Pipeline.ValueKit

@[expose] public section

set_option maxRecDepth 16384

noncomputable section

namespace Cert.Proof.InKidx

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- Which block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The weight's entry behind a column of the result. -/
def wcol (w : FVec Ideal S1024x5456 .f32) (k : Fin 1024) (j : Fin 1408) : EReal :=
  if h : j.val < 1024 then w (ix2 k ⟨4352 + j.val, by omega⟩) else if h2 : j.val - 1024 < 256 then w (ix2 k ⟨4096 + (j.val - 1024), by omega⟩)
    else if h3 : j.val - 1024 - 256 < 80 then w (ix2 k ⟨5376 + (j.val - 1024 - 256), by omega⟩) else 0

/-- The reference's value at a place. -/
theorem part_at (x : FVec Ideal S2x8192x1024 .f32) (w : FVec Ideal S1024x5456 .f32) (p : Fin 2) (q : Fin 8192) (j : Fin 1408) :
    part x w (ix3 p q j) = ∑ k : Fin 1024, x (ix3 p q k) * wcol w k j := by
  pointwise [part, prod, wcol]
  by_cases h1 : j.val < 1024
  · simp only [dif_pos h1]
  by_cases h2 : j.val - 1024 < 256
  · simp only [dif_neg h1, dif_pos h2]
  by_cases h3 : j.val - 1024 - 256 < 80
  · simp only [dif_neg h1, dif_neg h2, dif_pos h3]
  · simp only [dif_neg h1, dif_neg h2, dif_neg h3, mul_zero, Finset.sum_const_zero]

/-- One entry: equal inputs give equal outputs. -/
theorem entry_eq (a0 : Vec Ideal S512x1024 .bf16) (a1 : Vec Ideal S1024x1408 .bf16) (x : FVec Ideal S2x8192x1024 .f32) (w : FVec Ideal S1024x5456 .f32)
    (i : Fin 512) (j : Fin 1408) (p : Fin 2) (q : Fin 8192) (jj : Fin 1408)
    (e0 : ∀ k : Fin 1024, a0 (ix2 i k) = x (ix3 p q k)) (e1 : ∀ k : Fin 1024, a1 (ix2 k j) = wcol w k jj) :
    k0_pay1 a0 a1 (ix2 i j) = part x w (ix3 p q jj) := by
  rw [part_at]
  pointwise [k0_pay1, e0, e1]

/-- The input's rows, both batches in one run of rows. -/
theorem rows (x : FVec Ideal S2x8192x1024 .f32) (r : Fin 16384) (k : Fin 1024) :
    shapeCast S16384x1024 x shapeCasts_S2x8192x1024_S16384x1024 (ix2 r k) = x (ix3 ⟨r.val / 8192, by omega⟩ ⟨r.val % 8192, by omega⟩ k) := by
  pointwise

/-- The rows the kernel reads, as the host prepares them. -/
theorem inX (c : Dev nD) : V m c main_v1 = (truncf .bf16 (shapeCast S16384x1024 (m ((c : Thread nD τ).loc main_arg0) : FVec Ideal S2x8192x1024 .f32) shapeCasts_S2x8192x1024_S16384x1024) bitsLt_bf16_f32 : FVec Ideal S16384x1024 .bf16) := by
  simp only [V, List.flatten_cons, List.flatten_nil, List.append_nil, List.cons_append, List.nil_append]
  after_results_simp <;> rfl

/-- The weight the kernel reads, as the host prepares it. -/
theorem inW (c : Dev nD) : V m c main_v7 = (truncf .bf16 (concatenate S1024x1408 1 [⟨S1024x1024, (extractStridedSlice S1024x1024 ![0, 4352] (m ((c : Thread nD τ).loc main_arg1) : FVec Ideal S1024x5456 .f32) slices_S1024x5456_S1024x1024_0_4352 : FVec Ideal S1024x1024 .f32)⟩,
    ⟨S1024x256, (extractStridedSlice S1024x256 ![0, 4096] (m ((c : Thread nD τ).loc main_arg1) : FVec Ideal S1024x5456 .f32) slices_S1024x5456_S1024x256_0_4096 : FVec Ideal S1024x256 .f32)⟩,
    ⟨S1024x80, (extractStridedSlice S1024x80 ![0, 5376] (m ((c : Thread nD τ).loc main_arg1) : FVec Ideal S1024x5456 .f32) slices_S1024x5456_S1024x80_0_5376 : FVec Ideal S1024x80 .f32)⟩,
    ⟨S1024x48, (broadcastInDim S1024x48 ![] bcast_S_S1024x48 (constant S_ .f32 0x00000000#32) : FVec Ideal S1024x48 .f32)⟩]
    concatenates_S1024x1024_S1024x256_S1024x80_S1024x48_S1024x1408_d1 : FVec Ideal S1024x1408 .f32) bitsLt_bf16_f32 : FVec Ideal S1024x1408 .bf16) := by
  simp only [V, List.flatten_cons, List.flatten_nil, List.append_nil, List.cons_append, List.nil_append]
  after_results_simp <;> rfl

section Blocks

variable (c : Dev nD) (t : Fin cfg0.N)

theorem lt : t.val < 32 := by have := t.isLt; have : cfg0.N = 32 := N_0; omega
/-- The batch a row of the point's block lies in. -/
def bat (i : Fin 512) : Fin 2 := ⟨(t.val * 512 + i.val) / 8192, by have := lt t; omega⟩
/-- The position in its batch of a row of the point's block. -/
def pos (i : Fin 512) : Fin 8192 := ⟨(t.val * 512 + i.val) % 8192, by omega⟩
/-- A column of the point's block in the array. -/
def col (t : Fin cfg0.N) (j : Fin 1408) : Fin 1408 := ⟨j.val, by omega⟩

theorem blk0 (i : Fin 512) (k : Fin 1024) : iblk m c 0 t (ix2 i k) = m ((c : Thread nD τ).loc main_arg0) (ix3 (bat t i) (pos t i) k) := by
  have := lt t
  show V m c main_v1 (((cfg0.win 0).blk t).view.emb (ix2 i k)) = _
  have e : ((cfg0.win 0).blk t).view.emb (ix2 i k) = ix2 ⟨t.val * 512 + i.val, by omega⟩ k := by blk_ext [idx t]
  rw [inX, e]
  exact rows _ _ k
theorem blk1 (k : Fin 1024) (j : Fin 1408) : iblk m c 1 t (ix2 k j) = wcol (m ((c : Thread nD τ).loc main_arg1)) k (col t j) := by
  have := lt t
  show V m c main_v7 (((cfg0.win 1).blk t).view.emb (ix2 k j)) = _
  have e : ((cfg0.win 1).blk t).view.emb (ix2 k j) = ix2 k j := by blk_ext [idx t]
  rw [inW, e]
  pointwise [wcol, col]
  skip

end Blocks

/-- The reference's result at the kernel's arguments. -/
def goal (c : Dev nD) : FVec Ideal S16384x1408 .f32 :=
  ref (m ((c : Thread nD τ).loc main_arg0)) (m ((c : Thread nD τ).loc main_arg1))

/-- What a point stores is the reference's value at the place of its block. -/
theorem point (c : Dev nD) (t : Fin cfg0.N) (y : S512x1408.Idx) :
    k0_pay1 (iblk m c 0 t) (iblk m c 1 t) y = goal m c (((cfg0.win 2).blk t).view.emb y) := by
  idx_vars y
  refine (entry_eq _ _ _ _ y0 y1 (bat t y0) (pos t y0) (col t y1) (blk0 m c t y0) (fun k => blk1 m c t k y1)).trans ?_
  unfold goal
  pointwise [ref]
  have := lt t
  blk_ext [idx t, bat, pos, col]

/-- The result array after the run. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Proof.InKidx

end
-- ==== Proof.InKidxClaim.lean ====
/-
  The claims of this call: both programs run, end with equal results and leave their arguments as they were.
-/
module

public import proofs.«01_k».proof.Defs
public import proofs.«01_k».proof.Proof.InKidx
public import proofs.«01_k».proof.Proof.Gen.Kernel8
public import proofs.«01_k».proof.Proof.Gen.Kernel8.Frame
public import proofs.«01_k».proof.Proof.Gen.Reference8Ideal.Run
public import Idealize.ShloMosaic.Lib.Quiescent

@[expose] public section

set_option maxRecDepth 16384

noncomputable section

namespace Cert.Proof.InKidx

open Idealize.ShloMosaic Idealize.ShloMosaic.TcCoe Idealize.SL.Sem

/-- The kernel as printed runs and leaves its arguments. -/
theorem frameBits : Cert.quiescent_Kernel8 (hKernel8 := Cert.Kernel8.Gen.facts) := fun m ρ _ => Cert.Kernel8.Gen.frame m ρ

/-- The kernel over the extended reals runs and leaves its arguments. -/
theorem frameIdeal : Cert.quiescent_Kernel8Ideal (hKernel8Ideal := Cert.Kernel8Ideal.Gen.facts) := fun m ρ _ => Cert.Kernel8Ideal.Gen.frame m ρ

/-- The reference runs and leaves its arguments. -/
theorem frameRef : Cert.quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩)
    (Cert.Reference8Ideal.Value.run (F := Ideal) m ρ)

/-- Equal results. -/
theorem value : Cert.algebraic_Kernel8Ideal_Reference8Ideal (hKernel8Ideal := Cert.Kernel8Ideal.Gen.facts) (hReference8Ideal := Cert.Reference8Ideal.Gen.facts) := by
  intro m ρ m' ρ' _ hag
  refine ⟨fun c => goal m c, (θ_run _ _ _).mono (fun r h c => ⟨(h c).1.trans (final m c), (h c).2⟩) (Cert.Kernel8Ideal.Value.run_blocks m ρ),
    (θ_run _ _ _).mono (fun r h c => ⟨(h c).1.trans ?_, (h c).2⟩) (Cert.Reference8Ideal.Value.run (F := Ideal) m' ρ')⟩
  obtain ⟨h0, h1⟩ := hag c
  show ref (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = _
  rw [h0, h1]
  rfl

end Cert.Proof.InKidx

end
-- ==== Proof.InForgetRef.lean ====
/-
  The forget gates' projection, eight columns and zeros: the reference's result as named tensors.
-/
module

public import proofs.«01_k».proof.Proof.Gen.Reference9Ideal
public import Idealize.ShloMosaic.PureOps.Ideal
public import Idealize.ShloMosaic.Lib.Pointwise

@[expose] public section

set_option maxRecDepth 16384

noncomputable section

namespace Cert.Proof.InForget

open Idealize.ShloMosaic Idealize.ShloMosaic.TcCoe
open Cert.Reference9Ideal Cert.Reference9Ideal.Gen

/-- The product of the input with the whole weight. -/
def prod (x : FVec Ideal S2x8192x1024 .f32) (w : FVec Ideal S1024x3080 .f32) : FVec Ideal S2x8192x3080 .f32 :=
  Host.dotGeneral dot_S2x8192x1024_S1024x3080_S2x8192x3080_2_0_01_1_n_n none x w

/-- The columns this call computes. -/
def part (x : FVec Ideal S2x8192x1024 .f32) (w : FVec Ideal S1024x3080 .f32) : FVec Ideal S2x8192x128 .f32 :=
  pad S2x8192x128 ![0, 0, 0] ![0, 0, 120] ![0, 0, 0] (extractStridedSlice S2x8192x8 ![0, 0, 3072] (prod x w) slices_S2x8192x3080_S2x8192x8_0_0_3072) (sitofp .f32 (constantI S_ 32 0#32)) pads_S2x8192x8_S2x8192x128_000_000_01200 h_S_

/-- The reference's result. -/
def ref (x : FVec Ideal S2x8192x1024 .f32) (w : FVec Ideal S1024x3080 .f32) : FVec Ideal S16384x128 .f32 :=
  shapeCast S16384x128 (part x w) shapeCasts_S2x8192x128_S16384x128

end Cert.Proof.InForget

end
-- ==== Proof.InForget.lean ====
/-
  The forget gates' projection, eight columns and zeros: the kernel's result array is the reference's.
-/
module

public import proofs.«01_k».proof.Proof.InForgetRef
public import proofs.«01_k».proof.Proof.Gen.Kernel9Ideal
public import proofs.«01_k».proof.Proof.Gen.Kernel9Ideal.Frame
public import proofs.«01_k».proof.Proof.Gen.Kernel9Ideal.Value
public import Idealize.ShloMosaic.Lib.Pipeline.ValueKit

@[expose] public section

set_option maxRecDepth 16384

noncomputable section

namespace Cert.Proof.InForget

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- Which block each window shows at a point. -/
theorem idx : ∀ t : Fin cfg0.N, win0_0.index t = ![t.val, 0] ∧ win0_1.index t = ![0, 0] ∧ win0_2.index t = ![t.val, 0] :=
  (by decide +kernel : ∀ t : Fin grid0.N, _)

/-- The weight's entry behind a column of the result. -/
def wcol (w : FVec Ideal S1024x3080 .f32) (k : Fin 1024) (j : Fin 128) : EReal :=
  if h : j.val < 8 then w (ix2 k ⟨3072 + j.val, by omega⟩) else 0

/-- The reference's value at a place. -/
theorem part_at (x : FVec Ideal S2x8192x1024 .f32) (w : FVec Ideal S1024x3080 .f32) (p : Fin 2) (q : Fin 8192) (j : Fin 128) :
    part x w (ix3 p q j) = ∑ k : Fin 1024, x (ix3 p q k) * wcol w k j := by
  pointwise [part, prod, wcol]
  have z : FloatOps.sitofp (F := Ideal) FTy.f32 0#32 = (0 : EReal) := by
    show (((0#32 : BitVec 32).toInt : ℝ) : EReal) = 0
    norm_num
  by_cases h : j.val < 8
  · simp [h]
  · simp [h, z]

/-- One entry: equal inputs give equal outputs. -/
theorem entry_eq (a0 : Vec Ideal S1024x1024 .bf16) (a1 : Vec Ideal S1024x128 .bf16) (x : FVec Ideal S2x8192x1024 .f32) (w : FVec Ideal S1024x3080 .f32)
    (i : Fin 1024) (j : Fin 128) (p : Fin 2) (q : Fin 8192) (jj : Fin 128)
    (e0 : ∀ k : Fin 1024, a0 (ix2 i k) = x (ix3 p q k)) (e1 : ∀ k : Fin 1024, a1 (ix2 k j) = wcol w k jj) :
    k0_pay1 a0 a1 (ix2 i j) = part x w (ix3 p q jj) := by
  rw [part_at]
  pointwise [k0_pay1, e0, e1]

/-- The input's rows, both batches in one run of rows. -/
theorem rows (x : FVec Ideal S2x8192x1024 .f32) (r : Fin 16384) (k : Fin 1024) :
    shapeCast S16384x1024 x shapeCasts_S2x8192x1024_S16384x1024 (ix2 r k) = x (ix3 ⟨r.val / 8192, by omega⟩ ⟨r.val % 8192, by omega⟩ k) := by
  pointwise

/-- The rows the kernel reads, as the host prepares them. -/
theorem inX (c : Dev nD) : V m c main_v1 = (truncf .bf16 (shapeCast S16384x1024 (m ((c : Thread nD τ).loc main_arg0) : FVec Ideal S2x8192x1024 .f32) shapeCasts_S2x8192x1024_S16384x1024) bitsLt_bf16_f32 : FVec Ideal S16384x1024 .bf16) := by
  simp only [V, List.flatten_cons, List.flatten_nil, List.append_nil, List.cons_append, List.nil_append]
  after_results_simp <;> rfl

/-- The weight the kernel reads, as the host prepares it. -/
theorem inW (c : Dev nD) : V m c main_v4 = (truncf .bf16 (pad S1024x128 ![0, 0] ![0, 120] ![0, 0] (extractStridedSlice S1024x8 ![0, 3072] (m ((c : Thread nD τ).loc main_arg1) : FVec Ideal S1024x3080 .f32) slices_S1024x3080_S1024x8_0_3072) (sitofp .f32 (constantI S_ 32 0#32)) pads_S1024x8_S1024x128_000_01200 h_S_ : FVec Ideal S1024x128 .f32) bitsLt_bf16_f32 : FVec Ideal S1024x128 .bf16) := by
  simp only [V, List.flatten_cons, List.flatten_nil, List.append_nil, List.cons_append, List.nil_append]
  after_results_simp <;> rfl

section Blocks

variable (c : Dev nD) (t : Fin cfg0.N)

theorem lt : t.val < 16 := by have := t.isLt; have : cfg0.N = 16 := N_0; omega
/-- The batch a row of the point's block lies in. -/
def bat (i : Fin 1024) : Fin 2 := ⟨(t.val * 1024 + i.val) / 8192, by have := lt t; omega⟩
/-- The position in its batch of a row of the point's block. -/
def pos (i : Fin 1024) : Fin 8192 := ⟨(t.val * 1024 + i.val) % 8192, by omega⟩
/-- A column of the point's block in the array. -/
def col (t : Fin cfg0.N) (j : Fin 128) : Fin 128 := ⟨j.val, by omega⟩

theorem blk0 (i : Fin 1024) (k : Fin 1024) : iblk m c 0 t (ix2 i k) = m ((c : Thread nD τ).loc main_arg0) (ix3 (bat t i) (pos t i) k) := by
  have := lt t
  show V m c main_v1 (((cfg0.win 0).blk t).view.emb (ix2 i k)) = _
  have e : ((cfg0.win 0).blk t).view.emb (ix2 i k) = ix2 ⟨t.val * 1024 + i.val, by omega⟩ k := by blk_ext [idx t]
  rw [inX, e]
  exact rows _ _ k
theorem blk1 (k : Fin 1024) (j : Fin 128) : iblk m c 1 t (ix2 k j) = wcol (m ((c : Thread nD τ).loc main_arg1)) k (col t j) := by
  have := lt t
  show V m c main_v4 (((cfg0.win 1).blk t).view.emb (ix2 k j)) = _
  have e : ((cfg0.win 1).blk t).view.emb (ix2 k j) = ix2 k j := by blk_ext [idx t]
  rw [inW, e]
  pointwise [wcol, col]
  have z : FloatOps.sitofp (F := Ideal) FTy.f32 0#32 = (0 : EReal) := by
    show (((0#32 : BitVec 32).toInt : ℝ) : EReal) = 0
    norm_num
  rw [z]

end Blocks

/-- The reference's result at the kernel's arguments. -/
def goal (c : Dev nD) : FVec Ideal S16384x128 .f32 :=
  ref (m ((c : Thread nD τ).loc main_arg0)) (m ((c : Thread nD τ).loc main_arg1))

/-- What a point stores is the reference's value at the place of its block. -/
theorem point (c : Dev nD) (t : Fin cfg0.N) (y : S1024x128.Idx) :
    k0_pay1 (iblk m c 0 t) (iblk m c 1 t) y = goal m c (((cfg0.win 2).blk t).view.emb y) := by
  idx_vars y
  refine (entry_eq _ _ _ _ y0 y1 (bat t y0) (pos t y0) (col t y1) (blk0 m c t y0) (fun k => blk1 m c t k y1)).trans ?_
  unfold goal
  pointwise [ref]
  have := lt t
  blk_ext [idx t, bat, pos, col]

/-- The result array after the run. -/
theorem final (c : Dev nD) : (dats m 0 c).arrAt 2 (cfgs 0).N = goal m c := by
  refine (dats m 0 c).arrAt_eq_of_covers 2 _ (by decide +kernel) fun t _ y => ?_
  blk_simp
  rw [after0_2]; frame_out
  exact point m c t y

end Cert.Proof.InForget

end
-- ==== Proof.InForgetClaim.lean ====
/-
  The claims of this call: both programs run, end with equal results and leave their arguments as they were.
-/
module

public import proofs.«01_k».proof.Defs
public import proofs.«01_k».proof.Proof.InForget
public import proofs.«01_k».proof.Proof.Gen.Kernel9
public import proofs.«01_k».proof.Proof.Gen.Kernel9.Frame
public import proofs.«01_k».proof.Proof.Gen.Reference9Ideal.Run
public import Idealize.ShloMosaic.Lib.Quiescent

@[expose] public section

set_option maxRecDepth 16384

noncomputable section

namespace Cert.Proof.InForget

open Idealize.ShloMosaic Idealize.ShloMosaic.TcCoe Idealize.SL.Sem

/-- The kernel as printed runs and leaves its arguments. -/
theorem frameBits : Cert.quiescent_Kernel9 (hKernel9 := Cert.Kernel9.Gen.facts) := fun m ρ _ => Cert.Kernel9.Gen.frame m ρ

/-- The kernel over the extended reals runs and leaves its arguments. -/
theorem frameIdeal : Cert.quiescent_Kernel9Ideal (hKernel9Ideal := Cert.Kernel9Ideal.Gen.facts) := fun m ρ _ => Cert.Kernel9Ideal.Gen.frame m ρ

/-- The reference runs and leaves its arguments. -/
theorem frameRef : Cert.quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩)
    (Cert.Reference9Ideal.Value.run (F := Ideal) m ρ)

/-- Equal results. -/
theorem value : Cert.algebraic_Kernel9Ideal_Reference9Ideal (hKernel9Ideal := Cert.Kernel9Ideal.Gen.facts) (hReference9Ideal := Cert.Reference9Ideal.Gen.facts) := by
  intro m ρ m' ρ' _ hag
  refine ⟨fun c => goal m c, (θ_run _ _ _).mono (fun r h c => ⟨(h c).1.trans (final m c), (h c).2⟩) (Cert.Kernel9Ideal.Value.run_blocks m ρ),
    (θ_run _ _ _).mono (fun r h c => ⟨(h c).1.trans ?_, (h c).2⟩) (Cert.Reference9Ideal.Value.run (F := Ideal) m' ρ')⟩
  obtain ⟨h0, h1⟩ := hag c
  show ref (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) = _
  rw [h0, h1]
  rfl

end Cert.Proof.InForget

end
-- ==== Proof.SbFrame.lean ====
/-
  What is claimed of the stick-breaking attention besides its result: both programs run and leave their argument as it
  was, and the named constants stand at their bits.
-/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal.Run
public import Idealize.ShloMosaic.Lib.Quiescent

@[expose] public section

set_option maxRecDepth 16384

noncomputable section

namespace Cert.Proof.Sb

open Idealize.ShloMosaic Idealize.ShloMosaic.TcCoe Idealize.SL.Sem

/-- The kernel as printed runs and leaves its argument. -/
theorem frameBits : Cert.quiescent_Kernel10 (hKernel10 := Cert.Kernel10.Gen.facts) := fun m ρ _ => Cert.Kernel10.Gen.frame m ρ

/-- The kernel over the extended reals runs and leaves its argument. -/
theorem frameIdeal : Cert.quiescent_Kernel10Ideal (hKernel10Ideal := Cert.Kernel10Ideal.Gen.facts) := fun m ρ _ => Cert.Kernel10Ideal.Gen.frame m ρ

/-- The reference runs and leaves its argument. -/
theorem frameRef : Cert.quiescent_Reference10Ideal (hReference10Ideal := Cert.Reference10Ideal.Gen.facts) := fun m ρ _ =>
  (θ_run _ _ _).mono (fun r h => ⟨fun c => (h c).2, Idealize.ShloMosaic.sem_eq_zero_of_no_sems (by decide) r.2⟩)
    (Cert.Reference10Ideal.Value.run (F := Ideal) m ρ)

/-- The named constants stand at their bits. -/
theorem preserves : Cert.preserves_Kernel10_Kernel10Ideal :=
  ⟨IdealRules.named_const.statement Cert.Kernel10Ideal.κ "scale" .f32 0x3E38AA3B#32 (((1 / 8) * (Real.log 2)⁻¹ : ℝ) : EReal) rfl,
    IdealRules.named_const.statement Cert.Kernel10Ideal.κ "log2e" .f32 0x3FB8AA3B#32 (((Real.log 2)⁻¹ : ℝ) : EReal) rfl⟩

end Cert.Proof.Sb

end
-- ==== Proof.SbMath.lean ====
/-
  Arithmetic of the stick-breaking weights on the extended reals: the softplus in base two, and sums over a row's tail.
-/
module

public import Idealize.ShloMosaic.Lib.Pipeline.ValueKit
@[expose] public section

set_option maxRecDepth 16384

noncomputable section

namespace Cert.Proof.Sb

open Idealize.ShloMosaic Idealize.ShloMosaic.TcCoe Idealize.SL.Sem
open Idealize.ShloMosaic.Pipeline (Dat)

/-- The reciprocal of the natural logarithm of two. -/
def cL : ℝ := (Real.log 2)⁻¹
theorem cL_pos : 0 < cL := inv_pos.2 (Real.log_pos (by norm_num))
theorem cL_nonneg : (0 : EReal) ≤ (cL : EReal) := EReal.coe_nonneg.2 cL_pos.le

/-- A softplus in base two, and one in base e. -/
def sp (z : EReal) : EReal := max z 0 + Ideal.log (1 + Ideal.exp2 (0 - max z (-z))) * (cL : EReal)
def soft (z : EReal) : EReal := max z 0 + Ideal.log1p (Ideal.exp (-max z (-z)))

theorem max_coe (a b : ℝ) : max (a : EReal) (b : EReal) = ((max a b : ℝ) : EReal) := (Monotone.map_max (fun _ _ h => EReal.coe_le_coe_iff.2 h)).symm

theorem soft_coe (r : ℝ) : soft (r : EReal) = ((max r 0 + Real.log (1 + Real.exp (-|r|)) : ℝ) : EReal) := by
  unfold soft Ideal.log1p
  rw [← EReal.coe_neg, max_coe, ← EReal.coe_zero, max_coe, ← EReal.coe_neg, Ideal.exp_coe, ← EReal.coe_one, ← EReal.coe_add, Ideal.log_coe, if_neg, ← EReal.coe_add]
  · rfl
  · have := Real.exp_pos (-max r (-r)); linarith
theorem soft_bot : soft ⊥ = 0 := by simp [soft, Ideal.log1p, ← EReal.coe_one]
theorem soft_top : soft ⊤ = ⊤ := by simp [soft, Ideal.log1p, ← EReal.coe_one]

theorem sp_coe (r : ℝ) : sp ((cL * r : ℝ) : EReal) = ((cL * (max r 0 + Real.log (1 + Real.exp (-|r|))) : ℝ) : EReal) := by
  have h2 : Real.rpow 2 (-(max (cL * r) (-(cL * r)))) = Real.exp (-|r|) := by
    show (2 : ℝ) ^ (-(|cL * r|)) = _
    rw [abs_mul, abs_of_pos cL_pos, Real.rpow_def_of_pos (by norm_num)]
    congr 1
    have : Real.log 2 * cL = 1 := mul_inv_cancel₀ (Real.log_pos (by norm_num)).ne'
    rw [mul_neg, ← mul_assoc, this, one_mul]
  unfold sp
  rw [zero_sub, ← EReal.coe_neg, max_coe, ← EReal.coe_zero, max_coe, ← EReal.coe_neg, Ideal.exp2_coe, h2, ← EReal.coe_one, ← EReal.coe_add, Ideal.log_coe, if_neg,
    ← EReal.coe_mul, ← EReal.coe_add]
  · congr 1
    rw [mul_add, mul_comm (Real.log _), mul_max_of_nonneg _ _ cL_pos.le, mul_zero]
  · have := Real.exp_pos (-|r|); linarith

/-- The softplus in base two of a score in base-two units. -/
theorem sp_eq (z : EReal) : sp ((cL : EReal) * z) = (cL : EReal) * soft z := by
  induction z using EReal.rec with
  | bot => rw [EReal.coe_mul_bot_of_pos cL_pos, soft_bot]; simp [sp, ← EReal.coe_one]
  | top => rw [EReal.coe_mul_top_of_pos cL_pos, soft_top, EReal.coe_mul_top_of_pos cL_pos]; have h10 : ¬ ((1 : ℝ) ≤ 0) := by norm_num
           simp [sp, ← EReal.coe_one, h10]
  | coe r => rw [← EReal.coe_mul, sp_coe, soft_coe, ← EReal.coe_mul]

theorem soft_nonneg (z : EReal) : 0 ≤ soft z := by
  induction z using EReal.rec with
  | bot => rw [soft_bot]
  | top => rw [soft_top]; exact le_top
  | coe r =>
    rw [soft_coe]
    refine EReal.coe_nonneg.2 (add_nonneg (le_max_right _ _) (Real.log_nonneg ?_))
    have := Real.exp_pos (-|r|); linarith

/-- The logarithm of the logistic function. -/
def lsig (z : EReal) : EReal := -soft (-z)

/-- The logistic's logarithm is the argument less the softplus. -/
theorem lsig_coe (r : ℝ) : lsig (r : EReal) = ((r - (max r 0 + Real.log (1 + Real.exp (-|r|))) : ℝ) : EReal) := by
  unfold lsig
  rw [← EReal.coe_neg, soft_coe, ← EReal.coe_neg, abs_neg]
  congr 1
  rcases le_total 0 r with h | h
  · rw [max_eq_right (by linarith), max_eq_left h]; ring
  · rw [max_eq_left (by linarith), max_eq_right h]; ring

/-- A stick-breaking weight: the power of two of the scaled score and the scaled tail. -/
theorem weight (z T : EReal) (hT : T ≤ 0) :
    Ideal.exp2 ((cL : EReal) * z + (cL : EReal) * (-soft z + T)) = Ideal.exp (lsig z + ((-soft z + T) - (-soft z))) := by
  induction z using EReal.rec with
  | bot => rw [EReal.coe_mul_bot_of_pos cL_pos]; simp [lsig, soft_top]
  | top => rw [soft_top]; simp [EReal.coe_mul_bot_of_pos cL_pos]
  | coe r =>
    rw [soft_coe, lsig_coe]
    generalize max r 0 + Real.log (1 + Real.exp (-|r|)) = s
    induction T using EReal.rec with
    | top => exact absurd hT (by simp)
    | bot => rw [← EReal.coe_neg]; simp [EReal.coe_mul_bot_of_pos cL_pos]
    | coe t =>
      rw [← EReal.coe_neg, ← EReal.coe_add, ← EReal.coe_sub, ← EReal.coe_mul, ← EReal.coe_mul, ← EReal.coe_add, ← EReal.coe_add, Ideal.exp2_coe, Ideal.exp_coe]
      congr 1
      show (2 : ℝ) ^ (_ : ℝ) = _
      rw [Real.rpow_def_of_pos (by norm_num)]
      congr 1
      have : Real.log 2 * cL = 1 := mul_inv_cancel₀ (Real.log_pos (by norm_num)).ne'
      calc Real.log 2 * (cL * r + cL * (-s + t)) = (Real.log 2 * cL) * (r + (-s + t)) := by ring
        _ = _ := by rw [this]; ring

/-- A nonnegative finite factor distributes over a sum. -/
theorem mul_sum_real {ι : Type} (s : Finset ι) (f : ι → EReal) : (cL : EReal) * ∑ i ∈ s, f i = ∑ i ∈ s, (cL : EReal) * f i := by
  classical
  induction s using Finset.induction_on with
  | empty => simp
  | insert i s hi ih => rw [Finset.sum_insert hi, Finset.sum_insert hi, EReal.left_distrib_of_nonneg_of_ne_top cL_nonneg (EReal.coe_ne_top _), ih]

/-- The sum of a row from a key on. -/
def suf (N : ℕ) (u : ℕ → EReal) (s : ℕ) : EReal := ∑ k ∈ Finset.Ico s N, u k

/-- The sums within a block from each of its keys on. -/
def csum (u : Fin 256 → EReal) (j : Fin 256) : EReal := ∑ k : Fin 256, if j.val ≤ k.val then u k else 0

theorem suf_end (N : ℕ) (u : ℕ → EReal) : suf N u N = 0 := by simp [suf]

theorem suf_step (N : ℕ) (u : ℕ → EReal) (lo : ℕ) (h : lo + 256 ≤ N) : suf N u (lo + 256) + ∑ x : Fin 256, u (lo + x.val) = suf N u lo := by
  unfold suf
  rw [← Finset.sum_Ico_consecutive u (Nat.le_add_right lo 256) h, add_comm, ← Finset.sum_range (fun x => u (lo + x)), Finset.sum_Ico_eq_sum_range u lo,
    Nat.add_sub_cancel_left]

theorem suf_mid (N : ℕ) (u : ℕ → EReal) (lo : ℕ) (h : lo + 256 ≤ N) (x : Fin 256) :
    csum (fun k => u (lo + k.val)) x + suf N u (lo + 256) = suf N u (lo + x.val) := by
  have hx : (x : ℕ) < 256 := x.isLt
  unfold suf csum
  rw [← Finset.sum_Ico_consecutive u (show lo + x.val ≤ lo + 256 by omega) h]
  congr 1
  rw [← Finset.sum_range (fun k => if x.val ≤ k then u (lo + k) else 0), ← Finset.sum_filter, Nat.add_comm lo, Nat.add_comm lo, ← Finset.sum_Ico_add' u]
  refine Finset.sum_congr (Finset.ext fun k => ?_) fun k _ => by rw [Nat.add_comm]
  simp only [Finset.mem_filter, Finset.mem_range, Finset.mem_Ico]; omega

theorem csum_zero (u : Fin 256 → EReal) : csum u ⟨0, by omega⟩ = ∑ x, u x := by
  unfold csum; simp

section Row
variable (N p : ℕ) (z v : ℕ → EReal)
/-- A row's logarithms of what is left after each key, its weights, and its weighted values, by key. -/
def stay (s : ℕ) : EReal := if s < p then -sp (z s) else 0
def wgt (s : ℕ) : EReal := if s < p then Ideal.exp2 (z s + suf N (stay p z) s) else 0
def wv (s : ℕ) : EReal := wgt N p z s * v s

/-- One step over a block of keys, from the sums beyond it. -/
theorem step_c (lo : ℕ) (h : lo + 256 ≤ N) : suf N (stay p z) (lo + 256) + csum (fun k => stay p z (lo + k.val)) 0 = suf N (stay p z) lo :=
  (congrArg (suf N (stay p z) (lo + 256) + ·) (csum_zero _)).trans (suf_step N _ lo h)
theorem step_a (lo : ℕ) (h : lo + 256 ≤ N) : suf N (wv N p z v) (lo + 256)
    + ∑ x : Fin 256, (if lo + x.val < p then Ideal.exp2 (z (lo + x.val) + csum (fun k => stay p z (lo + k.val)) x + suf N (stay p z) (lo + 256)) else 0) * v (lo + x.val)
      = suf N (wv N p z v) lo := by
  rw [← suf_step N (wv N p z v) lo h]
  congr 1
  refine Finset.sum_congr rfl fun x _ => ?_
  rw [add_assoc, suf_mid N _ lo h]
  rfl
end Row

/-- The product with the matrix of minus ones sums a block's tail: the high half's share and the low half's. -/
theorem neg_pair (a : EReal) : a * (-1) + (a - a) * (-1) = -a := by
  induction a using EReal.rec with
  | bot => simp
  | top => simp
  | coe r => rw [← EReal.coe_sub, sub_self]; simp

theorem neg_sum (a : Fin 256 → EReal) (j : Fin 256) :
    (∑ k : Fin 512, (if h : k.val < 256 then a ⟨k.val, h⟩ else a ⟨k.val - 256, by omega⟩ - a ⟨k.val - 256, by omega⟩) * (if j.val ≤ k.val % 256 then (-1 : EReal) else 0))
      = csum (fun k => -a k) j := by
  rw [Fin.sum_univ_add (a := 256) (b := 256), ← Finset.sum_add_distrib]
  unfold csum
  refine Finset.sum_congr rfl fun k _ => ?_
  have hk : (k : ℕ) < 256 := k.isLt
  have e1 : (Fin.castAdd 256 k).val = k.val := rfl
  have e2 : (Fin.natAdd 256 k).val = 256 + k.val := rfl
  simp only [e1, e2]
  rw [dif_pos hk, dif_neg (by omega), Nat.mod_eq_of_lt hk, show (256 + k.val) % 256 = k.val by omega]
  have e3 : (⟨256 + k.val - 256, by omega⟩ : Fin 256) = k := Fin.ext (by simp)
  rw [e3]
  by_cases h : j.val ≤ k.val
  · rw [if_pos h, if_pos h]; exact neg_pair _
  · rw [if_neg h, if_neg h]; simp

end Cert.Proof.Sb
-- ==== Proof.SbCum.lean ====
/-
  The running sum from the end of a row, as a sum over windows, and the stick-breaking weights it gives.
-/
module

public import proofs.«01_k».proof.Proof.SbMath
public import Idealize.ShloMosaic.PureOps.Ideal
public import Idealize.ShloMosaic.Lib.Pipeline.ValueKit
@[expose] public section

set_option maxRecDepth 16384

noncomputable section

namespace Cert.Proof.Sb

open Idealize.ShloMosaic Idealize.ShloMosaic.TcCoe Idealize.SL.Sem
open Idealize.ShloMosaic.Pipeline (Dat)

/-- Adding up a list from a start. -/
theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The places of a window along the last of four axes. -/
def lastAxis (n : ℕ) : Fin n ≃ (⟨4, ![1, 1, 1, n]⟩ : Shape).Idx where
  toFun k := ix4 (0 : Fin 1) (0 : Fin 1) (0 : Fin 1) k
  invFun w := w 3
  left_inv k := rfl
  right_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A row as a function of every number, nought beyond its end. -/
def ext {n : ℕ} (f : Fin n → EReal) (s : ℕ) : EReal := if h : s < n then f ⟨s, h⟩ else 0

theorem sum_ext {n : ℕ} (f : Fin n → EReal) : ∑ s : Fin n, f s = suf n (ext f) 0 := by
  unfold suf
  rw [← Finset.range_eq_Ico, Finset.sum_range]
  exact Finset.sum_congr rfl fun s _ => (by unfold ext; rw [dif_pos s.isLt])

/-- A sum over a window that starts at a key and runs past the row's end. -/
theorem sum_shift (n : ℕ) (F : ℕ → EReal) (hF : ∀ s, n ≤ s → F s = 0) (j : ℕ) (hj : j ≤ n) : (∑ k : Fin n, F (j + k.val)) = suf n F j := by
  unfold suf
  rw [← Finset.sum_range (fun k => F (j + k)), Finset.sum_Ico_eq_sum_range]
  refine (Finset.sum_subset (Finset.range_subset_range.2 (Nat.sub_le n j)) fun k _ hk => hF _ ?_).symm
  have := Finset.mem_range.not.1 hk
  omega

/-- The running sum from the end, along the last of four axes. -/
theorem cum_gen {n0 n1 n2 n nm : ℕ} (x : FVec Ideal ⟨4, ![n0, n1, n2, n]⟩ .f32) (init : FVec Ideal ⟨0, ![]⟩ .f32)
    (h : (⟨4, ![n0, n1, n2, n]⟩ : Shape).ReduceWindows (![1, 1, 1, n] : Fin 4 → ℕ) ![1, 1, 1, 1] ![0, 0, 0, 0] ![0, 0, 0, nm] ⟨4, ![n0, n1, n2, n]⟩)
    (hu : 0 < (⟨0, ![]⟩ : Shape).numel) (hv : init (Shape.Idx.first hu) = 0) (a : Fin n0) (b : Fin n1) (c : Fin n2) (j : Fin n) :
    Host.reduceWindowAdd (![1, 1, 1, n] : Fin 4 → ℕ) ![1, 1, 1, 1] ![0, 0, 0, 0] ![0, 0, 0, nm] x init h hu (ix4 a b c j)
      = suf n (ext fun s => x (ix4 a b c s)) j.val := by
  have hj : (j : ℕ) < n := j.isLt
  rw [← sum_shift n (ext fun s => x (ix4 a b c s)) (fun s hs => dif_neg (by omega)) j.val (by omega)]
  unfold Host.reduceWindowAdd
  rw [Ideal.hostReduceWindowAdd_def]
  unfold Ideal.hostReduceWindowAdd Host.reduceWindow
  dsimp only
  rw [hv]
  refine (foldl_add _ _ _).trans ?_
  rw [zero_add, ← Fin.sum_univ_def]
  refine Fintype.sum_equiv ((⟨4, ![1, 1, 1, n]⟩ : Shape).rowMajor.symm.trans (lastAxis n).symm) _ _ fun i => ?_
  rw [Equiv.trans_apply]
  obtain ⟨k, hw⟩ := (lastAxis n).surjective ((⟨4, ![1, 1, 1, n]⟩ : Shape).rowMajor.symm i)
  have w0 : (((⟨4, ![1, 1, 1, n]⟩ : Shape).rowMajor.symm i) 0).val = 0 := by rw [← hw]; rfl
  have w1 : (((⟨4, ![1, 1, 1, n]⟩ : Shape).rowMajor.symm i) 1).val = 0 := by rw [← hw]; rfl
  have w2 : (((⟨4, ![1, 1, 1, n]⟩ : Shape).rowMajor.symm i) 2).val = 0 := by rw [← hw]; rfl
  have w3 : (((⟨4, ![1, 1, 1, n]⟩ : Shape).rowMajor.symm i) 3).val = k.val := by rw [← hw]; rfl
  rw [show (lastAxis n).symm ((⟨4, ![1, 1, 1, n]⟩ : Shape).rowMajor.symm i) = k by rw [← hw, Equiv.symm_apply_apply]]
  unfold ext
  by_cases hk : j.val + k.val < n
  · rw [dif_pos hk]
    split
    next =>
      congr 1
      funext d
      match d with
      | ⟨0, _⟩ => exact Fin.ext (show a.val * 1 + (((⟨4, ![1, 1, 1, n]⟩ : Shape).rowMajor.symm i) 0).val - 0 = a.val by omega)
      | ⟨1, _⟩ => exact Fin.ext (show b.val * 1 + (((⟨4, ![1, 1, 1, n]⟩ : Shape).rowMajor.symm i) 1).val - 0 = b.val by omega)
      | ⟨2, _⟩ => exact Fin.ext (show c.val * 1 + (((⟨4, ![1, 1, 1, n]⟩ : Shape).rowMajor.symm i) 2).val - 0 = c.val by omega)
      | ⟨3, _⟩ => exact Fin.ext (show j.val * 1 + (((⟨4, ![1, 1, 1, n]⟩ : Shape).rowMajor.symm i) 3).val - 0 = j.val + k.val by omega)
    next hn =>
      refine absurd (fun d => ?_) hn
      match d with
      | ⟨0, _⟩ => exact ⟨Nat.zero_le _, show a.val * 1 + (((⟨4, ![1, 1, 1, n]⟩ : Shape).rowMajor.symm i) 0).val - 0 < n0 by have := a.isLt; omega⟩
      | ⟨1, _⟩ => exact ⟨Nat.zero_le _, show b.val * 1 + (((⟨4, ![1, 1, 1, n]⟩ : Shape).rowMajor.symm i) 1).val - 0 < n1 by have := b.isLt; omega⟩
      | ⟨2, _⟩ => exact ⟨Nat.zero_le _, show c.val * 1 + (((⟨4, ![1, 1, 1, n]⟩ : Shape).rowMajor.symm i) 2).val - 0 < n2 by have := c.isLt; omega⟩
      | ⟨3, _⟩ => exact ⟨Nat.zero_le _, show j.val * 1 + (((⟨4, ![1, 1, 1, n]⟩ : Shape).rowMajor.symm i) 3).val - 0 < n by omega⟩
  · rw [dif_neg hk]
    split
    next hin =>
      have h3 : j.val * 1 + (((⟨4, ![1, 1, 1, n]⟩ : Shape).rowMajor.symm i) 3).val - 0 < n := (hin 3).2
      exact absurd (by omega) hk
    next => rfl

end Cert.Proof.Sb
-- ==== Proof.SbRef.lean ====
/-
  The stick-breaking attention: the reference's result as a few named tensors, and its value at a place.
-/
module

public import proofs.«01_k».proof.Proof.SbCum
public import proofs.«01_k».proof.Proof.Gen.Reference10Ideal
public import Idealize.ShloMosaic.PureOps.Ideal
public import Idealize.ShloMosaic.Lib.Pipeline.ValueKit
public import Idealize.ShloMosaic.Lib.WordCmp
@[expose] public section

set_option maxRecDepth 16384

noncomputable section

namespace Cert.Proof.Sb

open Idealize.ShloMosaic Idealize.ShloMosaic.TcCoe Idealize.SL.Sem
open Idealize.ShloMosaic.Pipeline (Dat)

open Cert.Reference10Ideal Cert.Reference10Ideal.Gen

/-- The eight heads of the queries, the keys and the values. -/
def qh (h : FVec Ideal S2x8192x3072 .f32) : FVec Ideal S2x8192x8x64 .f32 :=
  shapeCast _ (extractStridedSlice S2x8192x512 ![0, 0, 0] h slices_S2x8192x3072_S2x8192x512_0_0_0) shapeCasts_S2x8192x512_S2x8192x8x64
def kh (h : FVec Ideal S2x8192x3072 .f32) : FVec Ideal S2x8192x8x64 .f32 :=
  shapeCast _ (extractStridedSlice S2x8192x512 ![0, 0, 512] h slices_S2x8192x3072_S2x8192x512_0_0_512) shapeCasts_S2x8192x512_S2x8192x8x64
def vh (h : FVec Ideal S2x8192x3072 .f32) : FVec Ideal S2x8192x8x64 .f32 :=
  shapeCast _ (extractStridedSlice S2x8192x512 ![0, 0, 1024] h slices_S2x8192x3072_S2x8192x512_0_0_1024) shapeCasts_S2x8192x512_S2x8192x8x64

/-- The mask of the earlier keys. -/
def earlier : IVec S2x8x8192x8192 1 :=
  broadcastInDim S2x8x8192x8192 ![2, 3] bcast_S8192x8192_S2x8x8192x8192_2_3 (cmpi .slt
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- Noughts. -/
def nought : FVec Ideal S2x8x8192x8192 .f32 := broadcastInDim S2x8x8192x8192 ![] bcast_S_S2x8x8192x8192 (constant S_ .f32 0x00000000#32)
def noughtId : FVec Ideal S2x8x8192x8192 .f32 := broadcastInDim S2x8x8192x8192 ![] bcast_S_S2x8x8192x8192 (id (constant S_ .f32 0x00000000#32))

/-- The scores, negated. -/
def negScore (h : FVec Ideal S2x8192x3072 .f32) : FVec Ideal S2x8x8192x8192 .f32 :=
  Host.negf (mulf (Host.dotGeneral dot_S2x8192x8x64_S2x8192x8x64_S2x8x8192x8192_3_3_1_1_02_02 none (qh h) (kh h))
    (broadcastInDim S2x8x8192x8192 ![] bcast_S_S2x8x8192x8192 (constant S_ .f32 0x3E000000#32)))

/-- The softplus of a tensor. -/
def softs (y : FVec Ideal S2x8x8192x8192 .f32) : FVec Ideal S2x8x8192x8192 .f32 :=
  select (cmpf .une (subf y nought) (subf y nought)) (addf y nought)
    (addf (maximumf y nought) (Host.log1p (Host.exp (Host.negf (Host.absf (subf y nought))))))

/-- The logarithms of what each key leaves. -/
def left (h : FVec Ideal S2x8192x3072 .f32) : FVec Ideal S2x8x8192x8192 .f32 :=
  select earlier (Host.negf (softs (Host.negf (negScore h)))) noughtId

/-- Their running sums from the end. -/
def cum (h : FVec Ideal S2x8192x3072 .f32) : FVec Ideal S2x8x8192x8192 .f32 :=
  Host.reduceWindowAdd ![1, 1, 1, 8192] ![1, 1, 1, 1] ![0, 0, 0, 0] ![0, 0, 0, 8191] (left h) (broadcastInDim S_ ![] bcast_S_S_ (constant S_ .f32 0x00000000#32))
    reduceWindows_S2x8x8192x8192_S2x8x8192x8192_w1s1p0_0_w1s1p0_0_w1s1p0_0_w8192s1p0_8191 h_S_

/-- The weights. -/
def weights (h : FVec Ideal S2x8192x3072 .f32) : FVec Ideal S2x8x8192x8192 .f32 :=
  select earlier (Host.exp (addf (Host.negf (softs (negScore h))) (subf (cum h) (left h)))) noughtId

/-- The weighted values. -/
def ctx (h : FVec Ideal S2x8192x3072 .f32) : FVec Ideal S2x8192x8x64 .f32 :=
  transpose S2x8192x8x64 [0, 3, 1, 2] (Host.dotGeneral dot_S2x8192x8x64_S2x8x8192x8192_S2x8x64x8192_1_3_3_2_02_01 none (vh h) (weights h))
    transposes_S2x8x64x8192_S2x8192x8x64_0_3_1_2

/-- The reference's result. -/
def ref (h : FVec Ideal S2x8192x3072 .f32) : FVec Ideal S16384x512 .bf16 :=
  truncf .bf16 (shapeCast S16384x512 (ctx h) shapeCasts_S2x8192x8x64_S16384x512) bitsLt_bf16_f32

section At

variable (h : FVec Ideal S2x8192x3072 .f32) (b : Fin 2) (n : Fin 8) (p j : Fin 8192) (d : Fin 64)

theorem eighth : Ideal.ofBits .f32 0x3E000000#32 = ((1 / 8 : ℝ) : EReal) := by
  simp [Ideal.ofBits, Ideal.ieee, -EReal.coe_mul]; norm_num
theorem nil0 : Ideal.ofBits .f32 0x00000000#32 = 0 := by simp [Ideal.ofBits, Ideal.ieee]

theorem qh_at : qh h (ix4 b p n d) = h (ix3 b p ⟨0 + (n.val * 64 + d.val), by omega⟩) := by pointwise [qh]
theorem kh_at : kh h (ix4 b p n d) = h (ix3 b p ⟨512 + (n.val * 64 + d.val), by omega⟩) := by pointwise [kh]
theorem vh_at : vh h (ix4 b p n d) = h (ix3 b p ⟨1024 + (n.val * 64 + d.val), by omega⟩) := by pointwise [vh]

theorem nought_at : nought (ix4 b n p j) = 0 := nil0
theorem noughtId_at : noughtId (ix4 b n p j) = 0 := nil0

/-- One score of the reference. -/
def score (j : Fin 8192) : EReal := (∑ d : Fin 64, qh h (ix4 b p n d) * kh h (ix4 b j n d)) * ((1 / 8 : ℝ) : EReal)

theorem negScore_at : negScore h (ix4 b n p j) = -score h b n p j := by
  pointwise [negScore, eighth]
  rfl

theorem earlier_bit (v : EReal) : Scalar.select (earlier (ix4 b n p j)) v 0 = if j.val < p.val then v else 0 := by
  have hj : (j : ℕ) < 8192 := j.isLt
  have hp : (p : ℕ) < 8192 := p.isLt
  pointwise [earlier]
  word_cmp

theorem softs_at (y : FVec Ideal S2x8x8192x8192 .f32) : softs y (ix4 b n p j) = soft (y (ix4 b n p j)) := by
  have e : softs y (ix4 b n p j) = if y (ix4 b n p j) ≠ y (ix4 b n p j) then y (ix4 b n p j)
      else max (y (ix4 b n p j)) 0 + Ideal.log1p (Ideal.exp (-FloatOps.absf (y (ix4 b n p j)))) := by
    pointwise [softs, nought_at]
  rw [e, if_neg (not_not.2 rfl)]
  rfl

/-- One logarithm of what a key leaves. -/
def leaves (j : Fin 8192) : EReal := if j.val < p.val then -soft (score h b n p j) else 0

theorem left_at : left h (ix4 b n p j) = leaves h b n p j := by
  unfold leaves
  rw [← earlier_bit (b := b) (n := n)]
  have e : Host.negf (negScore h) (ix4 b n p j) = score h b n p j := by
    show -(negScore h (ix4 b n p j)) = _
    rw [negScore_at, neg_neg]
  rw [← e, ← softs_at, ← noughtId_at b n p j]
  pointwise [left]

theorem cum_at : cum h (ix4 b n p j) = suf 8192 (ext (leaves h b n p)) j.val := by
  unfold cum
  refine (cum_gen _ _ _ _ nil0 b n p j).trans ?_
  simp only [left_at]

/-- One weight. -/
def weigh (j : Fin 8192) : EReal :=
  if j.val < p.val then Ideal.exp (lsig (score h b n p j) + (suf 8192 (ext (leaves h b n p)) j.val - leaves h b n p j)) else 0

theorem weights_at : weights h (ix4 b n p j) = weigh h b n p j := by
  unfold weigh lsig
  rw [← earlier_bit (b := b) (n := n), ← negScore_at, ← softs_at, ← cum_at, ← left_at, ← noughtId_at b n p j]
  pointwise [weights]

theorem ctx_at : ctx h (ix4 b p n d) = ∑ j, vh h (ix4 b j n d) * weigh h b n p j := by
  simp only [← weights_at]
  pointwise [ctx]

/-- The reference's result at a place. -/
theorem ref_at (R : Fin 16384) (C : Fin 512) :
    ref h (ix2 R C) = ctx h (ix4 ⟨R.val / 8192, by omega⟩ ⟨R.val % 8192, by omega⟩ ⟨C.val / 64, by omega⟩ ⟨C.val % 64, by omega⟩) := by
  pointwise [ref]

end At

end Cert.Proof.Sb
-- ==== Proof.SbStep.lean ====
/-
  What one step of the stick-breaking kernel computes, entry by entry: scores, masks, tail sums and weighted values.
-/
module

public import proofs.«01_k».proof.Proof.SbMath
public import proofs.«01_k».proof.Proof.Gen.Kernel10Ideal
public import proofs.«01_k».proof.Proof.Gen.Kernel10Ideal.Skeleton
public import Idealize.ShloMosaic.Lib.Pipeline.ValueKit
public import Idealize.ShloMosaic.Lib.WordCmp
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

theorem k_log2e : Named.named (F := Ideal) κ "log2e" (φ := .f32) 0x3FB8AA3B#32 = (cL : EReal) :=
  IdealRules.named_const.ideal_named_scalar _ _ _ _ rfl
theorem k_scale : Named.named (F := Ideal) κ "scale" (φ := .f32) 0x3E38AA3B#32 = (((1 / 8) * (Real.log 2)⁻¹ : ℝ) : EReal) :=
  IdealRules.named_const.ideal_named_scalar _ _ _ _ rfl
theorem minus_one : Ideal.ofBits .f32 0xBF800000#32 = -1 := by
  simp [Ideal.ofBits, Ideal.ieee]
  rw [← EReal.coe_mul, ← EReal.coe_one]
  congr 1
  norm_num
theorem low_byte : ∀ k : Fin 512, BitVec.ofNat 32 k.val &&& 255#32 = BitVec.ofNat 32 (k.val % 256) := by decide +kernel

/-- The matrix whose product sums a block's tails, with minus ones on and below the diagonal. -/
theorem pay35_at (k : Fin 512) (j : Fin 256) : k0_pay35 (F := Ideal) (ix2 k j) = if j.val ≤ k.val % 256 then -1 else 0 := by
  have hk : (k : ℕ) % 256 < 256 := Nat.mod_lt _ (by omega)
  have hj : (j : ℕ) < 256 := j.isLt
  pointwise [k0_pay35, minus_one]
  show Scalar.select (IntOp.cmpi .sge (BitVec.ofNat 32 k.val &&& 255#32) (BitVec.ofNat 32 j.val)) (-1 : EReal) 0 = _
  rw [low_byte]
  word_cmp

/-- The products with that matrix. -/
def mm (H : FVec Ideal S1024x512 .bf16) : FVec Ideal S1024x256 .f32 :=
  matmul dot_S1024x512_S512x256_S1024x256_1_0_0_1_n_n none H k0_pay35 (constant S1024x256 .f32 0x00000000#32)

theorem mm_at (H : FVec Ideal S1024x512 .bf16) (r : Fin 1024) (a : Fin 256 → EReal)
    (hH : ∀ k : Fin 512, H (ix2 r k) = if h : k.val < 256 then a ⟨k.val, h⟩ else a ⟨k.val - 256, by omega⟩ - a ⟨k.val - 256, by omega⟩) (j : Fin 256) :
    mm H (ix2 r j) = csum (fun k => -a k) j := by
  rw [← neg_sum]
  pointwise [mm, hH, pay35_at]

/-- The lanes' low and high halves of the output, and the scaled queries with the two heads stacked. -/
theorem lt_bit (d : Fin 128) (v w : EReal) : Scalar.select (IntOp.cmpi .slt (BitVec.ofNat 32 d.val) 64#32) v w = if d.val < 64 then v else w := by
  have hd : (d : ℕ) < 128 := d.isLt
  word_cmp
theorem ge_bit (d : Fin 128) (v w : EReal) : Scalar.select (IntOp.cmpi .sge (BitVec.ofNat 32 d.val) 64#32) v w = if 64 ≤ d.val then v else w := by
  have hd : (d : ℕ) < 128 := d.isLt
  word_cmp

def qs (x : Vec Ideal S512x128 .bf16) (r : Fin 1024) (d : Fin 128) : EReal :=
  if h : r.val < 512 then (if d.val < 64 then x (ix2 ⟨r.val, h⟩ d) * (((1 / 8) * (Real.log 2)⁻¹ : ℝ) : EReal) else 0)
  else (if 64 ≤ d.val then x (ix2 ⟨r.val - 512, by omega⟩ d) * (((1 / 8) * (Real.log 2)⁻¹ : ℝ) : EReal) else 0)

theorem pay34_at (x : Vec Ideal S512x128 .bf16) (r : Fin 1024) (d : Fin 128) : k0_pay34 x (ix2 r d) = qs x r d := by
  have hd : (d : ℕ) < 128 := d.isLt
  have hr : (r : ℕ) < 1024 := r.isLt
  pointwise [k0_pay34, k_scale]
  unfold qs
  by_cases h : (r : ℕ) < 512
  · rw [dif_pos h, dif_pos h]
    show Scalar.select (IntOp.cmpi .slt (BitVec.ofNat 32 d.val) 64#32) _ 0 = _
    rw [lt_bit]
  · rw [dif_neg h, dif_neg h]
    show Scalar.select (IntOp.cmpi .sge (BitVec.ofNat 32 d.val) 64#32) _ 0 = _
    rw [ge_bit]

theorem pay37_at (r : Fin 1024) (l : Fin 128) : k0_pay37 (F := Ideal) (ix2 r l) = 0 := by pointwise [k0_pay37]
theorem pay39_at (r : Fin 1024) (l : Fin 128) : k0_pay39 (k0_pay38 (F := Ideal)) (ix2 r l) = 0 := by pointwise [k0_pay39, k0_pay38]

section Scores
variable (q : FVec Ideal S1024x128 .bf16) (k : Vec Ideal S256x128 .bf16) (r : Fin 1024) (j : Fin 256)
/-- A block's scores. -/
def sc : EReal := ∑ d : Fin 128, q (ix2 r d) * k (ix2 j d)
theorem pay40_at : k0_pay40 q k (ix2 r j) = sc q k r j := by pointwise [k0_pay40]; rfl
theorem pay41_at : k0_pay41 q k (ix2 r j) = sc q k r j := by pointwise [k0_pay41]; rfl
theorem pay30_at : k0_pay30 q k (ix2 r j) = sc q k r j := by pointwise [k0_pay30]; rfl
theorem pay16_at : k0_pay16 q k (ix2 r j) = sc q k r j := by pointwise [k0_pay16]; rfl
theorem pay21_at : k0_pay21 q k (ix2 r j) = sc q k r j := by pointwise [k0_pay21]; rfl
end Scores

section Trip
variable (Z : Vec Ideal S1024x256 .f32) (V : Vec Ideal S256x128 .bf16) (C A : Vec Ideal S1024x128 .f32) (r : Fin 1024)
  (c : EReal) (hC : ∀ l : Fin 128, C (ix2 r l) = c)

theorem pay18_at (j : Fin 256) : k0_pay18 k0_pay35 Z (ix2 r j) = csum (fun k => -sp (Z (ix2 r k))) j := by
  have e : (fun k => -sp (Z (ix2 r k))) = fun k => -(fun k => sp (Z (ix2 r k))) k := rfl
  rw [e, ← neg_sum]
  pointwise [k0_pay18, pay35_at, k_log2e]
  rfl

include hC

theorem pay19_at (U : FVec Ideal S1024x256 .f32) (l : Fin 128) : k0_pay19 Z (k0_pay17 V) U C A (ix2 r l)
    = A (ix2 r l) + ∑ x : Fin 256, Ideal.exp2 (Z (ix2 r x) + U (ix2 r x) + c) * V (ix2 x l) := by
  pointwise [k0_pay19, k0_pay17, hC]
  exact congrArg (A (ix2 r l) + ·) (Fin.sum_univ_add (a := 128) (b := 128) fun x : Fin 256 => Ideal.exp2 (Z (ix2 r x) + U (ix2 r x) + c) * V (ix2 x l)).symm

theorem pay20_at (U : FVec Ideal S1024x256 .f32) (l : Fin 128) : k0_pay20 U C (ix2 r l) = c + U (ix2 r 0) := by
  pointwise [k0_pay20, hC]

theorem pay7_at (l : Fin 128) : k0_pay7 k0_pay35 Z (k0_pay22 V) (Scalar.ofBits .f32 0x00000000#32) C A (ix2 r l)
    = A (ix2 r l) + ∑ x : Fin 256, Ideal.exp2 (Z (ix2 r x) + csum (fun k => -sp (Z (ix2 r k))) x + c) * V (ix2 x l) := by
  have e : k0_pay7 k0_pay35 Z (k0_pay22 V) (Scalar.ofBits .f32 0x00000000#32) C A = k0_pay19 Z (k0_pay17 V) (k0_pay18 k0_pay35 Z) C A := rfl
  rw [e, pay19_at Z V C A r c hC]
  simp only [pay18_at]

theorem pay8_at (l : Fin 128) : k0_pay8 k0_pay35 Z (Scalar.ofBits .f32 0x00000000#32) C (ix2 r l) = c + csum (fun k => -sp (Z (ix2 r k))) 0 := by
  have e : k0_pay8 k0_pay35 Z (Scalar.ofBits .f32 0x00000000#32) C = k0_pay20 (k0_pay18 k0_pay35 Z) C := rfl
  rw [e, pay20_at C r c hC, pay18_at]

end Trip

/-- The two masked steps: a key is seen by a row below it. -/
theorem start1 : ∀ i : grid0.Coords, Scalar.muli (Scalar.subi (Scalar.subi (Scalar.addi (Scalar.muli (BitVec.ofNat 32 (i 2).val) 2#32) 2#32) 1#32) 0#32) 256#32
    = BitVec.ofNat 32 (256 * (2 * (i 2).val + 1)) := by decide +kernel
theorem start2 : ∀ i : grid0.Coords, Scalar.muli (Scalar.muli (BitVec.ofNat 32 (i 2).val) 2#32) 256#32 = BitVec.ofNat 32 (256 * (2 * (i 2).val)) := by decide +kernel

theorem word_lt (x lo p n : ℕ) (hx : x < 256) (hlo : lo < 8192) (hp : p < 1024) (hn : n < 16) (v w : EReal) :
    Scalar.select (IntOp.cmpi .slt (IntOp.addi (BitVec.ofNat 32 x) (BitVec.ofNat 32 lo)) (IntOp.addi (BitVec.ofNat 32 p) (Scalar.muli (BitVec.ofNat 32 n) 512#32))) v w
      = if lo + x < 512 * n + p then v else w := by
  have e : (lo + x < 512 * n + p) ↔ (x + lo < p + n * 512) := by omega
  rw [show IntOp.addi (BitVec.ofNat 32 x) (BitVec.ofNat 32 lo) = BitVec.ofNat 32 (x + lo) from (BitVec.ofNat_add x lo).symm,
    show Scalar.muli (BitVec.ofNat 32 n) 512#32 = BitVec.ofNat 32 (n * 512) from (BitVec.ofNat_mul n 512).symm,
    show IntOp.addi (BitVec.ofNat 32 p) (BitVec.ofNat 32 (n * 512)) = BitVec.ofNat 32 (p + n * 512) from (BitVec.ofNat_add p (n * 512)).symm]
  simp only [e]
  word_cmp

section Masked
variable (i : grid0.Coords) (r : Fin 1024)

/-- The two cases' stacked comparison, at one entry. -/
def below (lo : ℕ) (x : Fin 256) : Prop := lo + x.val < 512 * (i 2).val + r.val % 512
instance (lo : ℕ) : DecidablePred (below i r lo) := fun x => inferInstanceAs (Decidable (_ < _))

theorem mask_at (lo : ℕ) (hlo : lo < 8192) (x : Fin 256) (v w : EReal) :
    Scalar.select (k0_pay45 (k0_pay36 i) (iota .tc S512x256 32 [1] iota_S512x256_d1_w32) (BitVec.ofNat 32 lo) (ix2 r x)) v w = if below i r lo x then v else w := by
  have hx : (x : ℕ) < 256 := x.isLt
  have hr : (r : ℕ) < 1024 := r.isLt
  have hi : (i 2 : ℕ) < 16 := (i 2).isLt
  pointwise [k0_pay45, k0_pay36]
  by_cases h : (r : ℕ) < 512
  · rw [dif_pos h]
    exact (word_lt x lo r (i 2).val hx hlo (by omega) hi v w).trans (if_congr (by unfold below; omega) rfl rfl)
  · rw [dif_neg h]
    exact (word_lt x lo (r - 512) (i 2).val hx hlo (by omega) hi v w).trans (if_congr (by unfold below; omega) rfl rfl)

variable (Z : Vec Ideal S1024x256 .f32) (V : Vec Ideal S256x128 .bf16) (C A : Vec Ideal S1024x128 .f32)
  (c : EReal) (hC : ∀ l : Fin 128, C (ix2 r l) = c) (lo : ℕ) (hlo : lo < 8192)

/-- The columns' numbers. -/
abbrev cols : IVec S512x256 32 := iota .tc S512x256 32 [1] iota_S512x256_d1_w32

include hlo in
theorem pay46_at (j : Fin 256) : k0_pay46 k0_pay35 (k0_pay36 i) cols (BitVec.ofNat 32 lo) (k0_pay43 Z) (k0_pay44 Z) (ix2 r j)
    = csum (fun k => if below i r lo k then -sp (Z (ix2 r k)) else 0) j := by
  have e : (fun k => if below i r lo k then -sp (Z (ix2 r k)) else 0) = fun k => -(fun k => if below i r lo k then sp (Z (ix2 r k)) else 0) k :=
    funext fun k => by by_cases h : below i r lo k <;> simp [h]
  rw [e, ← neg_sum]
  simp only [← mask_at i r lo hlo]
  pointwise [k0_pay46, k0_pay43, k0_pay44, pay35_at, k_log2e]
  rfl

include hC hlo

theorem pay47_at (l : Fin 128) : k0_pay47 k0_pay35 (k0_pay36 i) cols Z (BitVec.ofNat 32 lo) (k0_pay42 V) (k0_pay43 Z) (k0_pay44 Z) C A (ix2 r l)
    = A (ix2 r l) + ∑ x : Fin 256, (if below i r lo x then Ideal.exp2 (Z (ix2 r x) + csum (fun k => if below i r lo k then -sp (Z (ix2 r k)) else 0) x + c) else 0) * V (ix2 x l) := by
  simp only [← pay46_at i r Z lo hlo]
  generalize hU : k0_pay46 k0_pay35 (k0_pay36 i) cols (BitVec.ofNat 32 lo) (k0_pay43 Z) (k0_pay44 Z) = U
  pointwise [k0_pay47, hU, k0_pay42, hC, mask_at i r lo hlo]
  exact congrArg (A (ix2 r l) + ·) (Fin.sum_univ_add (a := 128) (b := 128) fun x : Fin 256 => (if below i r lo x then Ideal.exp2 (Z (ix2 r x) + U (ix2 r x) + c) else 0) * V (ix2 x l)).symm

theorem pay48_at (l : Fin 128) : k0_pay48 k0_pay35 (k0_pay36 i) cols (BitVec.ofNat 32 lo) (k0_pay43 Z) (k0_pay44 Z) C (ix2 r l)
    = c + csum (fun k => if below i r lo k then -sp (Z (ix2 r k)) else 0) 0 := by
  rw [← pay46_at i r Z lo hlo]
  generalize hU : k0_pay46 k0_pay35 (k0_pay36 i) cols (BitVec.ofNat 32 lo) (k0_pay43 Z) (k0_pay44 Z) = U
  pointwise [k0_pay48, hU, hC]

end Masked

/-- The other masked step computes the same with its own place. -/
theorem pay4_eq (i : grid0.Coords) (Z : Vec Ideal S1024x256 .f32) (V : Vec Ideal S256x128 .bf16) (C A : Vec Ideal S1024x128 .f32) :
    k0_pay4 k0_pay35 Z (k0_pay31 V) (k0_pay32 (BitVec.ofNat 32 (i 2).val) (k0_pay36 i) cols) (k0_pay33 (BitVec.ofNat 32 (i 2).val) (k0_pay36 i) cols Z) (constant S1024x256 .f32 0x00000000#32) C A
      = k0_pay47 k0_pay35 (k0_pay36 i) cols Z (BitVec.ofNat 32 (256 * (2 * (i 2).val))) (k0_pay42 V) (k0_pay43 Z) (k0_pay44 Z) C A := by
  rw [← start2]; rfl
theorem pay5_eq (i : grid0.Coords) (Z : Vec Ideal S1024x256 .f32) (C : Vec Ideal S1024x128 .f32) :
    k0_pay5 k0_pay35 (k0_pay33 (BitVec.ofNat 32 (i 2).val) (k0_pay36 i) cols Z) (constant S1024x256 .f32 0x00000000#32) C
      = k0_pay48 k0_pay35 (k0_pay36 i) cols (BitVec.ofNat 32 (256 * (2 * (i 2).val))) (k0_pay43 Z) (k0_pay44 Z) C := by
  rw [← start2]; rfl
theorem pay1_eq (i : grid0.Coords) (Z : Vec Ideal S1024x256 .f32) (V : Vec Ideal S256x128 .bf16) (C A : Vec Ideal S1024x128 .f32) :
    k0_pay1 (k0_pay15 k0_pay35 (k0_pay36 i) cols Z V C A) = k0_pay47 k0_pay35 (k0_pay36 i) cols Z (BitVec.ofNat 32 0) (k0_pay42 V) (k0_pay43 Z) (k0_pay44 Z) C A := rfl
theorem pay2_eq (i : grid0.Coords) (Z : Vec Ideal S1024x256 .f32) (C : Vec Ideal S1024x128 .f32) :
    k0_pay2 (k0_pay14 k0_pay35 (k0_pay36 i) cols Z) C = k0_pay48 k0_pay35 (k0_pay36 i) cols (BitVec.ofNat 32 0) (k0_pay43 Z) (k0_pay44 Z) C := rfl

/-- The output takes each head's lanes from its own rows. -/
theorem pay12_at (a b : Vec Ideal S512x128 .f32) (r : Fin 512) (l : Fin 128) :
    k0_pay12 (iota .tc S1x128 32 [1] iota_S1x128_d1_w32) a b (ix2 r l) = if l.val < 64 then a (ix2 r l) else b (ix2 r l) := by
  rw [← lt_bit]
  pointwise [k0_pay12]

end Cert.Proof.Sb
-- ==== Proof.SbGoal.lean ====
/-
  The stick-breaking kernel's scores, tail sums and weighted values against the reference's.
-/
module

public import proofs.«01_k».proof.Proof.SbRef
public import proofs.«01_k».proof.Proof.SbStep
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

/-- A nonnegative real factor distributes over a sum. -/
theorem mul_sum_nonneg {ι : Type} (a : ℝ) (ha : 0 ≤ a) (s : Finset ι) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.2 ha) (EReal.coe_ne_top _), ih]

theorem suf_zero (N : ℕ) (u : ℕ → EReal) (lo : ℕ) (h : ∀ s, lo ≤ s → u s = 0) : suf N u lo = 0 :=
  Finset.sum_eq_zero fun s hs => h s (Finset.mem_Ico.1 hs).1

/-- The head and the query of a stacked row, the head and the component of a lane. -/
def hd (hp : Fin 4) (r : Fin 1024) : Fin 8 := ⟨2 * hp.val + r.val / 512, by omega⟩
def qp (i : Fin 16) (r : Fin 1024) : Fin 8192 := ⟨512 * i.val + r.val % 512, by omega⟩
def lh (hp : Fin 4) (l : Fin 128) : Fin 8 := ⟨2 * hp.val + l.val / 64, by omega⟩
def ld (l : Fin 128) : Fin 64 := ⟨l.val % 64, by omega⟩

/-- A sum over 128 lanes by halves. -/
theorem lanes (f : Fin 128 → EReal) : ∑ d, f d = ∑ d : Fin 64, f ⟨d.val, by omega⟩ + ∑ d : Fin 64, f ⟨64 + d.val, by omega⟩ :=
  Fin.sum_univ_add (a := 64) (b := 64) f

section Row

variable (h : FVec Ideal Cert.Reference10Ideal.S2x8192x3072 .f32) (b : Fin 2) (n : Fin 8) (p : Fin 8192)

/-- A row's scores in base-two units. -/
def zk (s : ℕ) : EReal := (cL : EReal) * ext (score h b n p) s

theorem stay_eq (s : ℕ) : stay p.val (zk h b n p) s = (cL : EReal) * ext (leaves h b n p) s := by
  have hp : (p : ℕ) < 8192 := p.isLt
  unfold stay zk ext
  by_cases hs : s < p.val
  · have h1 : s < 8192 := by omega
    rw [if_pos hs, dif_pos h1, dif_pos h1, sp_eq]
    unfold leaves
    rw [if_pos hs, mul_neg]
  · rw [if_neg hs]
    split_ifs with h1
    · unfold leaves
      rw [if_neg hs, mul_zero]
    · rw [mul_zero]

theorem suf_stay (j : ℕ) : suf 8192 (stay p.val (zk h b n p)) j = (cL : EReal) * suf 8192 (ext (leaves h b n p)) j := by
  unfold suf
  rw [mul_sum_real]
  exact Finset.sum_congr rfl fun s _ => stay_eq h b n p s

theorem leaves_le (s : ℕ) : ext (leaves h b n p) s ≤ 0 := by
  unfold ext
  split_ifs with h1
  · unfold leaves
    split_ifs
    · rw [EReal.neg_le, neg_zero]; exact soft_nonneg _
    · exact le_rfl
  · exact le_rfl

theorem wgt_eq (s : ℕ) : wgt 8192 p.val (zk h b n p) s = ext (weigh h b n p) s := by
  have hp : (p : ℕ) < 8192 := p.isLt
  unfold wgt
  by_cases hs : s < p.val
  · have h1 : s < 8192 := by omega
    have e1 : ext (leaves h b n p) s = -soft (score h b n p ⟨s, h1⟩) := by
      unfold ext leaves; rw [dif_pos h1, if_pos hs]
    have e2 : suf 8192 (ext (leaves h b n p)) s = -soft (score h b n p ⟨s, h1⟩) + suf 8192 (ext (leaves h b n p)) (s + 1) := by
      unfold suf
      rw [Finset.sum_eq_sum_Ico_succ_bot h1, e1]
    have e3 : leaves h b n p ⟨s, h1⟩ = -soft (score h b n p ⟨s, h1⟩) := by unfold leaves; rw [if_pos hs]
    rw [if_pos hs, suf_stay, e2]
    unfold zk
    rw [show ext (score h b n p) s = score h b n p ⟨s, h1⟩ by unfold ext; rw [dif_pos h1]]
    rw [weight _ (suf 8192 (ext (leaves h b n p)) (s + 1)) (Finset.sum_nonpos fun s _ => leaves_le h b n p s)]
    have e4 : ext (weigh h b n p) s = weigh h b n p ⟨s, h1⟩ := by unfold ext; rw [dif_pos h1]
    rw [e4]
    unfold weigh
    rw [if_pos hs, e3, e2]
  · rw [if_neg hs]
    unfold ext
    split_ifs with h1
    · unfold weigh; rw [if_neg hs]
    · rfl

/-- The kernel's weighted values over all keys are the reference's. -/
theorem whole (d : Fin 64) : suf 8192 (wv 8192 p.val (zk h b n p) (ext fun j => vh h (ix4 b j n d))) 0 = ctx h (ix4 b p n d) := by
  rw [ctx_at, sum_ext]
  refine congrArg (fun u => suf 8192 u 0) (funext fun s => ?_)
  unfold wv
  rw [wgt_eq]
  unfold ext
  split_ifs
  · exact mul_comm _ _
  · exact mul_zero _

end Row

section Score

variable (h : FVec Ideal Cert.Reference10Ideal.S2x8192x3072 .f32) (b : Fin 2) (hp : Fin 4) (i : Fin 16)

/-- The kernel's score is the reference's in base-two units. -/
theorem sc_eq (x : Vec Ideal S512x128 .bf16) (k : Vec Ideal S256x128 .bf16) (lo : ℕ) (hlo : lo + 256 ≤ 8192)
    (e0 : ∀ (s : Fin 512) (l : Fin 128), x (ix2 s l) = qh h (ix4 b ⟨512 * i.val + s.val, by omega⟩ (lh hp l) (ld l)))
    (e1 : ∀ (s : Fin 256) (l : Fin 128), k (ix2 s l) = kh h (ix4 b ⟨lo + s.val, by omega⟩ (lh hp l) (ld l)))
    (r : Fin 1024) (j : Fin 256) :
    sc (k0_pay34 x) k r j = zk h b (hd hp r) (qp i r) (lo + j.val) := by
  have hr : (r : ℕ) < 1024 := r.isLt
  have hj : lo + j.val < 8192 := by omega
  have main : ∀ q y : EReal, q * (((1 / 8) * (Real.log 2)⁻¹ : ℝ) : EReal) * y = (cL : EReal) * (((1 / 8 : ℝ) : EReal) * (q * y)) := fun q y => by
    rw [mul_comm (1 / 8 : ℝ), EReal.coe_mul, mul_comm q, mul_assoc, mul_assoc]; rfl
  have whole : ∀ f : Fin 64 → EReal, ∑ d, (cL : EReal) * (((1 / 8 : ℝ) : EReal) * f d) = (cL : EReal) * ((∑ d, f d) * ((1 / 8 : ℝ) : EReal)) := fun f => by
    rw [← mul_sum_real, ← mul_sum_nonneg _ (by norm_num), mul_comm (∑ d, f d)]
  unfold sc zk ext score
  rw [dif_pos hj, lanes]
  simp only [pay34_at, e1]
  rw [← whole]
  by_cases h1 : r.val < 512
  · have a1 : ∀ d : Fin 64, qs x r ⟨d.val, by omega⟩ * kh h (ix4 b ⟨lo + j.val, hj⟩ (lh hp ⟨d.val, by omega⟩) (ld ⟨d.val, by omega⟩))
        = (cL : EReal) * (((1 / 8 : ℝ) : EReal) * (qh h (ix4 b (qp i r) (hd hp r) d) * kh h (ix4 b ⟨lo + j.val, hj⟩ (hd hp r) d))) := fun d => by
      have n1 : lh hp ⟨d.val, by omega⟩ = hd hp r := Fin.ext (by simp only [lh, hd]; omega)
      have n2 : ld ⟨d.val, by omega⟩ = d := Fin.ext (by simp only [ld]; omega)
      have n3 : (⟨512 * i.val + r.val, by omega⟩ : Fin 8192) = qp i r := Fin.ext (by simp only [qp]; omega)
      unfold qs
      rw [dif_pos h1, if_pos d.isLt, e0, n1, n2]
      dsimp only
      rw [n3, main]
    have a2 : ∀ d : Fin 64, qs x r ⟨64 + d.val, by omega⟩ * kh h (ix4 b ⟨lo + j.val, hj⟩ (lh hp ⟨64 + d.val, by omega⟩) (ld ⟨64 + d.val, by omega⟩)) = 0 := fun d => by
      unfold qs
      rw [dif_pos h1, if_neg (by simp), zero_mul]
    simp only [a1, a2, Finset.sum_const_zero, add_zero]
  · have a1 : ∀ d : Fin 64, qs x r ⟨64 + d.val, by omega⟩ * kh h (ix4 b ⟨lo + j.val, hj⟩ (lh hp ⟨64 + d.val, by omega⟩) (ld ⟨64 + d.val, by omega⟩))
        = (cL : EReal) * (((1 / 8 : ℝ) : EReal) * (qh h (ix4 b (qp i r) (hd hp r) d) * kh h (ix4 b ⟨lo + j.val, hj⟩ (hd hp r) d))) := fun d => by
      have n1 : lh hp ⟨64 + d.val, by omega⟩ = hd hp r := Fin.ext (by simp only [lh, hd]; omega)
      have n2 : ld ⟨64 + d.val, by omega⟩ = d := Fin.ext (by simp only [ld]; omega)
      have n3 : (⟨512 * i.val + (r.val - 512), by omega⟩ : Fin 8192) = qp i r := Fin.ext (by simp only [qp]; omega)
      unfold qs
      rw [dif_neg h1, if_pos (by simp), e0, n1, n2]
      dsimp only
      rw [n3, main]
    have a2 : ∀ d : Fin 64, qs x r ⟨d.val, by omega⟩ * kh h (ix4 b ⟨lo + j.val, hj⟩ (lh hp ⟨d.val, by omega⟩) (ld ⟨d.val, by omega⟩)) = 0 := fun d => by
      unfold qs
      rw [dif_neg h1, if_neg (by simp), zero_mul]
    simp only [a1, a2, Finset.sum_const_zero, zero_add]

end Score

section Masked

variable (i : grid0.Coords) (z : Fin 1024 → ℕ → EReal) (v : Fin 128 → ℕ → EReal) (Z : Vec Ideal S1024x256 .f32) (V : Vec Ideal S256x128 .bf16)
  (C A : Vec Ideal S1024x128 .f32) (lo : ℕ) (hlo : lo + 256 ≤ 8192) (hZ : ∀ r x, Z (ix2 r x) = z r (lo + x.val))
  (hC : ∀ r l, C (ix2 r l) = suf 8192 (stay (512 * (i 2).val + r.val % 512) (z r)) (lo + 256))

include hZ in
theorem masked_stay (r : Fin 1024) : (fun k : Fin 256 => if below i r lo k then -sp (Z (ix2 r k)) else 0) = fun k => stay (512 * (i 2).val + r.val % 512) (z r) (lo + k.val) :=
  funext fun k => by rw [hZ]; rfl

include hlo hZ hC in
/-- One masked step of the tail sums and of the weighted values. -/
theorem mask_c (r : Fin 1024) (l : Fin 128) : k0_pay48 k0_pay35 (k0_pay36 i) cols (BitVec.ofNat 32 lo) (k0_pay43 Z) (k0_pay44 Z) C (ix2 r l)
    = suf 8192 (stay (512 * (i 2).val + r.val % 512) (z r)) lo := by
  rw [pay48_at i r Z C _ (hC r) lo (by omega) l, masked_stay i z Z lo hZ r]
  exact step_c 8192 _ _ lo hlo
include hlo hZ hC in
theorem mask_a (hA : ∀ r l, A (ix2 r l) = suf 8192 (wv 8192 (512 * (i 2).val + r.val % 512) (z r) (v l)) (lo + 256))
    (hV : ∀ x l, V (ix2 x l) = v l (lo + x.val)) (r : Fin 1024) (l : Fin 128) :
    k0_pay47 k0_pay35 (k0_pay36 i) cols Z (BitVec.ofNat 32 lo) (k0_pay42 V) (k0_pay43 Z) (k0_pay44 Z) C A (ix2 r l)
      = suf 8192 (wv 8192 (512 * (i 2).val + r.val % 512) (z r) (v l)) lo := by
  rw [pay47_at i r Z V C A _ (hC r) lo (by omega) l, masked_stay i z Z lo hZ r, hA, ← step_a 8192 _ (z r) (v l) lo hlo]
  congr 1
  refine Finset.sum_congr rfl fun x _ => ?_
  rw [hZ, hV]
  rfl

end Masked

end Cert.Proof.Sb
-- ==== Proof.SbOff.lean ====
/-
  The stick-breaking kernel's loop bounds and the places of its loads.
-/
module

public import proofs.«01_k».proof.Proof.Gen.Kernel10Ideal
public import Idealize.ShloMosaic.Lib.Pipeline.ValueKit
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

theorem trips1 : ∀ i : grid0.Coords, (k0_t1_loop i).trips = (i 2).val := by decide +kernel
theorem trips2 : ∀ i : grid0.Coords, (k0_t2_loop i).trips = 0 := by decide +kernel

/-- A trip's loads: the next block's keys, its own values, then the keys of the block after and the next block's values. -/
theorem off6 : ∀ (i : grid0.Coords) (k : Fin (k0_t1_loop i).trips), k0_off6 i k = ![256 * (2 * ((i 2).val - 1 - k.val)), 0] := by decide +kernel
theorem off7 : ∀ (i : grid0.Coords) (k : Fin (k0_t1_loop i).trips), k0_off7 i k = ![256 * (2 * ((i 2).val - 1 - k.val) + 1), 0] := by decide +kernel
theorem off8 : ∀ (i : grid0.Coords) (k : Fin (k0_t1_loop i).trips), k0_off8 i k = ![256 * (2 * ((i 2).val - 1 - k.val) - 1), 0] := by decide +kernel

/-- The two masked blocks' places. -/
theorem off1 : ∀ i : grid0.Coords, k0_off1 i = ![256 * (2 * (i 2).val + 1), 0] := by decide +kernel
theorem off2 : ∀ i : grid0.Coords, k0_off2 i = ![256 * (2 * (i 2).val), 0] := by decide +kernel
theorem off3 : ∀ i : grid0.Coords, k0_off3 i = ![256 * (2 * (i 2).val + 1), 0] := by decide +kernel
theorem off4 : ∀ i : grid0.Coords, k0_cond2 i = 1#1 → k0_off4 i = ![256 * (2 * (i 2).val - 1), 0] := by decide +kernel
theorem off5 : ∀ i : grid0.Coords, k0_cond2 i = 1#1 → k0_off5 i = ![256 * (2 * (i 2).val), 0] := by decide +kernel

end Cert.Proof.Sb
-- ==== Proof.SbRun.lean ====
/-
  What the stick-breaking kernel's weighted values, tail sums and scores hold after any number of its loop's trips.
-/
module

public import proofs.«01_k».proof.Proof.Gen.Kernel10Ideal.Loops
public import proofs.«01_k».proof.Proof.SbStep
public import proofs.«01_k».proof.Proof.SbOff
public import Idealize.ShloMosaic.Lib.VecWindow
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

section Loop

variable (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (arg2 : BitVec 32) (v19 : FVec Ideal S1024x128 .bf16) (k0_h2 : k0_cond2 i = 1#1) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (G_arg9 : BufTy.Contents (Elt Ideal) arg9.view.ty) (init : BitVec 32)

/-- The loop's carried state before a trip. -/
abbrev St (n : ℕ) := st_k0_t1 (F := Ideal) 𝒱 c bd i arg3 harg3 arg4 harg4 arg5 harg5 arg6 harg6 arg7 harg7 arg8 harg8 arg9 harg9 arg2 v19 k0_pay35 k0_h2 X_arg4 X_arg5 G_arg7 G_arg8 G_arg9 init n

/-- The three scratch buffers before a trip. -/
def acc (n : ℕ) : Vec Ideal S1024x128 .f32 := arg7.view.read (Elt Ideal) (arg7.view.writes (Elt Ideal) G_arg7 (St 𝒱 c bd i arg3 harg3 arg4 harg4 arg5 harg5 arg6 harg6 arg7 harg7 arg8 harg8 arg9 harg9 arg2 v19 k0_h2 X_arg4 X_arg5 G_arg7 G_arg8 G_arg9 init n).2.1)
def tl (n : ℕ) : Vec Ideal S1024x128 .f32 := arg8.view.read (Elt Ideal) (arg8.view.writes (Elt Ideal) G_arg8 (St 𝒱 c bd i arg3 harg3 arg4 harg4 arg5 harg5 arg6 harg6 arg7 harg7 arg8 harg8 arg9 harg9 arg2 v19 k0_h2 X_arg4 X_arg5 G_arg7 G_arg8 G_arg9 init n).2.2.1)
def scr (n : ℕ) : Vec Ideal S1024x256 .f32 := arg9.view.read (Elt Ideal) (arg9.view.writes (Elt Ideal) G_arg9 (St 𝒱 c bd i arg3 harg3 arg4 harg4 arg5 harg5 arg6 harg6 arg7 harg7 arg8 harg8 arg9 harg9 arg2 v19 k0_h2 X_arg4 X_arg5 G_arg7 G_arg8 G_arg9 init n).2.2.2)

/-- Before the first trip they hold what they held at the loop's start. -/
theorem acc_zero : acc 𝒱 c bd i arg3 harg3 arg4 harg4 arg5 harg5 arg6 harg6 arg7 harg7 arg8 harg8 arg9 harg9 arg2 v19 k0_h2 X_arg4 X_arg5 G_arg7 G_arg8 G_arg9 init 0 = arg7.view.read (Elt Ideal) G_arg7 := rfl
theorem tl_zero : tl 𝒱 c bd i arg3 harg3 arg4 harg4 arg5 harg5 arg6 harg6 arg7 harg7 arg8 harg8 arg9 harg9 arg2 v19 k0_h2 X_arg4 X_arg5 G_arg7 G_arg8 G_arg9 init 0 = arg8.view.read (Elt Ideal) G_arg8 := rfl
theorem scr_zero : scr 𝒱 c bd i arg3 harg3 arg4 harg4 arg5 harg5 arg6 harg6 arg7 harg7 arg8 harg8 arg9 harg9 arg2 v19 k0_h2 X_arg4 X_arg5 G_arg7 G_arg8 G_arg9 init 0 = arg9.view.read (Elt Ideal) G_arg9 := rfl

variable (k : Fin (k0_t1_loop i).trips)

/-- A trip's loads. -/
def key6 : Vec Ideal S256x128 .bf16 := arg4.view.readAt (Elt Ideal) (Rect.unit (s := S8192x128) (k0_off6 i k) S256x128.size (k0_off6_inb i k k0_h2)).toLoadRect X_arg4
def key8 : Vec Ideal S256x128 .bf16 := arg4.view.readAt (Elt Ideal) (Rect.unit (s := S8192x128) (k0_off8 i k) S256x128.size (k0_off8_inb i k k0_h2)).toLoadRect X_arg4
def val7 : Vec Ideal S256x128 .bf16 := arg5.view.readAt (Elt Ideal) (Rect.unit (s := S8192x128) (k0_off7 i k) S256x128.size (k0_off7_inb i k k0_h2)).toLoadRect X_arg5
def val6 : Vec Ideal S256x128 .bf16 := arg5.view.readAt (Elt Ideal) (Rect.unit (s := S8192x128) (k0_off6 i k) S256x128.size (k0_off6_inb i k k0_h2)).toLoadRect X_arg5

theorem scr_succ : scr 𝒱 c bd i arg3 harg3 arg4 harg4 arg5 harg5 arg6 harg6 arg7 harg7 arg8 harg8 arg9 harg9 arg2 v19 k0_h2 X_arg4 X_arg5 G_arg7 G_arg8 G_arg9 init (k.val + 1) = k0_pay21 v19 (key8 i arg4 k0_h2 X_arg4 k) := by
  unfold scr St
  rw [st_k0_t1_succ]
  unfold tripL_k0_t1 trip_k0_t1
  dsimp only
  rw [View.writes_append]
  refine (View.read_writes_full (s := S1024x256) arg9.view _ inb_S1024x256_S1024x256_0_0 _ _).trans ?_
  rfl

theorem tl_succ : tl 𝒱 c bd i arg3 harg3 arg4 harg4 arg5 harg5 arg6 harg6 arg7 harg7 arg8 harg8 arg9 harg9 arg2 v19 k0_h2 X_arg4 X_arg5 G_arg7 G_arg8 G_arg9 init (k.val + 1)
    = k0_pay8 k0_pay35 (k0_pay16 v19 (key6 i arg4 k0_h2 X_arg4 k)) (Scalar.ofBits .f32 0x00000000#32)
        (k0_pay20 (k0_pay18 k0_pay35 (scr 𝒱 c bd i arg3 harg3 arg4 harg4 arg5 harg5 arg6 harg6 arg7 harg7 arg8 harg8 arg9 harg9 arg2 v19 k0_h2 X_arg4 X_arg5 G_arg7 G_arg8 G_arg9 init k.val)) (tl 𝒱 c bd i arg3 harg3 arg4 harg4 arg5 harg5 arg6 harg6 arg7 harg7 arg8 harg8 arg9 harg9 arg2 v19 k0_h2 X_arg4 X_arg5 G_arg7 G_arg8 G_arg9 init k.val)) := by
  unfold tl scr St
  rw [st_k0_t1_succ]
  unfold tripL_k0_t1 trip_k0_t1
  dsimp only
  rw [View.writes_append]
  refine (View.read_writes_full (s := S1024x128) arg8.view _ inb_S1024x128_S1024x128_0_0 _ _).trans ?_
  have e9 := View.readAt_full (s := S1024x256) arg9.view (arg9.view.writes (Elt Ideal) G_arg9 (St 𝒱 c bd i arg3 harg3 arg4 harg4 arg5 harg5 arg6 harg6 arg7 harg7 arg8 harg8 arg9 harg9 arg2 v19 k0_h2 X_arg4 X_arg5 G_arg7 G_arg8 G_arg9 init k.val).2.2.2) inb_S1024x256_S1024x256_0_0
  have e8 := View.readAt_full (s := S1024x128) arg8.view (arg8.view.writes (Elt Ideal) G_arg8 (St 𝒱 c bd i arg3 harg3 arg4 harg4 arg5 harg5 arg6 harg6 arg7 harg7 arg8 harg8 arg9 harg9 arg2 v19 k0_h2 X_arg4 X_arg5 G_arg7 G_arg8 G_arg9 init k.val).2.2.1) inb_S1024x128_S1024x128_0_0
  rw [← e9, ← e8]
  refine congrArg₂ (fun a b => k0_pay8 k0_pay35 a (Scalar.ofBits .f32 0x00000000#32) b) ?_ ?_
  · exact View.readCov_full (s := S1024x256) arg9.view inb_S1024x256_S1024x256_0_0 inb_S1024x256_S1024x256_0_0 _ _
  · exact View.readCov_full (s := S1024x128) arg8.view inb_S1024x128_S1024x128_0_0 inb_S1024x128_S1024x128_0_0 _ _

theorem acc_succ : acc 𝒱 c bd i arg3 harg3 arg4 harg4 arg5 harg5 arg6 harg6 arg7 harg7 arg8 harg8 arg9 harg9 arg2 v19 k0_h2 X_arg4 X_arg5 G_arg7 G_arg8 G_arg9 init (k.val + 1)
    = k0_pay7 k0_pay35 (k0_pay16 v19 (key6 i arg4 k0_h2 X_arg4 k)) (k0_pay22 (val6 i arg5 k0_h2 X_arg5 k)) (Scalar.ofBits .f32 0x00000000#32)
        (k0_pay20 (k0_pay18 k0_pay35 (scr 𝒱 c bd i arg3 harg3 arg4 harg4 arg5 harg5 arg6 harg6 arg7 harg7 arg8 harg8 arg9 harg9 arg2 v19 k0_h2 X_arg4 X_arg5 G_arg7 G_arg8 G_arg9 init k.val)) (tl 𝒱 c bd i arg3 harg3 arg4 harg4 arg5 harg5 arg6 harg6 arg7 harg7 arg8 harg8 arg9 harg9 arg2 v19 k0_h2 X_arg4 X_arg5 G_arg7 G_arg8 G_arg9 init k.val))
        (k0_pay19 (scr 𝒱 c bd i arg3 harg3 arg4 harg4 arg5 harg5 arg6 harg6 arg7 harg7 arg8 harg8 arg9 harg9 arg2 v19 k0_h2 X_arg4 X_arg5 G_arg7 G_arg8 G_arg9 init k.val) (k0_pay17 (val7 i arg5 k0_h2 X_arg5 k)) (k0_pay18 k0_pay35 (scr 𝒱 c bd i arg3 harg3 arg4 harg4 arg5 harg5 arg6 harg6 arg7 harg7 arg8 harg8 arg9 harg9 arg2 v19 k0_h2 X_arg4 X_arg5 G_arg7 G_arg8 G_arg9 init k.val)) (tl 𝒱 c bd i arg3 harg3 arg4 harg4 arg5 harg5 arg6 harg6 arg7 harg7 arg8 harg8 arg9 harg9 arg2 v19 k0_h2 X_arg4 X_arg5 G_arg7 G_arg8 G_arg9 init k.val) (acc 𝒱 c bd i arg3 harg3 arg4 harg4 arg5 harg5 arg6 harg6 arg7 harg7 arg8 harg8 arg9 harg9 arg2 v19 k0_h2 X_arg4 X_arg5 G_arg7 G_arg8 G_arg9 init k.val)) := by
  unfold acc tl scr St
  rw [st_k0_t1_succ]
  unfold tripL_k0_t1 trip_k0_t1
  dsimp only
  rw [View.writes_append]
  refine (View.read_writes_full (s := S1024x128) arg7.view _ inb_S1024x128_S1024x128_0_0 _ _).trans ?_
  have e9 := View.readAt_full (s := S1024x256) arg9.view (arg9.view.writes (Elt Ideal) G_arg9 (St 𝒱 c bd i arg3 harg3 arg4 harg4 arg5 harg5 arg6 harg6 arg7 harg7 arg8 harg8 arg9 harg9 arg2 v19 k0_h2 X_arg4 X_arg5 G_arg7 G_arg8 G_arg9 init k.val).2.2.2) inb_S1024x256_S1024x256_0_0
  have e8 := View.readAt_full (s := S1024x128) arg8.view (arg8.view.writes (Elt Ideal) G_arg8 (St 𝒱 c bd i arg3 harg3 arg4 harg4 arg5 harg5 arg6 harg6 arg7 harg7 arg8 harg8 arg9 harg9 arg2 v19 k0_h2 X_arg4 X_arg5 G_arg7 G_arg8 G_arg9 init k.val).2.2.1) inb_S1024x128_S1024x128_0_0
  have e7 := View.readAt_full (s := S1024x128) arg7.view (arg7.view.writes (Elt Ideal) G_arg7 (St 𝒱 c bd i arg3 harg3 arg4 harg4 arg5 harg5 arg6 harg6 arg7 harg7 arg8 harg8 arg9 harg9 arg2 v19 k0_h2 X_arg4 X_arg5 G_arg7 G_arg8 G_arg9 init k.val).2.1) inb_S1024x128_S1024x128_0_0
  rw [← e9, ← e8, ← e7]
  refine congr (congr (congrArg (fun a b c => k0_pay7 k0_pay35 a (k0_pay22 (val6 i arg5 k0_h2 X_arg5 k)) (Scalar.ofBits .f32 0x00000000#32) b c) ?_) ?_) ?_
  · exact View.readCov_full (s := S1024x256) arg9.view inb_S1024x256_S1024x256_0_0 inb_S1024x256_S1024x256_0_0 _ _
  · exact View.readCov_full (s := S1024x128) arg8.view inb_S1024x128_S1024x128_0_0 inb_S1024x128_S1024x128_0_0 _ _
  · exact View.readCov_full (s := S1024x128) arg7.view inb_S1024x128_S1024x128_0_0 inb_S1024x128_S1024x128_0_0 _ _

/-- After `n` trips: the tail sums and the weighted values over the keys from `512 * (i - n)` on, and the scores of the block below. -/
theorem loop_inv (N : ℕ) (p : Fin 1024 → ℕ) (z : Fin 1024 → ℕ → EReal) (v : Fin 128 → ℕ → EReal)
    (hN : 512 * (i 2).val ≤ N) (hp : ∀ r, 512 * (i 2).val ≤ p r)
    (a0 : ∀ r l, acc 𝒱 c bd i arg3 harg3 arg4 harg4 arg5 harg5 arg6 harg6 arg7 harg7 arg8 harg8 arg9 harg9 arg2 v19 k0_h2 X_arg4 X_arg5 G_arg7 G_arg8 G_arg9 init 0 (ix2 r l) = suf N (wv N (p r) (z r) (v l)) (512 * (i 2).val))
    (c0 : ∀ r l, tl 𝒱 c bd i arg3 harg3 arg4 harg4 arg5 harg5 arg6 harg6 arg7 harg7 arg8 harg8 arg9 harg9 arg2 v19 k0_h2 X_arg4 X_arg5 G_arg7 G_arg8 G_arg9 init 0 (ix2 r l) = suf N (stay (p r) (z r)) (512 * (i 2).val))
    (z0 : ∀ r x, scr 𝒱 c bd i arg3 harg3 arg4 harg4 arg5 harg5 arg6 harg6 arg7 harg7 arg8 harg8 arg9 harg9 arg2 v19 k0_h2 X_arg4 X_arg5 G_arg7 G_arg8 G_arg9 init 0 (ix2 r x) = z r (512 * ((i 2).val - 1) + 256 + x.val))
    (hZ6 : ∀ k r x, sc v19 (key6 i arg4 k0_h2 X_arg4 k) r x = z r (512 * ((i 2).val - 1 - k.val) + x.val))
    (hZ8 : ∀ k, k.val + 1 < (i 2).val → ∀ r x, sc v19 (key8 i arg4 k0_h2 X_arg4 k) r x = z r (512 * ((i 2).val - 1 - (k.val + 1)) + 256 + x.val))
    (hV7 : ∀ k x l, val7 i arg5 k0_h2 X_arg5 k (ix2 x l) = v l (512 * ((i 2).val - 1 - k.val) + 256 + x.val))
    (hV6 : ∀ k x l, val6 i arg5 k0_h2 X_arg5 k (ix2 x l) = v l (512 * ((i 2).val - 1 - k.val) + x.val)) :
    ∀ n : ℕ, n ≤ (k0_t1_loop i).trips →
      (∀ r l, acc 𝒱 c bd i arg3 harg3 arg4 harg4 arg5 harg5 arg6 harg6 arg7 harg7 arg8 harg8 arg9 harg9 arg2 v19 k0_h2 X_arg4 X_arg5 G_arg7 G_arg8 G_arg9 init n (ix2 r l) = suf N (wv N (p r) (z r) (v l)) (512 * ((i 2).val - n)))
      ∧ (∀ r l, tl 𝒱 c bd i arg3 harg3 arg4 harg4 arg5 harg5 arg6 harg6 arg7 harg7 arg8 harg8 arg9 harg9 arg2 v19 k0_h2 X_arg4 X_arg5 G_arg7 G_arg8 G_arg9 init n (ix2 r l) = suf N (stay (p r) (z r)) (512 * ((i 2).val - n)))
      ∧ (n + 1 ≤ (i 2).val → ∀ r x, scr 𝒱 c bd i arg3 harg3 arg4 harg4 arg5 harg5 arg6 harg6 arg7 harg7 arg8 harg8 arg9 harg9 arg2 v19 k0_h2 X_arg4 X_arg5 G_arg7 G_arg8 G_arg9 init n (ix2 r x) = z r (512 * ((i 2).val - 1 - n) + 256 + x.val))
  | 0, _ => ⟨a0, c0, fun _ => z0⟩
  | n + 1, hn => by
    obtain ⟨ha, hc, hz⟩ := loop_inv N p z v hN hp a0 c0 z0 hZ6 hZ8 hV7 hV6 n (by omega)
    have hi : n + 1 ≤ (i 2).val := by rw [← trips1]; exact hn
    have hz := hz hi
    have eB : 512 * ((i 2).val - n) = 512 * ((i 2).val - 1 - n) + 256 + 256 := by omega
    have eE : (i 2).val - (n + 1) = (i 2).val - 1 - n := by omega
    have low : ∀ r, ∀ s, s < 512 * ((i 2).val - n) → s < p r := fun r s hs => by have := hp r; omega
    rw [eB] at ha hc low
    generalize hm : 512 * ((i 2).val - 1 - n) = lo at *
    have hlo : lo + 256 + 256 ≤ N := by omega
    have s1 : ∀ r, (fun k : Fin 256 => -sp (scr 𝒱 c bd i arg3 harg3 arg4 harg4 arg5 harg5 arg6 harg6 arg7 harg7 arg8 harg8 arg9 harg9 arg2 v19 k0_h2 X_arg4 X_arg5 G_arg7 G_arg8 G_arg9 init n (ix2 r k))) = fun k => stay (p r) (z r) (lo + 256 + k.val) := fun r => funext fun k => by
      rw [hz r k, stay, if_pos (low r _ (by omega))]
    have s2 : ∀ r, (fun k : Fin 256 => -sp (k0_pay16 v19 (key6 i arg4 k0_h2 X_arg4 ⟨n, hn⟩) (ix2 r k))) = fun k => stay (p r) (z r) (lo + k.val) := fun r => funext fun k => by
      rw [pay16_at, hZ6, stay, hm, if_pos (low r _ (by omega))]
    have c1 : ∀ r l, k0_pay20 (k0_pay18 k0_pay35 (scr 𝒱 c bd i arg3 harg3 arg4 harg4 arg5 harg5 arg6 harg6 arg7 harg7 arg8 harg8 arg9 harg9 arg2 v19 k0_h2 X_arg4 X_arg5 G_arg7 G_arg8 G_arg9 init n)) (tl 𝒱 c bd i arg3 harg3 arg4 harg4 arg5 harg5 arg6 harg6 arg7 harg7 arg8 harg8 arg9 harg9 arg2 v19 k0_h2 X_arg4 X_arg5 G_arg7 G_arg8 G_arg9 init n) (ix2 r l) = suf N (stay (p r) (z r)) (lo + 256) := fun r l => by
      rw [pay20_at _ r _ (fun l => hc r l), pay18_at, s1, step_c N (p r) (z r) _ hlo]
    have a1 : ∀ r l, k0_pay19 (scr 𝒱 c bd i arg3 harg3 arg4 harg4 arg5 harg5 arg6 harg6 arg7 harg7 arg8 harg8 arg9 harg9 arg2 v19 k0_h2 X_arg4 X_arg5 G_arg7 G_arg8 G_arg9 init n) (k0_pay17 (val7 i arg5 k0_h2 X_arg5 ⟨n, hn⟩)) (k0_pay18 k0_pay35 (scr 𝒱 c bd i arg3 harg3 arg4 harg4 arg5 harg5 arg6 harg6 arg7 harg7 arg8 harg8 arg9 harg9 arg2 v19 k0_h2 X_arg4 X_arg5 G_arg7 G_arg8 G_arg9 init n)) (tl 𝒱 c bd i arg3 harg3 arg4 harg4 arg5 harg5 arg6 harg6 arg7 harg7 arg8 harg8 arg9 harg9 arg2 v19 k0_h2 X_arg4 X_arg5 G_arg7 G_arg8 G_arg9 init n) (acc 𝒱 c bd i arg3 harg3 arg4 harg4 arg5 harg5 arg6 harg6 arg7 harg7 arg8 harg8 arg9 harg9 arg2 v19 k0_h2 X_arg4 X_arg5 G_arg7 G_arg8 G_arg9 init n) (ix2 r l)
        = suf N (wv N (p r) (z r) (v l)) (lo + 256) := fun r l => by
      rw [pay19_at _ _ _ _ r _ (fun l => hc r l), ha, ← step_a N (p r) (z r) (v l) _ hlo]
      simp only [pay18_at, s1]
      congr 1
      refine Finset.sum_congr rfl fun x _ => ?_
      rw [hz r x, hV7, hm, if_pos (low r _ (by omega))]
    refine ⟨fun r l => ?_, fun r l => ?_, fun h r x => ?_⟩
    · rw [acc_succ (k := ⟨n, hn⟩), pay7_at _ _ _ _ r _ (fun l => c1 r l), s2, eE, hm, ← step_a N (p r) (z r) (v l) lo (by omega)]
      dsimp only
      rw [a1]
      congr 1
      refine Finset.sum_congr rfl fun x _ => ?_
      rw [pay16_at, hZ6, hV6, hm, if_pos (low r _ (by omega))]
    · rw [tl_succ (k := ⟨n, hn⟩), pay8_at _ _ r _ (fun l => c1 r l), s2, eE, hm]
      exact step_c N (p r) (z r) lo (by omega)
    · rw [scr_succ (k := ⟨n, hn⟩), pay21_at, hZ8 ⟨n, hn⟩ (by dsimp only; omega)]

end Loop

end Cert.Proof.Sb
-- ==== Proof.SbBlocks.lean ====
/-
  The stick-breaking attention's blocks: which entries of the argument a grid point's windows show, and the loads out of them.
-/
module

public import proofs.«01_k».proof.Proof.SbGoal
public import proofs.«01_k».proof.Proof.SbRun
public import proofs.«01_k».proof.Proof.Gen.Kernel10Ideal.Frame
public import Idealize.ShloMosaic.Lib.Pipeline.ValueKit
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- Which block each window shows at a point. -/
theorem idx : ∀ t : Fin cfg0.N, win0_0.index t = ![t.val / 64 * 16 + t.val % 16, t.val / 16 % 4] ∧ win0_1.index t = ![t.val / 64, 4 + t.val / 16 % 4]
    ∧ win0_2.index t = ![t.val / 64, 8 + t.val / 16 % 4] ∧ win0_3.index t = ![t.val / 64 * 16 + t.val % 16, t.val / 16 % 4] :=
  (by decide +kernel : ∀ t : Fin grid0.N, _)

variable (c : Dev nD) (t : Fin cfg0.N)

theorem lt : t.val < 128 := by have := t.isLt; have : cfg0.N = 128 := N_0; omega
/-- A point's batch, its pair of heads and its block of queries. -/
def pb : Fin 2 := ⟨t.val / 64, by have := lt t; omega⟩
def ph : Fin 4 := ⟨t.val / 16 % 4, by omega⟩
def pi : Fin 16 := ⟨t.val % 16, by omega⟩

theorem coord2 : ((grid0.coords t) 2).val = t.val % 16 := by
  rw [Pipeline.Grid.coords_val t 2 (S := 1) (B := 16) (by decide +kernel) rfl, Nat.div_one]

/-- The argument. -/
abbrev ah : FVec Ideal Cert.Reference10Ideal.S2x8192x3072 .f32 := m ((c : Thread nD τ).loc main_arg0)

theorem blk0 (s : Fin 512) (l : Fin 128) : iblk m c 0 t (ix2 s l) = qh (ah m c) (ix4 (pb t) ⟨512 * (pi t).val + s.val, by omega⟩ (lh (ph t) l) (ld l)) := by
  rw [qh_at]
  have := lt t
  blk_point [iblk, V, idx t, pb, ph, pi, lh, ld, ah]
theorem blk1 (s : Fin 8192) (l : Fin 128) : iblk m c 1 t (ix2 s l) = kh (ah m c) (ix4 (pb t) s (lh (ph t) l) (ld l)) := by
  rw [kh_at]
  have := lt t
  blk_point [iblk, V, idx t, pb, ph, pi, lh, ld, ah]
theorem blk2 (s : Fin 8192) (l : Fin 128) : iblk m c 2 t (ix2 s l) = vh (ah m c) (ix4 (pb t) s (lh (ph t) l) (ld l)) := by
  rw [vh_at]
  have := lt t
  blk_point [iblk, V, idx t, pb, ph, pi, lh, ld, ah]

/-- A load of 256 rows. -/
theorem ldK (X : Vec Ideal S8192x128 .bf16) (o : Fin 2 → ℕ) (inb : _) (lo : ℕ) (hlo : lo + 256 ≤ 8192) (ho : o = ![lo, 0]) (s : Fin 256) (l : Fin 128) :
    View.ld X (Rect.unit (s := S8192x128) o S256x128.size inb) (ix2 s l) = X (ix2 ⟨lo + s.val, by omega⟩ l) := by
  subst ho
  pointwise

/-- A point's scores and values, by stacked row or lane, and by key. -/
def pz (r : Fin 1024) : ℕ → EReal := zk (ah m c) (pb t) (hd (ph t) r) (qp (pi t) r)
def pv (l : Fin 128) : ℕ → EReal := ext fun j => vh (ah m c) (ix4 (pb t) j (lh (ph t) l) (ld l))

/-- The scores of a block of keys, and its values. -/
theorem sc_blk (o : Fin 2 → ℕ) (inb : _) (lo : ℕ) (hlo : lo + 256 ≤ 8192) (ho : o = ![lo, 0]) (r : Fin 1024) (x : Fin 256) :
    sc (k0_pay34 (iblk m c 0 t)) (View.ld (iblk m c 1 t) (Rect.unit (s := S8192x128) o S256x128.size inb)) r x = pz m c t r (lo + x.val) := by
  refine sc_eq (ah m c) (pb t) (ph t) (pi t) _ _ lo hlo (blk0 m c t) (fun s l => ?_) r x
  rw [ldK _ _ _ _ hlo ho, blk1]
theorem v_blk (o : Fin 2 → ℕ) (inb : _) (lo : ℕ) (hlo : lo + 256 ≤ 8192) (ho : o = ![lo, 0]) (x : Fin 256) (l : Fin 128) :
    View.ld (iblk m c 2 t) (Rect.unit (s := S8192x128) o S256x128.size inb) (ix2 x l) = pv m c t l (lo + x.val) := by
  rw [ldK _ _ _ _ hlo ho, blk2]
  unfold pv ext
  rw [dif_pos (show lo + x.val < 8192 by omega)]

/-- Beyond the point's own keys there is nothing. -/
theorem start_c (r : Fin 1024) (lo : ℕ) (h : 512 * (pi t).val + 512 ≤ lo) : suf 8192 (stay (512 * (pi t).val + r.val % 512) (pz m c t r)) lo = 0 :=
  suf_zero _ _ _ fun s hs => by unfold stay; rw [if_neg (by omega)]
theorem start_a (r : Fin 1024) (l : Fin 128) (lo : ℕ) (h : 512 * (pi t).val + 512 ≤ lo) :
    suf 8192 (wv 8192 (512 * (pi t).val + r.val % 512) (pz m c t r) (pv m c t l)) lo = 0 :=
  suf_zero _ _ _ fun s hs => by unfold wv wgt; rw [if_neg (by omega), zero_mul]

/-- A row's whole sum is the reference's value. -/
theorem ended (A : Fin 1024 → Fin 128 → EReal)
    (eA : ∀ r l, A r l = suf 8192 (wv 8192 (512 * (pi t).val + r.val % 512) (pz m c t r) (pv m c t l)) 0) (r : Fin 512) (l : Fin 128) :
    (if l.val < 64 then A ⟨r.val, by omega⟩ l else A ⟨512 + r.val, by omega⟩ l)
      = ctx (ah m c) (ix4 (pb t) ⟨512 * (pi t).val + r.val, by omega⟩ (lh (ph t) l) (ld l)) := by
  have main : ∀ s : Fin 1024, hd (ph t) s = lh (ph t) l → qp (pi t) s = ⟨512 * (pi t).val + r.val, by omega⟩ →
      A s l = ctx (ah m c) (ix4 (pb t) ⟨512 * (pi t).val + r.val, by omega⟩ (lh (ph t) l) (ld l)) := fun s e1 e2 => by
    rw [eA, ← whole]
    unfold pz pv
    rw [e1, ← e2]
    rfl
  by_cases hl : l.val < 64
  · rw [if_pos hl]
    exact main _ (Fin.ext (by simp only [hd, lh]; omega)) (Fin.ext (by simp only [qp]; omega))
  · rw [if_neg hl]
    exact main _ (Fin.ext (by simp only [hd, lh]; omega)) (Fin.ext (by simp only [qp]; omega))

end Cert.Proof.Sb
-- ==== Proof.Sb.lean ====
/-
  The stick-breaking attention: the kernel's result array is the reference's.
-/
module

public import proofs.«01_k».proof.Proof.SbBlocks
@[expose] public section

set_option maxRecDepth 16384

noncomputable section

namespace Cert.Proof.Sb

open Idealize.ShloMosaic Idealize.ShloMosaic.TcCoe Idealize.SL.Sem
open Idealize.ShloMosaic.Pipeline (Dat)
open Cert.Kernel10Ideal Cert.Kernel10Ideal.Gen

/-- Nothing is stored by a loop of no trips. -/
theorem nil2 (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S512x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x256 .f32) (harg9 : arg9.IsWhole) (arg2 : BitVec 32) (v19 : FVec Ideal S1024x128 .bf16) (v28 : FVec Ideal S512x256 .bf16) (k0_h2 : k0_cond2 i = 1#1) (v200 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (G_arg9 : BufTy.Contents (Elt Ideal) arg9.view.ty) (init : BitVec 32) (n : ℕ) (hn : n = 0) :
    (st_k0_t2 (F := Ideal) 𝒱 c bd i arg3 harg3 arg4 harg4 arg5 harg5 arg6 harg6 arg7 harg7 arg8 harg8 arg9 harg9 arg2 v19 v28 k0_h2 v200 X_arg4 X_arg5 G_arg7 G_arg8 G_arg9 init n).2.1 = [] := by
  subst hn; rfl

/-- A load of half the rows of the running sums. -/
theorem cov_at (v : View sig .tc .vmem S1024x128 .f32) (L : List (View.Piece (Elt Ideal) S1024x128 .f32)) (o : ℕ) (ho : o ≤ 512) (inb : _) (r : Fin 512) (l : Fin 128) :
    v.readCov L (Rect.unit (s := S1024x128) ![o, 0] S512x128.size inb).toLoadRect (ix2 r l)
      = v.read (Elt Ideal) (v.writes (Elt Ideal) v.junk L) (ix2 ⟨o + r.val, by omega⟩ l) := by
  unfold View.readCov
  rw [View.readAt_eq_ld]
  generalize v.read (Elt Ideal) (v.writes (Elt Ideal) v.junk L) = X
  pointwise

variable (m : (ℓ : Loc nD τ sig) → Buf (Elt Ideal) ℓ) (c : Dev nD) (t : Fin cfg0.N)

/-- A block's end, over what the running sums hold. -/
theorem ended_cov (v : View sig .tc .vmem S1024x128 .f32) (L : List (View.Piece (Elt Ideal) S1024x128 .f32)) (inb inb' : _)
    (e : ∀ r l, v.read (Elt Ideal) (v.writes (Elt Ideal) v.junk L) (ix2 r l)
      = suf 8192 (wv 8192 (512 * (pi t).val + r.val % 512) (pz m c t r) (pv m c t l)) 0) (h : _) (y0 : Fin 512) (y1 : Fin 128) :
    k0_pay12 (iota .tc S1x128 32 [1] h) (v.readCov L (Rect.unit (s := S1024x128) ![0, 0] S512x128.size inb).toLoadRect)
      (v.readCov L (Rect.unit (s := S1024x128) ![512, 0] S512x128.size inb').toLoadRect) (ix2 y0 y1)
      = ctx (ah m c) (ix4 (pb t) ⟨512 * (pi t).val + y0.val, by omega⟩ (lh (ph t) y1) (ld y1)) := by
  rw [pay12_at]
  simp only [cov_at v L 0 (by omega), cov_at v L 512 (by omega)]
  rw [← ended m c t (fun r l => v.read (Elt Ideal) (v.writes (Elt Ideal) v.junk L) (ix2 r l)) e y0 y1]
  simp only [zero_add]

/-- The first masked step, on the upper half of the point's own keys. -/
theorem first_c (i1 : _) (r : Fin 1024) (l : Fin 128) :
    k0_pay48 k0_pay35 (k0_pay36 (grid0.coords t)) cols
      (Scalar.muli (Scalar.subi (Scalar.subi (Scalar.addi (Scalar.muli (BitVec.ofNat 32 (grid0.coords t 2).val) 2#32) 2#32) 1#32) 0#32) 256#32)
      (k0_pay43 (k0_pay40 (k0_pay34 (iblk m c 0 t)) (View.ld (iblk m c 1 t) (Rect.unit (s := S8192x128) (k0_off1 (grid0.coords t)) S256x128.size i1))))
      (k0_pay44 (k0_pay40 (k0_pay34 (iblk m c 0 t)) (View.ld (iblk m c 1 t) (Rect.unit (s := S8192x128) (k0_off1 (grid0.coords t)) S256x128.size i1))))
      (k0_pay39 (F := Ideal) k0_pay38) (ix2 r l)
      = suf 8192 (stay (512 * (pi t).val + r.val % 512) (pz m c t r)) (256 * (2 * (pi t).val + 1)) := by
  have hc : (grid0.coords t 2).val = (pi t).val := coord2 t
  have hi : (pi t).val < 16 := (pi t).isLt
  rw [start1, ← hc]
  refine mask_c (grid0.coords t) (pz m c t) _ _ _ (by omega) (fun r x => ?_) (fun r l => ?_) r l
  · rw [pay40_at, sc_blk m c t _ _ _ (by omega) (off1 _)]
  · rw [pay39_at, hc, start_c m c t r _ (by omega)]
theorem first_a (i1 i2 : _) (r : Fin 1024) (l : Fin 128) :
    k0_pay47 k0_pay35 (k0_pay36 (grid0.coords t)) cols
      (k0_pay40 (k0_pay34 (iblk m c 0 t)) (View.ld (iblk m c 1 t) (Rect.unit (s := S8192x128) (k0_off1 (grid0.coords t)) S256x128.size i1)))
      (Scalar.muli (Scalar.subi (Scalar.subi (Scalar.addi (Scalar.muli (BitVec.ofNat 32 (grid0.coords t 2).val) 2#32) 2#32) 1#32) 0#32) 256#32)
      (k0_pay42 (View.ld (iblk m c 2 t) (Rect.unit (s := S8192x128) (k0_off3 (grid0.coords t)) S256x128.size i2)))
      (k0_pay43 (k0_pay40 (k0_pay34 (iblk m c 0 t)) (View.ld (iblk m c 1 t) (Rect.unit (s := S8192x128) (k0_off1 (grid0.coords t)) S256x128.size i1))))
      (k0_pay44 (k0_pay40 (k0_pay34 (iblk m c 0 t)) (View.ld (iblk m c 1 t) (Rect.unit (s := S8192x128) (k0_off1 (grid0.coords t)) S256x128.size i1))))
      (k0_pay39 (F := Ideal) k0_pay38) (k0_pay37 (F := Ideal)) (ix2 r l)
      = suf 8192 (wv 8192 (512 * (pi t).val + r.val % 512) (pz m c t r) (pv m c t l)) (256 * (2 * (pi t).val + 1)) := by
  have hc : (grid0.coords t 2).val = (pi t).val := coord2 t
  have hi : (pi t).val < 16 := (pi t).isLt
  rw [start1, ← hc]
  refine mask_a (grid0.coords t) (pz m c t) (pv m c t) _ _ _ _ _ (by omega) (fun r x => ?_) (fun r l => ?_) (fun r l => ?_) (fun x l => ?_) r l
  · rw [pay40_at, sc_blk m c t _ _ _ (by omega) (off1 _)]
  · rw [pay39_at, hc, start_c m c t r _ (by omega)]
  · rw [pay37_at, hc, start_a m c t r l _ (by omega)]
  · rw [v_blk m c t _ _ _ (by omega) (off3 _)]

/-- A point on the first block of queries. -/
theorem ptA (h0 : t.val % 16 = 0) (h1 : ¬1 ≤ t.val % 16) (y0 : Fin 512) (y1 : Fin 128) :
    outsAt0 m c t.val t.isLt (ix2 y0 y1) = ctx (ah m c) (ix4 (pb t) ⟨512 * (pi t).val + y0.val, by omega⟩ (lh (ph t) y1) (ld y1)) := by
  have hc : (grid0.coords t 2).val = (pi t).val := coord2 t
  have hi : (pi t).val = 0 := h0
  rw [outsAt0_A m c t h0 h1]
  unfold out0_A_3
  frame_out
  refine ended_cov m c t _ _ _ _ (fun r l => ?_) _ y0 y1
  refine (congrFun (View.read_writes_full (s := S1024x128) _ _ inb_S1024x128_S1024x128_0_0 _ _) (ix2 r l)).trans ?_
  refine (congrFun (pay1_eq _ _ _ _ _) (ix2 r l)).trans ?_
  refine (mask_a (grid0.coords t) (pz m c t) (pv m c t) _ _ _ _ 0 (by omega) (fun r x => ?_) (fun r l => ?_) (fun r l => ?_) (fun x l => ?_) r l).trans (by rw [hc])
  · rw [pay41_at, sc_blk m c t _ _ 0 (by omega) (by rw [off2, hc, hi])]
  · refine (first_c m c t _ r l).trans ?_
    rw [hc, hi]
  · refine (first_a m c t _ _ r l).trans ?_
    rw [hc, hi]
  · rw [v_blk m c t _ _ 0 (by omega) rfl]

/-- A point on a later block of queries. -/
theorem ptB (h0 : ¬ t.val % 16 = 0) (h1 : 1 ≤ t.val % 16) (y0 : Fin 512) (y1 : Fin 128) :
    outsAt0 m c t.val t.isLt (ix2 y0 y1) = ctx (ah m c) (ix4 (pb t) ⟨512 * (pi t).val + y0.val, by omega⟩ (lh (ph t) y1) (ld y1)) := by
  have hc : (grid0.coords t 2).val = (pi t).val := coord2 t
  have hi : 1 ≤ (pi t).val := h1
  have hi' : (pi t).val < 16 := (pi t).isLt
  have hi2 : 1 ≤ (grid0.coords t 2).val := by omega
  have hi3 : (grid0.coords t 2).val < 16 := by omega
  have h2 : k0_cond2 (grid0.coords t) = 1#1 := (hcond0_1 t).mpr h1
  have two : 256 * (2 * (grid0.coords t 2).val) = 512 * (grid0.coords t 2).val := by omega
  rw [outsAt0_B m c t h0 h1]
  unfold out0_B_3
  frame_out
  refine ended_cov m c t _ _ _ _ (fun r l => ?_) _ y0 y1
  rw [View.writes_append, View.writes_append, nil2 _ _ _ _ _ _ _ _ _ _ _ _ _ _ _ _ _ _ _ _ _ _ _ _ _ _ _ _ _ _ (trips2 (grid0.coords t)), View.writes_nil]
  refine ((loop_inv Variants.none c none (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) _ _ h2 _ _ _ _ _ _ 8192
    (fun r => 512 * (grid0.coords t 2).val + r.val % 512) (pz m c t) (pv m c t) (by omega) (fun r => Nat.le_add_right _ _)
    (fun r l => ?_) (fun r l => ?_) (fun r x => ?_) (fun k r x => ?_) (fun k hk r x => ?_) (fun k x l => ?_) (fun k x l => ?_) _ le_rfl).1 r l).trans ?_
  · rw [acc_zero]
    refine (congrFun (View.read_writes_full (s := S1024x128) _ _ inb_S1024x128_S1024x128_0_0 _ _) (ix2 r l)).trans ?_
    refine (congrFun (pay4_eq _ _ _ _ _) (ix2 r l)).trans ?_
    refine (mask_a (grid0.coords t) (pz m c t) (pv m c t) _ _ _ _ _ (by omega) (fun r x => ?_) (fun r l => ?_) (fun r l => ?_) (fun x l => ?_) r l).trans (by rw [two])
    · rw [pay41_at, sc_blk m c t _ _ _ (by omega) (off2 _)]
    · refine (first_c m c t _ r l).trans ?_
      rw [hc, Nat.mul_add]
    · refine (first_a m c t _ _ r l).trans ?_
      rw [hc, Nat.mul_add]
    · rw [v_blk m c t _ _ _ (by omega) (off5 _ h2)]
  · rw [tl_zero]
    refine (congrFun (View.read_writes_full (s := S1024x128) _ _ inb_S1024x128_S1024x128_0_0 _ _) (ix2 r l)).trans ?_
    refine (congrFun (pay5_eq _ _ _) (ix2 r l)).trans ?_
    refine (mask_c (grid0.coords t) (pz m c t) _ _ _ (by omega) (fun r x => ?_) (fun r l => ?_) r l).trans (by rw [two])
    · rw [pay41_at, sc_blk m c t _ _ _ (by omega) (off2 _)]
    · refine (first_c m c t _ r l).trans ?_
      rw [hc, Nat.mul_add]
  · rw [scr_zero]
    refine (congrFun (View.read_writes_full (s := S1024x256) _ _ inb_S1024x256_S1024x256_0_0 _ _) (ix2 r x)).trans ?_
    refine (pay30_at _ _ r x).trans ?_
    rw [sc_blk m c t _ _ _ (by omega) (off4 _ h2)]
    congr 1; omega
  · unfold key6
    rw [View.readAt_eq_ld, Memref.IsWhole.read_unread, sc_blk m c t _ _ _ (by omega) (off6 _ k)]
    congr 1; omega
  · unfold key8
    rw [View.readAt_eq_ld, Memref.IsWhole.read_unread, sc_blk m c t _ _ _ (by omega) (off8 _ k)]
    congr 1; omega
  · unfold val7
    rw [View.readAt_eq_ld, Memref.IsWhole.read_unread, v_blk m c t _ _ _ (by omega) (off7 _ k)]
    congr 1; omega
  · unfold val6
    rw [View.readAt_eq_ld, Memref.IsWhole.read_unread, v_blk m c t _ _ _ (by omega) (off6 _ k)]
    congr 1; omega
  · rw [trips1, hc, Nat.sub_self, Nat.mul_zero]

/-- The reference's result at the kernel's argument. -/
def goal : FVec Ideal S16384x512 .bf16 := ref (ah m c)

/-- The result array after the run. -/
theorem final : (dats m 0 c).arrAt 3 (cfgs 0).N = goal m c := by
  refine (dats m 0 c).arrAt_eq_of_covers 3 _ (by decide +kernel) fun t _ y => ?_
  blk_simp
  rw [after0_3]
  have hp : outsAt0 m c t.val t.isLt y = goal m c (((cfg0.win 3).blk t).view.emb y) := by
    idx_vars y
    have e : outsAt0 m c t.val t.isLt (ix2 y0 y1) = ctx (ah m c) (ix4 (pb t) ⟨512 * (pi t).val + y0.val, by omega⟩ (lh (ph t) y1) (ld y1)) := by
      by_cases h0 : t.val % 16 = 0
      · exact ptA m c t h0 (by omega) y0 y1
      · exact ptB m c t h0 (by omega) y0 y1
    rw [e]
    have hw : ((cfg0.win 3).blk t).view.emb (ix2 y0 y1) = ix2 (⟨(t.val / 64 * 16 + t.val % 16) * 512 + y0.val, by have := lt t; omega⟩ : Fin 16384) (⟨t.val / 16 % 4 * 128 + y1.val, by omega⟩ : Fin 512) := by
      blk_ext [idx t]
    rw [hw]
    unfold goal
    rw [ref_at]
    have := lt t
    congr 1
    refine congr (congr (congr (congrArg ix4 (Fin.ext ?_)) (Fin.ext ?_)) (Fin.ext ?_)) (Fin.ext ?_) <;> simp only [pb, ph, pi, lh, ld] <;> omega
  exact hp

end Cert.Proof.Sb
-- ==== Proof.SbClaim.lean ====
/-
  The stick-breaking attention's claim: the kernel and the reference end with equal results.
-/
module

public import proofs.«01_k».proof.Proof.SbFrame
public import proofs.«01_k».proof.Proof.Sb

@[expose] public section

set_option maxRecDepth 16384

noncomputable section

namespace Cert.Proof.Sb

open Idealize.ShloMosaic Idealize.ShloMosaic.TcCoe Idealize.SL.Sem

/-- The kernel's run, with its result at the reference's value. -/
theorem kernelRun (m : (ℓ : Loc Cert.Kernel10Ideal.nD Cert.Kernel10Ideal.τ Cert.Kernel10Ideal.sig) → Buf (Elt Ideal) ℓ) (ρ : Dev Cert.Kernel10Ideal.nD → PrngReg) :
    θ_run (Cert.Kernel10Ideal.defs (F := Ideal)) (onTc (τ := Cert.Kernel10Ideal.τ) (Cert.Kernel10Ideal.main (F := Ideal))) ⟨m, fun _ => 0, ρ⟩ (fun r => ∀ c : Dev Cert.Kernel10Ideal.nD,
      r.2.mem ((c.tc : Thread Cert.Kernel10Ideal.nD Cert.Kernel10Ideal.τ).loc Cert.Kernel10Ideal.main_v2) = goal m c
      ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)) :=
  (θ_run _ _ _).mono (fun r h c => ⟨((h.1 c).1 3).trans (final m c), h.2 c⟩)
    (θ_run_and (Cert.Kernel10Ideal.Gen.run_main m ρ) (Cert.Kernel10Ideal.Gen.unchanged m ρ))

/-- Equal results. -/
theorem value : Cert.algebraic_Kernel10Ideal_Reference10Ideal (hKernel10Ideal := Cert.Kernel10Ideal.Gen.facts)
    (hReference10Ideal := Cert.Reference10Ideal.Gen.facts) := by
  intro m ρ m' ρ' pre hag
  refine ⟨fun c => goal m c, kernelRun m ρ,
    (θ_run _ _ _).mono (fun r h c => ⟨(h c).1.trans ?_, (h c).2⟩) (Cert.Reference10Ideal.Value.run (F := Ideal) m' ρ')⟩
  have h0 := hag c
  show ref (m' ((c.tc : Thread Cert.Reference10Ideal.nD Cert.Reference10Ideal.τ).loc Cert.Reference10Ideal.main_arg0)) = _
  rw [h0]
  rfl

end Cert.Proof.Sb

end
-- ==== Proof.FoxRef.lean ====
/-
  The decayed attention: the reference's result as a few named tensors, and its value at a place.
-/
module

public import proofs.«01_k».proof.Proof.Gen.Reference11Ideal
public import Idealize.ShloMosaic.PureOps.Ideal
public import Idealize.ShloMosaic.Lib.Pipeline.ValueKit
public import Idealize.ShloMosaic.Lib.WordCmp

@[expose] public section

set_option maxRecDepth 16384

noncomputable section

namespace Cert.Proof.Fox

open Idealize.ShloMosaic Idealize.ShloMosaic.TcCoe
open Cert.Reference11Ideal Cert.Reference11Ideal.Gen

/-- The eight heads of the queries, the keys and the values. -/
def qh (h : FVec Ideal S2x8192x3072 .f32) : FVec Ideal S2x8192x8x64 .f32 :=
  shapeCast _ (extractStridedSlice S2x8192x512 ![0, 0, 1536] h slices_S2x8192x3072_S2x8192x512_0_0_1536) shapeCasts_S2x8192x512_S2x8192x8x64
def kh (h : FVec Ideal S2x8192x3072 .f32) : FVec Ideal S2x8192x8x64 .f32 :=
  shapeCast _ (extractStridedSlice S2x8192x512 ![0, 0, 2048] h slices_S2x8192x3072_S2x8192x512_0_0_2048) shapeCasts_S2x8192x512_S2x8192x8x64
def vh (h : FVec Ideal S2x8192x3072 .f32) : FVec Ideal S2x8192x8x64 .f32 :=
  shapeCast _ (extractStridedSlice S2x8192x512 ![0, 0, 2560] h slices_S2x8192x3072_S2x8192x512_0_0_2560) shapeCasts_S2x8192x512_S2x8192x8x64

/-- The causal mask. -/
def causal : IVec S2x8x8192x8192 1 :=
  broadcastInDim S2x8x8192x8192 ![2, 3] bcast_S8192x8192_S2x8x8192x8192_2_3 (cmpi .sle
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The scaled products and the decays. -/
def raw (h : FVec Ideal S2x8192x3072 .f32) (cum : FVec Ideal S2x8x8192 .f32) : FVec Ideal S2x8x8192x8192 .f32 :=
  subf (addf (mulf (Host.dotGeneral dot_S2x8192x8x64_S2x8192x8x64_S2x8x8192x8192_3_3_1_1_02_02 none (qh h) (kh h))
      (broadcastInDim S2x8x8192x8192 ![] bcast_S_S2x8x8192x8192 (constant S_ .f32 0x3E000000#32)))
    (broadcastInDim S2x8x8192x8192 ![0, 1, 2, 3] bcast_S2x8x8192x1_S2x8x8192x8192_0_1_2_3 (broadcastInDim S2x8x8192x1 ![0, 1, 2] bcast_S2x8x8192_S2x8x8192x1_0_1_2 cum)))
    (broadcastInDim S2x8x8192x8192 ![0, 1, 2, 3] bcast_S2x8x1x8192_S2x8x8192x8192_0_1_2_3 (broadcastInDim S2x8x1x8192 ![0, 1, 3] bcast_S2x8x8192_S2x8x1x8192_0_1_3 cum))

/-- The masked scores. -/
def masked (h : FVec Ideal S2x8192x3072 .f32) (cum : FVec Ideal S2x8x8192 .f32) : FVec Ideal S2x8x8192x8192 .f32 :=
  select causal (raw h cum) (broadcastInDim S2x8x8192x8192 ![] bcast_S_S2x8x8192x8192 (id (constant S_ .f32 0xFF800000#32)))

/-- Each row's maximum. -/
def top (z : FVec Ideal S2x8x8192x8192 .f32) : FVec Ideal S2x8x8192 .f32 :=
  maximumf (broadcastInDim S2x8x8192 ![] bcast_S_S2x8x8192 (constant S_ .f32 0xFF800000#32))
    (Host.reduce FloatOps.maximumf z (constant S_ .f32 0xFF800000#32) reducesTo_S2x8x8192x8192_S2x8x8192_d3 h_S_)

/-- The exponentials, less each row's maximum. -/
def expo (z : FVec Ideal S2x8x8192x8192 .f32) : FVec Ideal S2x8x8192x8192 .f32 :=
  Host.exp (subf z (broadcastInDim S2x8x8192x8192 ![0, 1, 2, 3] bcast_S2x8x8192x1_S2x8x8192x8192_0_1_2_3
    (broadcastInDim S2x8x8192x1 ![0, 1, 2] bcast_S2x8x8192_S2x8x8192x1_0_1_2 (top z))))

/-- Each row's sum. -/
def total (z : FVec Ideal S2x8x8192x8192 .f32) : FVec Ideal S2x8x8192 .f32 :=
  Host.reduceAdd z (constant S_ .f32 0x00000000#32) reducesTo_S2x8x8192x8192_S2x8x8192_d3 h_S_

/-- The softmax of each row. -/
def prob (z : FVec Ideal S2x8x8192x8192 .f32) : FVec Ideal S2x8x8192x8192 .f32 :=
  Host.divf (expo z) (broadcastInDim S2x8x8192x8192 ![0, 1, 2, 3] bcast_S2x8x8192x1_S2x8x8192x8192_0_1_2_3
    (broadcastInDim S2x8x8192x1 ![0, 1, 2] bcast_S2x8x8192_S2x8x8192x1_0_1_2 (total (expo z))))

/-- The weighted values. -/
def ctx (h : FVec Ideal S2x8192x3072 .f32) (cum : FVec Ideal S2x8x8192 .f32) : FVec Ideal S2x8192x8x64 .f32 :=
  transpose S2x8192x8x64 [0, 3, 1, 2] (Host.dotGeneral dot_S2x8192x8x64_S2x8x8192x8192_S2x8x64x8192_1_3_3_2_02_01 none (vh h) (prob (masked h cum)))
    transposes_S2x8x64x8192_S2x8192x8x64_0_3_1_2

/-- The reference's result. -/
def ref (h : FVec Ideal S2x8192x3072 .f32) (cum : FVec Ideal S2x8x8192 .f32) : FVec Ideal S16384x512 .bf16 :=
  truncf .bf16 (shapeCast S16384x512 (ctx h cum) shapeCasts_S2x8192x8x64_S16384x512) bitsLt_bf16_f32

/-- A maximum, and a sum, over the last of four axes. -/
theorem red_max {n0 n1 n2 n3 : ℕ} (z : FVec Ideal ⟨4, ![n0, n1, n2, n3]⟩ .f32) (v : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (c : Fin n2) :
    Host.reduce FloatOps.maximumf z v h hu (ix3 a b c) = Finset.fold max (v (Shape.Idx.first hu)) (fun x : Fin n3 => z (ix4 a b c x)) Finset.univ := by
  pointwise
theorem red_sum {n0 n1 n2 n3 : ℕ} (z : FVec Ideal ⟨4, ![n0, n1, n2, n3]⟩ .f32) (v : FVec Ideal ⟨0, ![]⟩ .f32)
    (h : (⟨4, ![n0, n1, n2, n3]⟩ : Shape).ReducesTo [3] ⟨3, ![n0, n1, n2]⟩) (hu : 0 < (⟨0, ![]⟩ : Shape).numel) (a : Fin n0) (b : Fin n1) (c : Fin n2) :
    Host.reduceAdd z v h hu (ix3 a b c) = v (Shape.Idx.first hu) + ∑ x : Fin n3, z (ix4 a b c x) := by
  pointwise

/-- The same, guarded from below and from minus infinity. -/
theorem top_gen {n0 n1 n2 n3 : ℕ} (z : FVec Ideal ⟨4, ![n0, n1, n2, n3]⟩ .f32) (v : FVec Ideal ⟨0, ![]⟩ .f32) (u : FVec Ideal ⟨3, ![n0, n1, n2]⟩ .f32)
    (h : (⟨4, ![n0, n1, n2, n3]⟩ : Shape).ReducesTo [3] ⟨3, ![n0, n1, n2]⟩) (hu : 0 < (⟨0, ![]⟩ : Shape).numel)
    (hv : ∀ i, v i = ⊥) (a : Fin n0) (b : Fin n1) (c : Fin n2) (hb : u (ix3 a b c) = ⊥) :
    maximumf u (Host.reduce FloatOps.maximumf z v h hu) (ix3 a b c) = Finset.univ.sup fun x : Fin n3 => z (ix4 a b c x) := by
  show max (u (ix3 a b c)) (Host.reduce FloatOps.maximumf z v h hu (ix3 a b c)) = _
  rw [red_max, hv, hb, max_eq_right bot_le]
  rfl

section At

variable (h : FVec Ideal S2x8192x3072 .f32) (cum : FVec Ideal S2x8x8192 .f32) (b : Fin 2) (n : Fin 8) (p j : Fin 8192) (d : Fin 64)

theorem neg_inf' : Ideal.ofBits .f32 0xFF800000#32 = ⊥ := by simp [Ideal.ofBits, Ideal.ieee]
theorem eighth : Ideal.ofBits .f32 0x3E000000#32 = ((1 / 8 : ℝ) : EReal) := by
  simp [Ideal.ofBits, Ideal.ieee, -EReal.coe_mul]; norm_num

theorem qh_at : qh h (ix4 b p n d) = h (ix3 b p ⟨1536 + (n.val * 64 + d.val), by omega⟩) := by pointwise [qh]
theorem kh_at : kh h (ix4 b p n d) = h (ix3 b p ⟨2048 + (n.val * 64 + d.val), by omega⟩) := by pointwise [kh]
theorem vh_at : vh h (ix4 b p n d) = h (ix3 b p ⟨2560 + (n.val * 64 + d.val), by omega⟩) := by pointwise [vh]

/-- One score of the reference. -/
def score (j : Fin 8192) : EReal :=
  (∑ d : Fin 64, qh h (ix4 b p n d) * kh h (ix4 b j n d)) * ((1 / 8 : ℝ) : EReal) + cum (ix3 b n p) - cum (ix3 b n j)

/-- One masked score. -/
def mscore (j : Fin 8192) : EReal := if j.val ≤ p.val then score h cum b n p j else ⊥

theorem raw_at : raw h cum (ix4 b n p j) = score h cum b n p j := by
  pointwise [raw, eighth]
  rfl

theorem causal_bit (v : EReal) : Scalar.select (causal (ix4 b n p j)) v ⊥ = if j.val ≤ p.val then v else ⊥ := by
  have hj : (j : ℕ) < 8192 := j.isLt
  have hp : (p : ℕ) < 8192 := p.isLt
  pointwise [causal]
  word_cmp

theorem masked_at : masked h cum (ix4 b n p j) = mscore h cum b n p j := by
  unfold mscore
  rw [← causal_bit (b := b) (n := n), ← raw_at, ← neg_inf']
  pointwise [masked]
  rfl

theorem top_at (z : FVec Ideal S2x8x8192x8192 .f32) : top z (ix3 b n p) = Finset.univ.sup fun j => z (ix4 b n p j) := by
  unfold top
  exact top_gen z _ _ _ _ (fun _ => neg_inf') b n p neg_inf'

theorem total_at (z : FVec Ideal S2x8x8192x8192 .f32) : total z (ix3 b n p) = ∑ j, z (ix4 b n p j) := by
  unfold total
  rw [red_sum]
  show Ideal.ofBits .f32 0x00000000#32 + _ = _
  rw [show Ideal.ofBits .f32 0x00000000#32 = 0 by simp [Ideal.ofBits, Ideal.ieee], zero_add]

theorem expo_at (z : FVec Ideal S2x8x8192x8192 .f32) : expo z (ix4 b n p j) = Ideal.exp (z (ix4 b n p j) - Finset.univ.sup fun j => z (ix4 b n p j)) := by
  rw [← top_at]
  pointwise [expo]

theorem prob_at (z : FVec Ideal S2x8x8192x8192 .f32) : prob z (ix4 b n p j) = Ideal.div (expo z (ix4 b n p j)) (∑ j, expo z (ix4 b n p j)) := by
  rw [← total_at]
  pointwise [prob]

theorem ctx_at : ctx h cum (ix4 b p n d) = ∑ j, vh h (ix4 b j n d) * prob (masked h cum) (ix4 b n p j) := by
  pointwise [ctx]

end At

end Cert.Proof.Fox

end
-- ==== Proof.FoxMath.lean ====
/-
  Arithmetic of a softmax taken block by block, on the extended reals.

  A running maximum and a running weighted sum are kept; each new block rescales the sum to the new maximum. The sum
  after any number of blocks is the plain weighted sum at the current maximum, whatever the scores are: the weights lie
  between 0 and 1, so the products distribute even where a value is infinite.
-/
module

public import Idealize.ShloMosaic.Lib.Pipeline.ValueKit

@[expose] public section

set_option maxRecDepth 16384

noncomputable section

namespace Cert.Proof.Fox

open Idealize.ShloMosaic Idealize.ShloMosaic.TcCoe Idealize.SL.Sem
open Idealize.ShloMosaic.Pipeline (Dat)

/-- Powers of two are nonnegative. -/
theorem e2_nonneg (x : EReal) : 0 ≤ Ideal.exp2 x := by
  induction x using EReal.rec with
  | bot => simp
  | top => simp
  | coe r => rw [Ideal.exp2_coe]; exact EReal.coe_nonneg.2 (Real.rpow_nonneg (by norm_num) r)

/-- A score less a bound of it has a power of two of at most one. -/
theorem e2_le_one {s M : EReal} (h : s ≤ M) : Ideal.exp2 (s - M) ≤ 1 := by
  induction s using EReal.rec with
  | bot => simp [EReal.bot_sub]
  | top => rw [top_le_iff.1 h]; simp
  | coe s =>
    induction M using EReal.rec with
    | bot => exact absurd h (by simp)
    | top => simp
    | coe M =>
      have h' : s ≤ M := EReal.coe_le_coe_iff.1 h
      rw [← EReal.coe_sub, Ideal.exp2_coe]
      have : Real.rpow 2 (s - M) ≤ 1 := Real.rpow_le_one_of_one_le_of_nonpos (by norm_num) (by linarith)
      exact_mod_cast this

theorem e2_ne_top {s M : EReal} (h : s ≤ M) : Ideal.exp2 (s - M) ≠ ⊤ := fun e => by
  have := e2_le_one h
  rw [e] at this
  exact absurd this (by decide)

/-- Rescaling a weight from one bound to a larger one. -/
theorem e2_mul {s M M' : EReal} (h : s ≤ M) (h' : M ≤ M') :
    Ideal.exp2 (M - M') * Ideal.exp2 (s - M) = Ideal.exp2 (s - M') := by
  induction s using EReal.rec with
  | bot => simp [EReal.bot_sub]
  | top =>
    obtain rfl := top_le_iff.1 h
    obtain rfl := top_le_iff.1 h'
    simp
  | coe s =>
    induction M using EReal.rec with
    | bot => exact absurd h (by simp)
    | top => obtain rfl := top_le_iff.1 h'; simp
    | coe M =>
      induction M' using EReal.rec with
      | bot => exact absurd h' (by simp)
      | top => simp
      | coe M' =>
        rw [← EReal.coe_sub, ← EReal.coe_sub, ← EReal.coe_sub, Ideal.exp2_coe, Ideal.exp2_coe, Ideal.exp2_coe, ← EReal.coe_mul]
        congr 1
        show (2 : ℝ) ^ (M - M') * (2 : ℝ) ^ (s - M) = (2 : ℝ) ^ (s - M')
        rw [← Real.rpow_add (by norm_num)]
        congr 1; ring

/-- A nonnegative finite factor distributes over a sum of extended reals. -/
theorem mul_sum_fin {ι : Type} (s : Finset ι) (f : ι → EReal) {a : EReal} (h0 : 0 ≤ a) (h1 : a ≠ ⊤) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- The maximum after a block of scores. -/
def mstep (m : EReal) (s : Fin 512 → EReal) : EReal := max m (Finset.univ.sup s)

/-- The weighted sum after a block of scores with weights' values `w`. -/
def astep (m a : EReal) (s w : Fin 512 → EReal) : EReal :=
  Ideal.exp2 (m - mstep m s) * a + ∑ x : Fin 512, Ideal.exp2 (s x - mstep m s) * w x

/-- The maximum after the first `n` blocks. -/
def mm (s : ℕ → Fin 512 → EReal) : ℕ → EReal
  | 0 => ⊥
  | n + 1 => mstep (mm s n) (s n)

/-- The weighted sum after the first `n` blocks. -/
def aa (s w : ℕ → Fin 512 → EReal) : ℕ → EReal
  | 0 => 0
  | n + 1 => astep (mm s n) (aa s w n) (s n) (w n)

theorem mm_le_succ (s : ℕ → Fin 512 → EReal) (n : ℕ) : mm s n ≤ mm s (n + 1) := le_max_left _ _

theorem le_mm (s : ℕ → Fin 512 → EReal) : ∀ (n k : ℕ), k < n → ∀ x, s k x ≤ mm s n
  | n + 1, k, h, x => by
    rcases Nat.lt_succ_iff_lt_or_eq.1 h with h | rfl
    · exact (le_mm s n k h x).trans (mm_le_succ s n)
    · exact (Finset.le_sup (f := s k) (Finset.mem_univ x)).trans (le_max_right _ _)

/-- The maximum is a bound that some bound of every score reaches. -/
theorem mm_le (s : ℕ → Fin 512 → EReal) (B : EReal) : ∀ n : ℕ, (∀ k < n, ∀ x, s k x ≤ B) → mm s n ≤ B
  | 0, _ => bot_le
  | n + 1, h => max_le (mm_le s B n fun k hk => h k (by omega)) (Finset.sup_le fun x _ => h n (by omega) x)

/-- The running sum is the plain sum at the current maximum. -/
theorem aa_eq (s w : ℕ → Fin 512 → EReal) : ∀ n : ℕ,
    aa s w n = ∑ k ∈ Finset.range n, ∑ x : Fin 512, Ideal.exp2 (s k x - mm s n) * w k x
  | 0 => by simp [aa]
  | n + 1 => by
    have hle := mm_le_succ s n
    rw [Finset.sum_range_succ]
    show Ideal.exp2 (mm s n - mm s (n + 1)) * aa s w n + ∑ x : Fin 512, Ideal.exp2 (s n x - mm s (n + 1)) * w n x = _
    congr 1
    rw [aa_eq s w n, mul_sum_fin _ _ (e2_nonneg _) (e2_ne_top hle)]
    refine Finset.sum_congr rfl fun k hk => ?_
    rw [mul_sum_fin _ _ (e2_nonneg _) (e2_ne_top hle)]
    refine Finset.sum_congr rfl fun x _ => ?_
    rw [← mul_assoc, e2_mul (le_mm s n k (Finset.mem_range.1 hk) x) hle]

/-- A maximum taken from minus infinity is the supremum. -/
theorem fold_max_eq_sup (s : Fin 512 → EReal) : Finset.fold max (⊥ : EReal) s Finset.univ = Finset.univ.sup s := rfl

end Cert.Proof.Fox
-- ==== Proof.FoxSoft.lean ====
/-
  The softmax of a row, taken block by block in powers of two, is the softmax of the row.
-/
module

public import proofs.«01_k».proof.Proof.FoxMath

@[expose] public section

set_option maxRecDepth 16384

noncomputable section

namespace Cert.Proof.Fox

open Idealize.ShloMosaic Idealize.ShloMosaic.TcCoe Idealize.SL.Sem
open Idealize.ShloMosaic.Pipeline (Dat)

/-- The key a lane of the block `k` blocks before the diagonal one is. -/
def key (i : Fin 16) (k : ℕ) (x : Fin 512) : Fin 8192 := ⟨512 * (i.val - k) + x.val, by omega⟩

/-- Over the blocks up to the diagonal one a sum is the sum over every key, where the later keys give nothing. -/
theorem sum_keys (i : Fin 16) (f : Fin 8192 → EReal) (h : ∀ j : Fin 8192, 512 * (i.val + 1) ≤ j.val → f j = 0) :
    (∑ k ∈ Finset.range (i.val + 1), ∑ x : Fin 512, f (key i k x)) = ∑ j, f j := by
  have e1 : ∑ j, f j = ∑ p : Fin 16 × Fin 512, f (finProdFinEquiv p) := (Equiv.sum_comp (finProdFinEquiv (m := 16) (n := 512)) f).symm
  rw [e1, Fintype.sum_prod_type]
  have e2 : ∀ b : Fin 16, ∀ x : Fin 512, (finProdFinEquiv (b, x) : Fin 8192) = ⟨512 * b.val + x.val, by omega⟩ := fun b x =>
    Fin.ext (by simp [finProdFinEquiv]; omega)
  simp only [e2]
  let F : ℕ → EReal := fun b => ∑ x : Fin 512, if h : b < 16 then f ⟨512 * b + x.val, by omega⟩ else 0
  have e3 : (∑ b : Fin 16, ∑ x : Fin 512, f ⟨512 * b.val + x.val, by omega⟩) = ∑ b ∈ Finset.range 16, F b := by
    rw [Finset.sum_range]
    refine Finset.sum_congr rfl fun b _ => Finset.sum_congr rfl fun x _ => ?_
    rw [dif_pos b.isLt]
  have e4 : ∑ b ∈ Finset.range (i.val + 1), F b = ∑ b ∈ Finset.range 16, F b :=
    Finset.sum_subset (fun b hb => by rw [Finset.mem_range] at hb ⊢; omega) fun b hb hb' => by
      rw [Finset.mem_range] at hb hb'
      refine Finset.sum_eq_zero fun x _ => ?_
      rw [dif_pos hb]
      exact h _ (by show _ ≤ 512 * b + x.val; omega)
  rw [e3, ← e4, ← Finset.sum_range_reflect F]
  refine Finset.sum_congr rfl fun k hk => Finset.sum_congr rfl fun x _ => ?_
  rw [Finset.mem_range] at hk
  rw [dif_pos (by omega)]
  exact congrArg f (Fin.ext (by simp only [key]; omega))

theorem sum_coe {ι : Type} (s : Finset ι) (g : ι → ℝ) : ∑ i ∈ s, (g i : EReal) = ((∑ i ∈ s, g i : ℝ) : EReal) := by
  classical
  induction s using Finset.induction_on with
  | empty => simp
  | insert i s hi ih => rw [Finset.sum_insert hi, Finset.sum_insert hi, EReal.coe_add, ih]

/-- One over the logarithm of two. -/
abbrev cc : ℝ := (Real.log 2)⁻¹

theorem cc_pos : 0 < cc := inv_pos.2 (Real.log_pos (by norm_num))

/-- The power of two of a scaled score is the exponential of the score. -/
theorem e2_scaled (a : EReal) (h : a ≠ ⊤) (M : ℝ) : Ideal.exp2 ((cc : EReal) * a - (cc : EReal) * (M : EReal)) = Ideal.exp (a - M) := by
  induction a using EReal.rec with
  | bot => rw [EReal.coe_mul_bot_of_pos cc_pos]; simp [EReal.bot_sub]
  | top => exact absurd rfl h
  | coe a =>
    rw [← EReal.coe_mul, ← EReal.coe_mul, ← EReal.coe_sub, ← EReal.coe_sub, Ideal.exp2_coe, Ideal.exp_coe]
    congr 1
    show (2 : ℝ) ^ (cc * a - cc * M) = Real.exp (a - M)
    rw [Real.rpow_def_of_pos (by norm_num)]
    congr 1
    have : Real.log 2 ≠ 0 := (Real.log_pos (by norm_num)).ne'
    simp only [cc]; field_simp

section Row

variable (X : Fin 8192 → EReal) (i : Fin 16)
  (htop : ∀ j, X j ≠ ⊤) (hlate : ∀ j : Fin 8192, 512 * (i.val + 1) ≤ j.val → X j = ⊥) (p : Fin 8192) (hp : X p ≠ ⊥)

include htop hp in
theorem sup_real : ∃ M : ℝ, Finset.univ.sup X = (M : EReal) ∧ ∃ j, X j = (M : EReal) := by
  obtain ⟨j, -, hj⟩ := Finset.exists_mem_eq_sup Finset.univ ⟨p, Finset.mem_univ p⟩ X
  have hb : X j ≠ ⊥ := fun e => hp (le_bot_iff.1 (by rw [← e, ← hj]; exact Finset.le_sup (Finset.mem_univ p)))
  lift X j to ℝ using ⟨htop j, hb⟩ with M hM
  exact ⟨M, hj, j, hM.symm⟩

/-- The scores the kernel takes, block by block back from the diagonal one. -/
def blocks (k : ℕ) (x : Fin 512) : EReal := (cc : EReal) * X (key i k x)

include hlate p in
theorem mm_blocks : mm (blocks X i) (i.val + 1) = (cc : EReal) * Finset.univ.sup X := by
  have c0 : (0 : EReal) ≤ (cc : EReal) := EReal.coe_nonneg.2 cc_pos.le
  refine le_antisymm (mm_le _ _ _ fun k _ x => mul_le_mul_of_nonneg_left (Finset.le_sup (Finset.mem_univ _)) c0) ?_
  obtain ⟨j, -, hj⟩ := Finset.exists_mem_eq_sup Finset.univ ⟨p, Finset.mem_univ p⟩ X
  rw [hj]
  by_cases hl : 512 * (i.val + 1) ≤ j.val
  · rw [hlate j hl, EReal.coe_mul_bot_of_pos cc_pos]; exact bot_le
  · have := le_mm (blocks X i) (i.val + 1) (i.val - j.val / 512) (by omega) ⟨j.val % 512, Nat.mod_lt _ (by norm_num)⟩
    refine le_trans (le_of_eq ?_) this
    unfold blocks
    congr 2
    refine Fin.ext ?_
    show j.val = 512 * (i.val - (i.val - j.val / 512)) + j.val % 512
    omega

include htop hlate hp in
/-- The running sums divided are the softmax-weighted sum. -/
theorem soft (v : Fin 8192 → EReal) :
    Ideal.div (aa (blocks X i) (fun k x => v (key i k x)) (i.val + 1)) (aa (blocks X i) (fun _ _ => 1) (i.val + 1))
      = ∑ j, v j * Ideal.div (Ideal.exp (X j - Finset.univ.sup X)) (∑ j, Ideal.exp (X j - Finset.univ.sup X)) := by
  obtain ⟨M, hM, j₀, hj₀⟩ := sup_real X htop p hp
  rw [aa_eq, aa_eq, mm_blocks X i hlate p, hM]
  have e : ∀ k x, Ideal.exp2 (blocks X i k x - (cc : EReal) * (M : EReal)) = Ideal.exp (X (key i k x) - M) := fun k x => e2_scaled _ (htop _) M
  simp only [e, mul_one]
  have hz : ∀ j : Fin 8192, 512 * (i.val + 1) ≤ j.val → Ideal.exp (X j - M) = 0 := fun j hj => by
    rw [hlate j hj]; simp [EReal.bot_sub]
  rw [sum_keys i (fun j => Ideal.exp (X j - M) * v j) (fun j hj => by simp only [hz j hj, zero_mul]),
    sum_keys i (fun j => Ideal.exp (X j - M)) hz]
  have hg : ∃ g : Fin 8192 → ℝ, (∀ j, Ideal.exp (X j - M) = (g j : EReal)) ∧ (∀ j, 0 ≤ g j) ∧ 0 < g j₀ := by
    have : ∀ j, ∃ g : ℝ, Ideal.exp (X j - M) = (g : EReal) ∧ 0 ≤ g := fun j => by
      rcases eq_or_ne (X j) ⊥ with hb | hb
      · exact ⟨0, by rw [hb]; simp [EReal.bot_sub], le_rfl⟩
      · lift X j to ℝ using ⟨htop j, hb⟩ with a
        exact ⟨Real.exp (a - M), by rw [← EReal.coe_sub, Ideal.exp_coe], (Real.exp_pos _).le⟩
    choose g h1 h2 using this
    refine ⟨g, h1, h2, ?_⟩
    have h3 := h1 j₀
    rw [hj₀, ← EReal.coe_sub, Ideal.exp_coe] at h3
    rw [← EReal.coe_eq_coe_iff.1 h3]; exact Real.exp_pos _
  obtain ⟨g, h1, h2, h3⟩ := hg
  simp only [h1]
  have hs : (∑ j, (g j : EReal)) = ((∑ j, g j : ℝ) : EReal) := sum_coe _ _
  have hpos : 0 < ∑ j, g j := Finset.sum_pos' (fun j _ => h2 j) ⟨j₀, Finset.mem_univ _, h3⟩
  rw [hs]
  have hd : ∀ x : EReal, Ideal.div x ((∑ j, g j : ℝ) : EReal) = x * (((∑ j, g j)⁻¹ : ℝ) : EReal) := fun x => by
    unfold Ideal.div
    rw [if_neg (by exact_mod_cast hpos.ne'), EReal.coe_inv]
  simp only [hd]
  rw [mul_comm, mul_sum_fin _ _ (EReal.coe_nonneg.2 (inv_nonneg.2 hpos.le)) (EReal.coe_ne_top _)]
  refine Finset.sum_congr rfl fun j _ => ?_
  rw [mul_comm, mul_comm (g j : EReal) (v j), mul_assoc]

end Row

end Cert.Proof.Fox
-- ==== Proof.FoxStep.lean ====
/-
  What one step of the decayed-attention kernel computes, entry by entry: scores, masks, the running maximum and sum.
-/
module

public import proofs.«01_k».proof.Proof.FoxMath
public import proofs.«01_k».proof.Proof.Gen.Kernel11Ideal
public import proofs.«01_k».proof.Proof.Gen.Kernel11Ideal.Skeleton
public import Idealize.ShloMosaic.Lib.Pipeline.ValueKit
public import Idealize.ShloMosaic.Lib.WordCmp

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- The literal the row maxima start from is minus infinity. -/
theorem neg_inf : Ideal.ofBits .f32 0xFF800000#32 = ⊥ := by simp [Ideal.ofBits, Ideal.ieee]

theorem k_mask : Named.named (F := Ideal) κ "mask" (φ := .f32) 0xF149F2CA#32 = ⊥ :=
  IdealRules.named_const.ideal_named_scalar _ _ _ _ rfl
theorem k_log2e : Named.named (F := Ideal) κ "log2e" (φ := .f32) 0x3FB8AA3B#32 = (((Real.log 2)⁻¹ : ℝ) : EReal) :=
  IdealRules.named_const.ideal_named_scalar _ _ _ _ rfl
theorem k_scale : Named.named (F := Ideal) κ "scale" (φ := .f32) 0x3E38AA3B#32 = (((1 / 8) * (Real.log 2)⁻¹ : ℝ) : EReal) :=
  IdealRules.named_const.ideal_named_scalar _ _ _ _ rfl

/-- A column of values and the column of ones beside it. -/
def vw (V : FVec Ideal S512x128 .bf16) (l : Fin 256) (x : Fin 512) : EReal :=
  if h : l.val < 128 then V (ix2 x ⟨l.val, h⟩) else 1

/-- The diagonal block's causal mask. -/
def msk (r : Fin 1024) (x : Fin 512) (v : EReal) : EReal := if x.val ≤ r.val % 512 then v else ⊥

section Trip

variable (Z : Vec Ideal S1024x512 .f32) (V : FVec Ideal S512x128 .bf16) (M : Vec Ideal S1024x128 .f32)
  (A : Vec Ideal S1024x256 .f32) (r : Fin 1024) (m : EReal) (hM : ∀ l : Fin 128, M (ix2 r l) = m)
include hM

theorem pay11_at (l : Fin 128) : k0_pay11 Z M (ix2 r l) = mstep m fun x => Z (ix2 r x) := by
  pointwise [k0_pay11, k0_pay9, hM, neg_inf]
  rfl

theorem pay10_at (l : Fin 256) : k0_pay10 k0_pay39 Z V M A (ix2 r l) = astep m (A (ix2 r l)) (fun x => Z (ix2 r x)) (vw V l) := by
  pointwise [k0_pay10, k0_pay9, k0_pay39, hM, neg_inf]
  simp only [dite_eq_ite, ite_self]
  rfl

end Trip

section First

variable (Z : Vec Ideal S1024x512 .f32) (V : Vec Ideal S512x128 .bf16) (r : Fin 1024)

theorem mask_at (x : Fin 512) (v : EReal) : Scalar.select (k0_pay38 (ix2 r x)) v ⊥ = msk r x v := by
  have hx : (x : ℕ) < 512 := x.isLt
  have hr : (r : ℕ) < 1024 := r.isLt
  pointwise [k0_pay38]
  unfold msk
  by_cases h : (r : ℕ) < 512
  · rw [dif_pos h, Nat.mod_eq_of_lt h]
    word_cmp
  · rw [dif_neg h, show (r : ℕ) % 512 = r - 512 by omega]
    word_cmp

theorem pay21_at (x : Fin 512) : k0_pay21 k0_pay38 Z (ix2 r x) = msk r x (Z (ix2 r x)) := by
  rw [← mask_at, ← k_mask]
  pointwise [k0_pay21]

theorem pay23_at : k0_pay23 k0_pay38 Z (ix2 r 0) = Finset.univ.sup fun x => msk r x (Z (ix2 r x)) := by
  simp only [← mask_at, ← k_mask]
  rw [← fold_max_eq_sup, ← neg_inf]
  pointwise [k0_pay23, k0_pay21]

theorem pay40_at (l : Fin 128) : k0_pay40 (F := Ideal) (ix2 r l) = ⊥ := by
  rw [← k_mask]; pointwise [k0_pay40]
theorem pay41_at (l : Fin 256) : k0_pay41 (F := Ideal) (ix2 r l) = 0 := by
  pointwise [k0_pay41]

theorem pay8_at (l : Fin 128) : k0_pay8 (k0_pay40 (F := Ideal)) (k0_pay23 k0_pay38 Z) (ix2 r l) = mstep ⊥ fun x => msk r x (Z (ix2 r x)) := by
  pointwise [k0_pay8, k0_pay6, pay40_at, pay23_at]
  rfl

theorem pay7_at (l : Fin 256) : k0_pay7 k0_pay39 (k0_pay21 k0_pay38 Z) (k0_pay22 V) (k0_pay40 (F := Ideal)) (k0_pay23 k0_pay38 Z) (k0_pay41 (F := Ideal)) (ix2 r l)
    = astep ⊥ 0 (fun x => msk r x (Z (ix2 r x))) (vw V l) := by
  pointwise [k0_pay7, k0_pay6, k0_pay22, k0_pay39, pay40_at, pay41_at, pay23_at, pay21_at]
  simp only [dite_eq_ite, ite_self]
  rfl

theorem pay4_at (l : Fin 256) : k0_pay4 k0_pay38 k0_pay39 Z V (k0_pay40 (F := Ideal)) (k0_pay41 (F := Ideal)) (ix2 r l)
    = astep ⊥ 0 (fun x => msk r x (Z (ix2 r x))) (vw V l) := by
  pointwise [k0_pay4, k0_pay3, k0_pay2, k0_pay39, pay40_at, pay41_at, k_mask, mask_at, neg_inf]
  simp only [dite_eq_ite, ite_self]
  rfl

end First

end Cert.Proof.Fox
-- ==== Proof.FoxScore.lean ====
/-
  The decayed-attention kernel's scores, entry by entry.
-/
module

public import proofs.«01_k».proof.Proof.FoxStep
public import proofs.«01_k».proof.Proof.Gen.Kernel11Ideal
public import proofs.«01_k».proof.Proof.Gen.Kernel11Ideal.Skeleton
public import Idealize.ShloMosaic.Lib.Pipeline.ValueKit
public import Idealize.ShloMosaic.Lib.WordCmp

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- A lane number compared with 64. -/
theorem lt_bit (d : Fin 128) (v w : EReal) : Scalar.select (IntOp.cmpi .slt (BitVec.ofNat 32 d.val) 64#32) v w = if d.val < 64 then v else w := by
  have hd : (d : ℕ) < 128 := d.isLt
  word_cmp
theorem ge_bit (d : Fin 128) (v w : EReal) : Scalar.select (IntOp.cmpi .sge (BitVec.ofNat 32 d.val) 64#32) v w = if 64 ≤ d.val then v else w := by
  have hd : (d : ℕ) < 128 := d.isLt
  word_cmp

/-- The scaled queries, the two heads' rows stacked, each with the other head's lanes zeroed. -/
def qs (x : Vec Ideal S512x128 .bf16) (r : Fin 1024) (d : Fin 128) : EReal :=
  if h : r.val < 512 then (if d.val < 64 then x (ix2 ⟨r.val, h⟩ d) * (((1 / 8) * (Real.log 2)⁻¹ : ℝ) : EReal) else 0)
  else (if 64 ≤ d.val then x (ix2 ⟨r.val - 512, by omega⟩ d) * (((1 / 8) * (Real.log 2)⁻¹ : ℝ) : EReal) else 0)

theorem pay24_at (x : Vec Ideal S512x128 .bf16) (r : Fin 1024) (d : Fin 128) : k0_pay24 x (ix2 r d) = qs x r d := by
  have hd : (d : ℕ) < 128 := d.isLt
  have hr : (r : ℕ) < 1024 := r.isLt
  pointwise [k0_pay24, k_scale]
  unfold qs
  by_cases h : (r : ℕ) < 512
  · rw [dif_pos h, dif_pos h]
    show Scalar.select (IntOp.cmpi .slt (BitVec.ofNat 32 d.val) 64#32) _ 0 = _
    rw [lt_bit]
  · rw [dif_neg h, dif_neg h]
    show Scalar.select (IntOp.cmpi .sge (BitVec.ofNat 32 d.val) 64#32) _ 0 = _
    rw [ge_bit]

/-- A block's scores. -/
def sc (q : FVec Ideal S1024x128 .bf16) (cq : FVec Ideal S1024x1 .f32) (k : Vec Ideal S512x128 .bf16) (y0 y1 : Vec Ideal S1x1x512 .f32)
    (r : Fin 1024) (j : Fin 512) : EReal :=
  ∑ d : Fin 128, q (ix2 r d) * k (ix2 j d) + cq (ix2 r 0)
    - (if r.val < 512 then y0 (ix3 0 0 j) else y1 (ix3 0 0 j)) * (((Real.log 2)⁻¹ : ℝ) : EReal)

section Scores

variable (q : FVec Ideal S1024x128 .bf16) (cq : FVec Ideal S1024x1 .f32) (k : Vec Ideal S512x128 .bf16) (y0 y1 : Vec Ideal S1x1x512 .f32)
    (r : Fin 1024) (j : Fin 512)

theorem pay16_at : k0_pay16 q cq k y0 y1 (ix2 r j) = sc q cq k y0 y1 r j := by
  pointwise [k0_pay16, k_log2e]
  unfold sc
  by_cases h : (r : ℕ) < 512
  · rw [dif_pos h, if_pos h]
  · rw [dif_neg h, if_neg h]

theorem pay20_at : k0_pay20 q cq k y0 y1 (ix2 r j) = sc q cq k y0 y1 r j := by
  pointwise [k0_pay20, k_log2e]
  unfold sc
  by_cases h : (r : ℕ) < 512
  · rw [dif_pos h, if_pos h]
  · rw [dif_neg h, if_neg h]

end Scores

end Cert.Proof.Fox
-- ==== Proof.FoxCol.lean ====
/-
  The decayed-attention kernel's column of the queries' own decays, and what it does at a block's end.
-/
module

public import proofs.«01_k».proof.Proof.FoxScore
public import Idealize.ShloMosaic.Lib.WordCmp

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- A sum that picks the diagonal of a square. -/
theorem eye_sum (r : Fin 128) (f : Fin 128 → EReal) :
    (∑ x : Fin 128, Scalar.select (IntOp.cmpi .eq (BitVec.ofNat 32 r.val) (BitVec.ofNat 32 x.val)) (f x) 0) = f r := by
  rw [Finset.sum_eq_single r]
  · have hr : (r : ℕ) < 128 := r.isLt
    word_cmp
  · intro x _ hx
    have hr : (r : ℕ) < 128 := r.isLt
    have hxl : (x : ℕ) < 128 := x.isLt
    have hne : ¬ (r : ℕ) = (x : ℕ) := fun e => hx (Fin.ext e.symm)
    word_cmp
    exact if_neg hne
  · intro h; exact absurd (Finset.mem_univ r) h

section Col

variable (y : Vec Ideal S1x1x512 .f32) (r : Fin 128)

theorem pay27_at : k0_pay27 y (ix2 r 0) = y (ix3 0 0 ⟨r.val, by omega⟩) * (((Real.log 2)⁻¹ : ℝ) : EReal) := by
  refine Eq.trans ?_ (eye_sum r fun x => y (ix3 0 0 ⟨x.val, by omega⟩) * (((Real.log 2)⁻¹ : ℝ) : EReal))
  pointwise [k0_pay27, k0_pay26, k0_pay25, k_log2e]
theorem pay28_at : k0_pay28 y (ix2 r 0) = y (ix3 0 0 ⟨128 + r.val, by omega⟩) * (((Real.log 2)⁻¹ : ℝ) : EReal) := by
  refine Eq.trans ?_ (eye_sum r fun x => y (ix3 0 0 ⟨128 + x.val, by omega⟩) * (((Real.log 2)⁻¹ : ℝ) : EReal))
  pointwise [k0_pay28, k0_pay26, k0_pay25, k_log2e]
theorem pay30_at : k0_pay30 k0_pay25 (k0_pay29 y) (ix2 r 0) = y (ix3 0 0 ⟨256 + r.val, by omega⟩) * (((Real.log 2)⁻¹ : ℝ) : EReal) := by
  refine Eq.trans ?_ (eye_sum r fun x => y (ix3 0 0 ⟨256 + x.val, by omega⟩) * (((Real.log 2)⁻¹ : ℝ) : EReal))
  pointwise [k0_pay30, k0_pay29, k0_pay26, k0_pay25, k_log2e]
theorem pay31_at : k0_pay31 k0_pay25 (k0_pay26 y) (ix2 r 0) = y (ix3 0 0 ⟨384 + r.val, by omega⟩) * (((Real.log 2)⁻¹ : ℝ) : EReal) := by
  refine Eq.trans ?_ (eye_sum r fun x => y (ix3 0 0 ⟨384 + x.val, by omega⟩) * (((Real.log 2)⁻¹ : ℝ) : EReal))
  pointwise [k0_pay31, k0_pay26, k0_pay25, k_log2e]
theorem pay33_at : k0_pay33 k0_pay25 y (ix2 r 0) = y (ix3 0 0 ⟨r.val, by omega⟩) * (((Real.log 2)⁻¹ : ℝ) : EReal) := by
  refine Eq.trans ?_ (eye_sum r fun x => y (ix3 0 0 ⟨x.val, by omega⟩) * (((Real.log 2)⁻¹ : ℝ) : EReal))
  pointwise [k0_pay33, k0_pay32, k0_pay25, k_log2e]
theorem pay34_at : k0_pay34 k0_pay25 y (ix2 r 0) = y (ix3 0 0 ⟨128 + r.val, by omega⟩) * (((Real.log 2)⁻¹ : ℝ) : EReal) := by
  refine Eq.trans ?_ (eye_sum r fun x => y (ix3 0 0 ⟨128 + x.val, by omega⟩) * (((Real.log 2)⁻¹ : ℝ) : EReal))
  pointwise [k0_pay34, k0_pay32, k0_pay25, k_log2e]
theorem pay35_at : k0_pay35 k0_pay25 y (ix2 r 0) = y (ix3 0 0 ⟨256 + r.val, by omega⟩) * (((Real.log 2)⁻¹ : ℝ) : EReal) := by
  refine Eq.trans ?_ (eye_sum r fun x => y (ix3 0 0 ⟨256 + x.val, by omega⟩) * (((Real.log 2)⁻¹ : ℝ) : EReal))
  pointwise [k0_pay35, k0_pay32, k0_pay25, k_log2e]
theorem pay36_at : k0_pay36 k0_pay25 y (ix1 r) = y (ix3 0 0 ⟨384 + r.val, by omega⟩) * (((Real.log 2)⁻¹ : ℝ) : EReal) := by
  refine Eq.trans ?_ (eye_sum r fun x => y (ix3 0 0 ⟨384 + x.val, by omega⟩) * (((Real.log 2)⁻¹ : ℝ) : EReal))
  pointwise [k0_pay36, k0_pay32, k0_pay25, k_log2e]

end Col

/-- The queries' decays, in base-two units, down the stacked rows. -/
def cqv (y0 y1 : Vec Ideal S1x1x512 .f32) (r : Fin 1024) : EReal :=
  (if h : r.val < 512 then y0 (ix3 0 0 ⟨r.val, h⟩) else y1 (ix3 0 0 ⟨r.val - 512, by omega⟩)) * (((Real.log 2)⁻¹ : ℝ) : EReal)

variable (y0 y1 : Vec Ideal S1x1x512 .f32)

/-- The column the kernel builds. -/
abbrev colv : FVec Ideal S1024x1 .f32 :=
  k0_pay37 (k0_pay27 y0) (k0_pay28 y0) (k0_pay30 k0_pay25 (k0_pay29 y0)) (k0_pay31 k0_pay25 (k0_pay26 y0))
    (k0_pay33 k0_pay25 y1) (k0_pay34 k0_pay25 y1) (k0_pay35 k0_pay25 y1) (k0_pay36 k0_pay25 y1)

theorem col_at (r : Fin 1024) : colv y0 y1 (ix2 r 0) = cqv y0 y1 r := by
  pointwise [colv, k0_pay37, pay27_at, pay28_at, pay30_at, pay31_at, pay33_at, pay34_at, pay35_at, pay36_at]
  have hr : (r : ℕ) < 1024 := r.isLt
  unfold cqv
  by_cases h : (r : ℕ) < 512
  · rw [dif_pos h]
    split_ifs <;> first
      | (exfalso; omega)
      | (refine congrArg (fun z => y0 (ix3 0 0 z) * (((Real.log 2)⁻¹ : ℝ) : EReal)) (Fin.ext ?_); first | rfl | (dsimp only; omega))
  · rw [dif_neg h]
    split_ifs <;> first
      | (exfalso; omega)
      | (refine congrArg (fun z => y1 (ix3 0 0 z) * (((Real.log 2)⁻¹ : ℝ) : EReal)) (Fin.ext ?_); dsimp only; omega)

theorem pay42_at (q : FVec Ideal S1024x128 .bf16) (k : Vec Ideal S512x128 .bf16) (z0 z1 : Vec Ideal S1x1x512 .f32) (r : Fin 1024) (j : Fin 512) :
    k0_pay1 (k0_pay42 q (k0_pay27 y0) (k0_pay28 y0) (k0_pay30 k0_pay25 (k0_pay29 y0)) (k0_pay31 k0_pay25 (k0_pay26 y0))
    (k0_pay33 k0_pay25 y1) (k0_pay34 k0_pay25 y1) (k0_pay35 k0_pay25 y1) (k0_pay36 k0_pay25 y1) k z0 z1) (ix2 r j) = sc q (colv y0 y1) k z0 z1 r j := by
  have e : k0_pay37 (k0_pay27 y0) (k0_pay28 y0) (k0_pay30 k0_pay25 (k0_pay29 y0)) (k0_pay31 k0_pay25 (k0_pay26 y0))
    (k0_pay33 k0_pay25 y1) (k0_pay34 k0_pay25 y1) (k0_pay35 k0_pay25 y1) (k0_pay36 k0_pay25 y1) = colv y0 y1 := rfl
  unfold k0_pay42
  rw [e]
  generalize colv y0 y1 = cc
  pointwise [k0_pay1, k_log2e]
  unfold sc
  by_cases h : (r : ℕ) < 512
  · rw [dif_pos h, if_pos h]
  · rw [dif_neg h, if_neg h]

/-- The block's end: each lane is its own head's row, divided by the row's sum of weights. -/
theorem pay15_at (a b : Vec Ideal S1024x128 .f32) (h : _) (r : Fin 512) (l : Fin 128) :
    k0_pay15 (iota .tc S1x128 32 [1] h) a b (ix2 r l)
      = if l.val < 64 then Ideal.div (a (ix2 ⟨r.val, by omega⟩ l)) (b (ix2 ⟨r.val, by omega⟩ l)) else Ideal.div (a (ix2 ⟨512 + r.val, by omega⟩ l)) (b (ix2 ⟨512 + r.val, by omega⟩ l)) := by
  rw [← lt_bit]
  pointwise [k0_pay15]

theorem pay17_eq (v : Vec Ideal S512x128 .bf16) : k0_pay17 v = v := by
  funext t; rw [← ix2_eta t]; pointwise [k0_pay17]
theorem pay22_eq (v : Vec Ideal S512x128 .bf16) : k0_pay22 v = v := by
  funext t; rw [← ix2_eta t]; pointwise [k0_pay22]

end Cert.Proof.Fox
-- ==== Proof.FoxGoal.lean ====
/-
  The decayed attention's scores block by block against the reference's, and a finished block against its result.
-/
module

public import proofs.«01_k».proof.Proof.FoxRef
public import proofs.«01_k».proof.Proof.FoxSoft
public import proofs.«01_k».proof.Proof.FoxCol

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- The head and the query of a stacked row. -/
def hd (hp : Fin 4) (r : Fin 1024) : Fin 8 := ⟨2 * hp.val + r.val / 512, by omega⟩
def qp (i : Fin 16) (r : Fin 1024) : Fin 8192 := ⟨512 * i.val + r.val % 512, by omega⟩
/-- The head and the component of a lane. -/
def lh (hp : Fin 4) (l : Fin 128) : Fin 8 := ⟨2 * hp.val + l.val / 64, by omega⟩
def ld (l : Fin 128) : Fin 64 := ⟨l.val % 64, by omega⟩

/-- The queries, the keys and the decays are finite. -/
structure Ok (h : FVec Ideal Cert.Reference11Ideal.S2x8192x3072 .f32) (cum : FVec Ideal Cert.Reference11Ideal.S2x8x8192 .f32) : Prop where
  q : ∀ b p n d, ∃ a : ℝ, qh h (ix4 b p n d) = a
  k : ∀ b p n d, ∃ a : ℝ, kh h (ix4 b p n d) = a
  c : ∀ b n p, ∃ a : ℝ, cum (ix3 b n p) = a

/-- A sum over 128 lanes by halves. -/
theorem lanes (f : Fin 128 → EReal) : ∑ d, f d = ∑ d : Fin 64, f ⟨d.val, by omega⟩ + ∑ d : Fin 64, f ⟨64 + d.val, by omega⟩ :=
  Fin.sum_univ_add (a := 64) (b := 64) f

section Score

variable (h : FVec Ideal Cert.Reference11Ideal.S2x8192x3072 .f32) (cum : FVec Ideal Cert.Reference11Ideal.S2x8x8192 .f32) (ok : Ok h cum)
  (b : Fin 2) (hp : Fin 4) (i : Fin 16)
include ok

/-- A score of finite numbers is a finite number. -/
theorem score_real (n : Fin 8) (p j : Fin 8192) : ∃ a : ℝ, score h cum b n p j = a := by
  choose fq hq using ok.q
  choose fk hk using ok.k
  choose fc hc using ok.c
  refine ⟨(∑ d, fq b p n d * fk b j n d) * (1 / 8) + fc b n p - fc b n j, ?_⟩
  unfold score
  simp only [hq, hk, hc, ← EReal.coe_mul, sum_coe, ← EReal.coe_add, ← EReal.coe_sub]

/-- The kernel's score is the reference's in base-two units. -/
theorem sc_eq (q : FVec Ideal S1024x128 .bf16) (cq : FVec Ideal S1024x1 .f32) (x : Vec Ideal S512x128 .bf16) (k : Vec Ideal S512x128 .bf16)
    (y0 y1 z0 z1 : Vec Ideal S1x1x512 .f32) (kk : Fin 512 → Fin 8192)
    (eq : ∀ r d, q (ix2 r d) = qs x r d) (ec : ∀ r, cq (ix2 r 0) = cqv y0 y1 r)
    (e0 : ∀ (s : Fin 512) (l : Fin 128), x (ix2 s l) = qh h (ix4 b ⟨512 * i.val + s.val, by omega⟩ (lh hp l) (ld l)))
    (e1 : ∀ (s : Fin 512) (l : Fin 128), k (ix2 s l) = kh h (ix4 b (kk s) (lh hp l) (ld l)))
    (f0 : ∀ s : Fin 512, y0 (ix3 0 0 s) = cum (ix3 b ⟨2 * hp.val, by omega⟩ ⟨512 * i.val + s.val, by omega⟩))
    (f1 : ∀ s : Fin 512, y1 (ix3 0 0 s) = cum (ix3 b ⟨2 * hp.val + 1, by omega⟩ ⟨512 * i.val + s.val, by omega⟩))
    (g0 : ∀ s : Fin 512, z0 (ix3 0 0 s) = cum (ix3 b ⟨2 * hp.val, by omega⟩ (kk s)))
    (g1 : ∀ s : Fin 512, z1 (ix3 0 0 s) = cum (ix3 b ⟨2 * hp.val + 1, by omega⟩ (kk s)))
    (r : Fin 1024) (j : Fin 512) :
    sc q cq k z0 z1 r j = (cc : EReal) * score h cum b (hd hp r) (qp i r) (kk j) := by
  choose fq hq using ok.q
  choose fk hk using ok.k
  choose fc hc using ok.c
  have real : ∀ (Q K : Fin 64 → ℝ) (u v : ℝ), (∑ d, Q d * (1 / 8 * (Real.log 2)⁻¹) * K d) + u * (Real.log 2)⁻¹ - v * (Real.log 2)⁻¹
      = cc * ((∑ d, Q d * K d) * (1 / 8) + u - v) := fun Q K u v => by
    have : (∑ d, Q d * (1 / 8 * (Real.log 2)⁻¹) * K d) = (1 / 8 * (Real.log 2)⁻¹) * ∑ d, Q d * K d := by
      rw [Finset.mul_sum]; exact Finset.sum_congr rfl fun d _ => by ring
    rw [this]; simp only [cc]; ring
  unfold sc score
  rw [ec, lanes]
  simp only [eq, e1, hq, hk, hc, ← EReal.coe_mul, sum_coe, ← EReal.coe_add, ← EReal.coe_sub]
  by_cases hr : r.val < 512
  · have a1 : ∀ d : Fin 64, qs x r ⟨d.val, by omega⟩ * ((fk b (kk j) (lh hp ⟨d.val, by omega⟩) (ld ⟨d.val, by omega⟩) : ℝ) : EReal)
        = ((fq b (qp i r) (hd hp r) d * (1 / 8 * (Real.log 2)⁻¹) * fk b (kk j) (hd hp r) d : ℝ) : EReal) := fun d => by
      have n1 : lh hp ⟨d.val, by omega⟩ = hd hp r := Fin.ext (by simp only [lh, hd]; omega)
      have n2 : ld ⟨d.val, by omega⟩ = d := Fin.ext (by simp only [ld]; omega)
      have n3 : (⟨512 * i.val + r.val, by omega⟩ : Fin 8192) = qp i r := Fin.ext (by simp only [qp]; omega)
      unfold qs
      rw [dif_pos hr, if_pos d.isLt, e0, n1, n2]
      dsimp only
      rw [n3, hq, ← EReal.coe_mul, ← EReal.coe_mul]
    have a2 : ∀ d : Fin 64, qs x r ⟨64 + d.val, by omega⟩ * ((fk b (kk j) (lh hp ⟨64 + d.val, by omega⟩) (ld ⟨64 + d.val, by omega⟩) : ℝ) : EReal) = 0 := fun d => by
      unfold qs
      rw [dif_pos hr, if_neg (by simp), zero_mul]
    have m1 : (⟨2 * hp.val, by omega⟩ : Fin 8) = hd hp r := Fin.ext (by simp only [hd]; omega)
    have m2 : (⟨512 * i.val + r.val, by omega⟩ : Fin 8192) = qp i r := Fin.ext (by simp only [qp]; omega)
    simp only [a1, a2, Finset.sum_const_zero, add_zero, sum_coe]
    rw [if_pos hr, g0, cqv, dif_pos hr, f0, m1]
    dsimp only
    rw [m2, hc, hc]
    simp only [← EReal.coe_mul, ← EReal.coe_add, ← EReal.coe_sub]
    rw [real]
  · have hr' : (r : ℕ) < 1024 := r.isLt
    have a1 : ∀ d : Fin 64, qs x r ⟨64 + d.val, by omega⟩ * ((fk b (kk j) (lh hp ⟨64 + d.val, by omega⟩) (ld ⟨64 + d.val, by omega⟩) : ℝ) : EReal)
        = ((fq b (qp i r) (hd hp r) d * (1 / 8 * (Real.log 2)⁻¹) * fk b (kk j) (hd hp r) d : ℝ) : EReal) := fun d => by
      have n1 : lh hp ⟨64 + d.val, by omega⟩ = hd hp r := Fin.ext (by simp only [lh, hd]; omega)
      have n2 : ld ⟨64 + d.val, by omega⟩ = d := Fin.ext (by simp only [ld]; omega)
      have n3 : (⟨512 * i.val + (r.val - 512), by omega⟩ : Fin 8192) = qp i r := Fin.ext (by simp only [qp]; omega)
      unfold qs
      rw [dif_neg hr, if_pos (by simp), e0, n1, n2]
      dsimp only
      rw [n3, hq, ← EReal.coe_mul, ← EReal.coe_mul]
    have a2 : ∀ d : Fin 64, qs x r ⟨d.val, by omega⟩ * ((fk b (kk j) (lh hp ⟨d.val, by omega⟩) (ld ⟨d.val, by omega⟩) : ℝ) : EReal) = 0 := fun d => by
      unfold qs
      rw [dif_neg hr, if_neg (by simp), zero_mul]
    have m1 : (⟨2 * hp.val + 1, by omega⟩ : Fin 8) = hd hp r := Fin.ext (by simp only [hd]; omega)
    have m2 : (⟨512 * i.val + (r.val - 512), by omega⟩ : Fin 8192) = qp i r := Fin.ext (by simp only [qp]; omega)
    simp only [a1, a2, Finset.sum_const_zero, zero_add, sum_coe]
    rw [if_neg hr, g1, cqv, dif_neg hr, f1, m1]
    dsimp only
    rw [m2, hc, hc]
    simp only [← EReal.coe_mul, ← EReal.coe_add, ← EReal.coe_sub]
    rw [real]

end Score

section Blocks

variable (h : FVec Ideal Cert.Reference11Ideal.S2x8192x3072 .f32) (cum : FVec Ideal Cert.Reference11Ideal.S2x8x8192 .f32)
  (b : Fin 2) (hp : Fin 4) (i : Fin 16)

/-- A stacked row's scores, block by block from the diagonal one down. -/
def lk (r : Fin 1024) : ℕ → Fin 512 → EReal := blocks (mscore h cum b (hd hp r) (qp i r)) i
/-- What a column's weights multiply: a value's component, or one. -/
def wk (l : Fin 256) (k : ℕ) (x : Fin 512) : EReal :=
  if hl : l.val < 128 then vh h (ix4 b (key i k x) (lh hp ⟨l.val, hl⟩) (ld ⟨l.val, hl⟩)) else 1

/-- The diagonal block under its mask. -/
theorem lk_diag (r : Fin 1024) (x : Fin 512) : msk r x ((cc : EReal) * score h cum b (hd hp r) (qp i r) (key i 0 x)) = lk h cum b hp i r 0 x := by
  unfold msk lk blocks mscore
  by_cases hx : x.val ≤ r.val % 512
  · rw [if_pos hx, if_pos (by simp only [key, qp]; omega)]
  · rw [if_neg hx, if_neg (by simp only [key, qp]; omega), EReal.coe_mul_bot_of_pos cc_pos]
/-- The earlier blocks. -/
theorem lk_off (r : Fin 1024) (k : ℕ) (h1 : 1 ≤ k) (h2 : k ≤ i.val) (x : Fin 512) :
    (cc : EReal) * score h cum b (hd hp r) (qp i r) (key i k x) = lk h cum b hp i r k x := by
  unfold lk blocks mscore
  rw [if_pos (by simp only [key, qp]; omega)]

/-- A block's end is the reference's value. -/
theorem ended (ok : Ok h cum) (A : Fin 1024 → Fin 256 → EReal) (eA : ∀ r l, A r l = aa (lk h cum b hp i r) (wk h b hp i l) (i.val + 1))
    (r : Fin 512) (l : Fin 128) :
    (if l.val < 64 then Ideal.div (A ⟨r.val, by omega⟩ ⟨l.val, by omega⟩) (A ⟨r.val, by omega⟩ ⟨128 + l.val, by omega⟩)
      else Ideal.div (A ⟨512 + r.val, by omega⟩ ⟨l.val, by omega⟩) (A ⟨512 + r.val, by omega⟩ ⟨128 + l.val, by omega⟩))
      = ctx h cum (ix4 b ⟨512 * i.val + r.val, by omega⟩ (lh hp l) (ld l)) := by
  have main : ∀ s : Fin 1024, hd hp s = lh hp l → qp i s = ⟨512 * i.val + r.val, by omega⟩ →
      Ideal.div (A s ⟨l.val, by omega⟩) (A s ⟨128 + l.val, by omega⟩) = ctx h cum (ix4 b ⟨512 * i.val + r.val, by omega⟩ (lh hp l) (ld l)) := fun s e1 e2 => by
    have w1 : wk h b hp i ⟨l.val, by omega⟩ = fun k x => vh h (ix4 b (key i k x) (lh hp l) (ld l)) := by
      funext k x; unfold wk; rw [dif_pos (show l.val < 128 from l.isLt)]
    have w2 : wk h b hp i ⟨128 + l.val, by omega⟩ = fun _ _ => 1 := by
      funext k x; unfold wk; rw [dif_neg (show ¬ (128 + l.val < 128) by omega)]
    rw [eA, eA, w1, w2]
    unfold lk
    rw [e1, e2]
    have htop : ∀ j, mscore h cum b (lh hp l) ⟨512 * i.val + r.val, by omega⟩ j ≠ ⊤ := fun j => by
      unfold mscore
      split_ifs
      · obtain ⟨a, ha⟩ := score_real h cum ok b (lh hp l) ⟨512 * i.val + r.val, by omega⟩ j
        rw [ha]; exact EReal.coe_ne_top a
      · exact bot_ne_top
    have hlate : ∀ j : Fin 8192, 512 * (i.val + 1) ≤ j.val → mscore h cum b (lh hp l) ⟨512 * i.val + r.val, by omega⟩ j = ⊥ := fun j hj => by
      unfold mscore
      rw [if_neg (by dsimp only; omega)]
    have hself : mscore h cum b (lh hp l) ⟨512 * i.val + r.val, by omega⟩ ⟨512 * i.val + r.val, by omega⟩ ≠ ⊥ := by
      unfold mscore
      rw [if_pos le_rfl]
      obtain ⟨a, ha⟩ := score_real h cum ok b (lh hp l) ⟨512 * i.val + r.val, by omega⟩ ⟨512 * i.val + r.val, by omega⟩
      rw [ha]; exact EReal.coe_ne_bot a
    rw [soft _ i htop hlate _ hself (fun j => vh h (ix4 b j (lh hp l) (ld l))), ctx_at]
    simp only [prob_at, expo_at, masked_at]
  by_cases hl : l.val < 64
  · rw [if_pos hl]
    exact main _ (Fin.ext (by simp only [hd, lh]; omega)) (Fin.ext (by simp only [qp]; omega))
  · rw [if_neg hl]
    exact main _ (Fin.ext (by simp only [hd, lh]; omega)) (Fin.ext (by simp only [qp]; omega))

/-- The reference's result at a place. -/
theorem ref_at (R : Fin 16384) (C : Fin 512) :
    ref h cum (ix2 R C) = ctx h cum (ix4 ⟨R.val / 8192, by omega⟩ ⟨R.val % 8192, by omega⟩ ⟨C.val / 64, by omega⟩ ⟨C.val % 64, by omega⟩) := by
  pointwise [ref]

end Blocks

end Cert.Proof.Fox
-- ==== Proof.FoxBlocks.lean ====
/-
  The decayed attention's blocks: which entries of the arguments a grid point's windows show.
-/
module

public import proofs.«01_k».proof.Proof.FoxGoal
public import proofs.«01_k».proof.Proof.Gen.Kernel11Ideal.Frame
public import Idealize.ShloMosaic.Lib.Pipeline.ValueKit

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- Which block each window shows at a point. -/
theorem idx : ∀ t : Fin cfg0.N, win0_0.index t = ![t.val / 64 * 16 + t.val % 16, 12 + t.val / 16 % 4] ∧ win0_1.index t = ![t.val / 64, 16 + t.val / 16 % 4]
    ∧ win0_2.index t = ![t.val / 64, 20 + t.val / 16 % 4] ∧ win0_3.index t = ![t.val / 64 * 4 + t.val / 16 % 4, 0, t.val % 16]
    ∧ win0_4.index t = ![t.val / 64 * 4 + t.val / 16 % 4, 0, 0] ∧ win0_5.index t = ![t.val / 64 * 16 + t.val % 16, t.val / 16 % 4] :=
  (by decide +kernel : ∀ t : Fin grid0.N, _)

section Blocks

variable (c : Dev nD) (t : Fin cfg0.N)

theorem lt : t.val < 128 := by have := t.isLt; have : cfg0.N = 128 := N_0; omega
/-- A point's batch, its pair of heads and its block of queries. -/
def pb : Fin 2 := ⟨t.val / 64, by have := lt t; omega⟩
def ph : Fin 4 := ⟨t.val / 16 % 4, by omega⟩
def pi : Fin 16 := ⟨t.val % 16, by omega⟩

theorem coord2 : ((grid0.coords t) 2).val = t.val % 16 := by
  rw [Pipeline.Grid.coords_val t 2 (S := 1) (B := 16) (by decide +kernel) rfl, Nat.div_one]

/-- The arguments. -/
abbrev ah : FVec Ideal Cert.Reference11Ideal.S2x8192x3072 .f32 := m ((c : Thread nD τ).loc main_arg0)
abbrev ac : FVec Ideal Cert.Reference11Ideal.S2x8x8192 .f32 := m ((c : Thread nD τ).loc main_arg1)

theorem blk0 (s : Fin 512) (l : Fin 128) : iblk m c 0 t (ix2 s l) = qh (ah m c) (ix4 (pb t) ⟨512 * (pi t).val + s.val, by omega⟩ (lh (ph t) l) (ld l)) := by
  rw [qh_at]
  have := lt t
  blk_point [iblk, V, idx t, pb, ph, pi, lh, ld, ah]
theorem blk1 (s : Fin 8192) (l : Fin 128) : iblk m c 1 t (ix2 s l) = kh (ah m c) (ix4 (pb t) s (lh (ph t) l) (ld l)) := by
  rw [kh_at]
  have := lt t
  blk_point [iblk, V, idx t, pb, ph, pi, lh, ld, ah]
theorem blk2 (s : Fin 8192) (l : Fin 128) : iblk m c 2 t (ix2 s l) = vh (ah m c) (ix4 (pb t) s (lh (ph t) l) (ld l)) := by
  rw [vh_at]
  have := lt t
  blk_point [iblk, V, idx t, pb, ph, pi, lh, ld, ah]
theorem blk3 (a : Fin 2) (s : Fin 512) : iblk m c 3 t (ix3 a 0 s) = ac m c (ix3 (pb t) ⟨2 * (ph t).val + a.val, by omega⟩ ⟨512 * (pi t).val + s.val, by omega⟩) := by
  have := lt t
  blk_point [iblk, V, idx t, pb, ph, pi, lh, ld, ac]
theorem blk4 (a : Fin 2) (s : Fin 8192) : iblk m c 4 t (ix3 a 0 s) = ac m c (ix3 (pb t) ⟨2 * (ph t).val + a.val, by omega⟩ s) := by
  have := lt t
  blk_point [iblk, V, idx t, pb, ph, pi, lh, ld, ac]

end Blocks

end Cert.Proof.Fox
-- ==== Proof.FoxOff.lean ====
/-
  The decayed-attention kernel's loop bounds and the places of its loads.
-/
module

public import proofs.«01_k».proof.Proof.Gen.Kernel11Ideal
public import Idealize.ShloMosaic.Lib.Pipeline.ValueKit

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

theorem trips1 : ∀ i : grid0.Coords, (k0_t1_loop i).trips = (i 2).val := by decide +kernel
theorem trips2 : ∀ i : grid0.Coords, (k0_t2_loop i).trips = 0 := by decide +kernel

/-- The block of keys loaded for the next trip, and the block of values of this one. -/
theorem off8 : ∀ (i : grid0.Coords) (k : Fin (k0_t1_loop i).trips), k0_off8 i k = ![512 * ((i 2).val - (k.val + 2)), 0] := by decide +kernel
theorem off9 : ∀ (i : grid0.Coords) (k : Fin (k0_t1_loop i).trips), k0_off9 i k = ![0, 0, 512 * ((i 2).val - (k.val + 2))] := by decide +kernel
theorem off10 : ∀ (i : grid0.Coords) (k : Fin (k0_t1_loop i).trips), k0_off10 i k = ![1, 0, 512 * ((i 2).val - (k.val + 2))] := by decide +kernel
theorem off11 : ∀ (i : grid0.Coords) (k : Fin (k0_t1_loop i).trips), k0_off11 i k = ![512 * ((i 2).val - (k.val + 1)), 0] := by decide +kernel

/-- The diagonal block's places, and those of the block before it. -/
theorem off1 : ∀ i : grid0.Coords, k0_off1 i = ![512 * (i 2).val, 0] := by decide +kernel
theorem off2 : ∀ i : grid0.Coords, k0_off2 i = ![0, 0, 512 * (i 2).val] := by decide +kernel
theorem off3 : ∀ i : grid0.Coords, k0_off3 i = ![1, 0, 512 * (i 2).val] := by decide +kernel
theorem off4 : ∀ i : grid0.Coords, k0_cond2 i = 1#1 → k0_off4 i = ![512 * ((i 2).val - 1), 0] := by decide +kernel
theorem off5 : ∀ i : grid0.Coords, k0_cond2 i = 1#1 → k0_off5 i = ![0, 0, 512 * ((i 2).val - 1)] := by decide +kernel
theorem off6 : ∀ i : grid0.Coords, k0_cond2 i = 1#1 → k0_off6 i = ![1, 0, 512 * ((i 2).val - 1)] := by decide +kernel
theorem off7 : ∀ i : grid0.Coords, k0_off7 i = ![512 * (i 2).val, 0] := by decide +kernel

end Cert.Proof.Fox
-- ==== Proof.FoxRun.lean ====
/-
  What the decayed-attention kernel's running maximum, sum and scores hold after any number of its loop's trips.
-/
module

public import proofs.«01_k».proof.Proof.Gen.Kernel11Ideal.Loops
public import proofs.«01_k».proof.Proof.FoxStep
public import proofs.«01_k».proof.Proof.FoxOff
public import Idealize.ShloMosaic.Lib.VecWindow

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

section Loop

variable (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2x1x512 .f32) (harg6 : arg6.IsWhole) (arg7 : Memref sig .tc .vmem S2x1x8192 .f32) (harg7 : arg7.IsWhole) (arg8 : Memref sig .tc .vmem S512x128 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .f32) (harg11 : arg11.IsWhole) (arg2 : BitVec 32) (v19 : FVec Ideal S1024x128 .bf16) (v87 : FVec Ideal S1024x1 .f32) (k0_h2 : k0_cond2 i = 1#1) (X_arg4 : BufTy.Contents (Elt Ideal) arg4.view.ty) (X_arg5 : BufTy.Contents (Elt Ideal) arg5.view.ty) (X_arg7 : BufTy.Contents (Elt Ideal) arg7.view.ty) (G_arg9 : BufTy.Contents (Elt Ideal) arg9.view.ty) (G_arg10 : BufTy.Contents (Elt Ideal) arg10.view.ty) (G_arg11 : BufTy.Contents (Elt Ideal) arg11.view.ty) (init : BitVec 32)

/-- The loop's carried state before a trip. -/
abbrev St (n : ℕ) := st_k0_t1 (F := Ideal) 𝒱 c bd i arg3 harg3 arg4 harg4 arg5 harg5 arg6 harg6 arg7 harg7 arg8 harg8 arg9 harg9 arg10 harg10 arg11 harg11 arg2 v19 v87 k0_pay39 k0_h2 X_arg4 X_arg5 X_arg7 G_arg9 G_arg10 G_arg11 init n

/-- The scores the trip computes for the next one. -/
def nxt (k : Fin (k0_t1_loop i).trips) : FVec Ideal S1024x512 .f32 :=
  k0_pay16 v19 v87 (arg4.view.readAt (Elt Ideal) (Rect.unit (s := S8192x128) (k0_off8 i k) S512x128.size (k0_off8_inb i k k0_h2)).toLoadRect X_arg4)
    (arg7.view.readAt (Elt Ideal) (Rect.unit (s := S2x1x8192) (k0_off9 i k) S1x1x512.size (k0_off9_inb i k k0_h2)).toLoadRect X_arg7)
    (arg7.view.readAt (Elt Ideal) (Rect.unit (s := S2x1x8192) (k0_off10 i k) S1x1x512.size (k0_off10_inb i k k0_h2)).toLoadRect X_arg7)

/-- The values of the trip's block of keys. -/
def val (k : Fin (k0_t1_loop i).trips) : FVec Ideal S512x128 .bf16 :=
  k0_pay17 (arg5.view.readAt (Elt Ideal) (Rect.unit (s := S8192x128) (k0_off11 i k) S512x128.size (k0_off11_inb i k k0_h2)).toLoadRect X_arg5)

variable (k : Fin (k0_t1_loop i).trips)

/-- One trip puts the running maximum, the running sum and the next scores. -/
theorem state9 :
    (arg9.view.read (Elt Ideal) (arg9.view.writes (Elt Ideal) G_arg9 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init (k.val + 1)).2.1))
      = k0_pay11 (arg11.view.read (Elt Ideal) (arg11.view.writes (Elt Ideal) G_arg11 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.2.2))
          (arg9.view.read (Elt Ideal) (arg9.view.writes (Elt Ideal) G_arg9 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.1)) := by
  unfold St
  rw [st_k0_t1_succ]
  dsimp only
  unfold trip_k0_t1
  dsimp only
  rw [View.writes_append]
  refine (View.read_writes_full (s := S1024x128) arg9.view _ inb_S1024x128_S1024x128_0_0 _ _).trans ?_
  exact congrArg₂ (fun a b => k0_pay11 a b) (View.readAt_full (s := S1024x512) arg11.view _ inb_S1024x512_S1024x512_0_0) (View.readAt_full (s := S1024x128) arg9.view _ inb_S1024x128_S1024x128_0_0)

theorem state10 :
    (arg10.view.read (Elt Ideal) (arg10.view.writes (Elt Ideal) G_arg10 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init (k.val + 1)).2.2.1))
      = k0_pay10 k0_pay39 (arg11.view.read (Elt Ideal) (arg11.view.writes (Elt Ideal) G_arg11 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.2.2))
          (val i arg5 k0_h2 X_arg5 k)
          (arg9.view.read (Elt Ideal) (arg9.view.writes (Elt Ideal) G_arg9 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.1))
          (arg10.view.read (Elt Ideal) (arg10.view.writes (Elt Ideal) G_arg10 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.2.1)) := by
  unfold St
  rw [st_k0_t1_succ]
  dsimp only
  unfold trip_k0_t1
  dsimp only
  rw [View.writes_append]
  refine (View.read_writes_full (s := S1024x256) arg10.view _ inb_S1024x256_S1024x256_0_0 _ _).trans ?_
  have e11 := View.readAt_full (s := S1024x512) arg11.view (arg11.view.writes (Elt Ideal) G_arg11 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.2.2) inb_S1024x512_S1024x512_0_0
  have e9 := View.readAt_full (s := S1024x128) arg9.view (arg9.view.writes (Elt Ideal) G_arg9 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.1) inb_S1024x128_S1024x128_0_0
  have e10 := View.readAt_full (s := S1024x256) arg10.view (arg10.view.writes (Elt Ideal) G_arg10 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init k.val).2.2.1) inb_S1024x256_S1024x256_0_0
  rw [← e11, ← e9, ← e10]
  rfl

theorem state11 :
    (arg11.view.read (Elt Ideal) (arg11.view.writes (Elt Ideal) G_arg11 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init (k.val + 1)).2.2.2))
      = nxt i arg4 arg7 v19 v87 k0_h2 X_arg4 X_arg7 k := by
  unfold St
  rw [st_k0_t1_succ]
  dsimp only
  unfold trip_k0_t1
  dsimp only
  rw [View.writes_append]
  refine (View.read_writes_full (s := S1024x512) arg11.view _ inb_S1024x512_S1024x512_0_0 _ _).trans ?_
  rfl

/-- After `n` trips: the maximum and the sums over the diagonal block and the `n` blocks before it, and the scores of the block before those. -/
theorem loop_inv (ℓ : Fin 1024 → ℕ → Fin 512 → EReal) (w : Fin 256 → ℕ → Fin 512 → EReal)
    (h9 : ∀ r l, arg9.view.read (Elt Ideal) G_arg9 (ix2 r l) = mm (ℓ r) 1)
    (h10 : ∀ r l, arg10.view.read (Elt Ideal) G_arg10 (ix2 r l) = aa (ℓ r) (w l) 1)
    (h11 : ∀ r x, arg11.view.read (Elt Ideal) G_arg11 (ix2 r x) = ℓ r 1 x)
    (hZ : ∀ k : Fin (k0_t1_loop i).trips, k.val + 2 ≤ (i 2).val → ∀ r x, nxt i arg4 arg7 v19 v87 k0_h2 X_arg4 X_arg7 k (ix2 r x) = ℓ r (k.val + 2) x)
    (hV : ∀ k : Fin (k0_t1_loop i).trips, ∀ l x, vw (val i arg5 k0_h2 X_arg5 k) l x = w l (k.val + 1) x) :
    ∀ n : ℕ, n ≤ (k0_t1_loop i).trips →
      (∀ r l, (arg9.view.read (Elt Ideal) (arg9.view.writes (Elt Ideal) G_arg9 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init n).2.1)) (ix2 r l) = mm (ℓ r) (n + 1))
      ∧ (∀ r l, (arg10.view.read (Elt Ideal) (arg10.view.writes (Elt Ideal) G_arg10 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init n).2.2.1)) (ix2 r l) = aa (ℓ r) (w l) (n + 1))
      ∧ (n + 1 ≤ (i 2).val → ∀ r x, (arg11.view.read (Elt Ideal) (arg11.view.writes (Elt Ideal) G_arg11 (St 𝒱 c bd i arg3 harg3 arg4 harg4 arg5 harg5 arg6 harg6 arg7 harg7 arg8 harg8 arg9 harg9 arg10 harg10 arg11 harg11 arg2 v19 v87 k0_h2 X_arg4 X_arg5 X_arg7 G_arg9 G_arg10 G_arg11 init n).2.2.2)) (ix2 r x) = ℓ r (n + 1) x)
  | 0, _ => ⟨h9, h10, fun _ => h11⟩
  | n + 1, hn => by
    obtain ⟨a9, a10, a11⟩ := loop_inv ℓ w h9 h10 h11 hZ hV n (by omega)
    have hi : n + 1 ≤ (i 2).val := by rw [← trips1]; exact hn
    have b11 := a11 hi
    refine ⟨fun r l => ?_, fun r l => ?_, fun h r x => ?_⟩
    · rw [state9 (k := ⟨n, hn⟩)]
      dsimp only
      rw [pay11_at (hM := fun l => a9 r l)]
      simp only [b11]
      rfl
    · rw [state10 (k := ⟨n, hn⟩)]
      dsimp only
      rw [pay10_at (hM := fun l => a9 r l)]
      rw [a10]
      simp only [b11]
      have e : vw (val i arg5 k0_h2 X_arg5 ⟨n, hn⟩) l = w l (n + 1) := funext fun x => hV ⟨n, hn⟩ l x
      rw [e]
      rfl
    · rw [state11 (k := ⟨n, hn⟩)]
      exact hZ ⟨n, hn⟩ h r x

end Loop

end Cert.Proof.Fox
-- ==== Proof.FoxLoads.lean ====
/-
  The decayed attention's loads out of its blocks, and the scores and the values they give.
-/
module

public import proofs.«01_k».proof.Proof.FoxBlocks
public import proofs.«01_k».proof.Proof.FoxRun
public import Idealize.ShloMosaic.Lib.Pipeline.ValueKit

@[expose] public section

set_option maxRecDepth 16384

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- A load of 512 rows. -/
theorem ldK (X : Vec Ideal S8192x128 .bf16) (o : Fin 2 → ℕ) (inb : _) (n : ℕ) (hn : n < 16) (ho : o = ![512 * n, 0]) (s : Fin 512) (l : Fin 128) :
    View.ld X (Rect.unit (s := S8192x128) o S512x128.size inb) (ix2 s l) = X (ix2 ⟨512 * n + s.val, by omega⟩ l) := by
  subst ho
  pointwise
/-- A load of 512 columns of a head. -/
theorem ldC (X : Vec Ideal S2x1x8192 .f32) (o : Fin 3 → ℕ) (inb : _) (a n : ℕ) (ha : a < 2) (hn : n < 16) (ho : o = ![a, 0, 512 * n]) (s : Fin 512) :
    View.ld X (Rect.unit (s := S2x1x8192) o S1x1x512.size inb) (ix3 0 0 s) = X (ix3 ⟨a, ha⟩ 0 ⟨512 * n + s.val, by omega⟩) := by
  subst ho
  pointwise
/-- A load of a head's row. -/
theorem ldQ (X : Vec Ideal S2x1x512 .f32) (a : ℕ) (inb : _) (ha : a < 2) (s : Fin 512) :
    View.ld X (Rect.unit (s := S2x1x512) ![a, 0, 0] S1x1x512.size inb) (ix3 0 0 s) = X (ix3 ⟨a, ha⟩ 0 s) := by
  pointwise

variable (m : (ℓ : Loc nD τ sig) → Buf (Elt Ideal) ℓ) (c : Dev nD) (t : Fin cfg0.N) (ok : Ok (ah m c) (ac m c))

/-- The point's queries' decays, a head each. -/
abbrev rw0 : Vec Ideal S1x1x512 .f32 := View.ld (iblk m c 3 t) (Rect.unit (s := S2x1x512) ![0, 0, 0] S1x1x512.size inb_S2x1x512_S1x1x512_0_0_0)
abbrev rw1 : Vec Ideal S1x1x512 .f32 := View.ld (iblk m c 3 t) (Rect.unit (s := S2x1x512) ![1, 0, 0] S1x1x512.size inb_S2x1x512_S1x1x512_1_0_0)

include ok

/-- The scores of the block `k` before the diagonal one. -/
theorem sc_blk (k : ℕ) (o1 : Fin 2 → ℕ) (o2 o3 : Fin 3 → ℕ) (i1 i2 i3 : _)
    (h1 : o1 = ![512 * ((pi t).val - k), 0]) (h2 : o2 = ![0, 0, 512 * ((pi t).val - k)]) (h3 : o3 = ![1, 0, 512 * ((pi t).val - k)]) (r : Fin 1024) (x : Fin 512) :
    sc (k0_pay24 (iblk m c 0 t)) (colv (rw0 m c t) (rw1 m c t)) (View.ld (iblk m c 1 t) (Rect.unit (s := S8192x128) o1 S512x128.size i1))
      (View.ld (iblk m c 4 t) (Rect.unit (s := S2x1x8192) o2 S1x1x512.size i2)) (View.ld (iblk m c 4 t) (Rect.unit (s := S2x1x8192) o3 S1x1x512.size i3)) r x
      = (cc : EReal) * score (ah m c) (ac m c) (pb t) (hd (ph t) r) (qp (pi t) r) (key (pi t) k x) := by
  have hb : (pi t).val - k < 16 := lt_of_le_of_lt (Nat.sub_le _ _) (pi t).isLt
  refine sc_eq (ah m c) (ac m c) ok (pb t) (ph t) (pi t) _ _ (iblk m c 0 t) _ (rw0 m c t) (rw1 m c t) _ _ (key (pi t) k)
    (fun r d => pay24_at _ r d) (fun r => col_at _ _ r) (blk0 m c t) (fun s l => ?_) (fun s => ?_) (fun s => ?_) (fun s => ?_) (fun s => ?_) r x
  · rw [ldK _ _ _ _ hb h1, blk1]; rfl
  · exact (ldQ (iblk m c 3 t) 0 _ (by omega) s).trans (blk3 m c t ⟨0, by omega⟩ s)
  · exact (ldQ (iblk m c 3 t) 1 _ (by omega) s).trans (blk3 m c t ⟨1, by omega⟩ s)
  · rw [ldC _ _ _ 0 _ (by omega) hb h2, blk4]; rfl
  · rw [ldC _ _ _ 1 _ (by omega) hb h3, blk4]; rfl

omit ok in
/-- The values of the block `k` before the diagonal one, beside ones. -/
theorem vw_blk (k : ℕ) (o : Fin 2 → ℕ) (i1 : _) (ho : o = ![512 * ((pi t).val - k), 0]) (l : Fin 256) (x : Fin 512) :
    vw (View.ld (iblk m c 2 t) (Rect.unit (s := S8192x128) o S512x128.size i1)) l x = wk (ah m c) (pb t) (ph t) (pi t) l k x := by
  have hb : (pi t).val - k < 16 := lt_of_le_of_lt (Nat.sub_le _ _) (pi t).isLt
  unfold vw wk
  by_cases hl : l.val < 128
  · rw [dif_pos hl, dif_pos hl, ldK _ _ _ _ hb ho, blk2]; rfl
  · rw [dif_neg hl, dif_neg hl]

/-- The diagonal block's masked scores. -/
theorem diag (i1 i2 i3 : _) (r : Fin 1024) (x : Fin 512) :
    msk r x (k0_pay1 (k0_pay42 (k0_pay24 (iblk m c 0 t)) (k0_pay27 (rw0 m c t)) (k0_pay28 (rw0 m c t)) (k0_pay30 k0_pay25 (k0_pay29 (rw0 m c t))) (k0_pay31 k0_pay25 (k0_pay26 (rw0 m c t)))
      (k0_pay33 k0_pay25 (rw1 m c t)) (k0_pay34 k0_pay25 (rw1 m c t)) (k0_pay35 k0_pay25 (rw1 m c t)) (k0_pay36 k0_pay25 (rw1 m c t))
      (View.ld (iblk m c 1 t) (Rect.unit (s := S8192x128) (k0_off1 (grid0.coords t)) S512x128.size i1))
      (View.ld (iblk m c 4 t) (Rect.unit (s := S2x1x8192) (k0_off2 (grid0.coords t)) S1x1x512.size i2))
      (View.ld (iblk m c 4 t) (Rect.unit (s := S2x1x8192) (k0_off3 (grid0.coords t)) S1x1x512.size i3))) (ix2 r x))
      = lk (ah m c) (ac m c) (pb t) (ph t) (pi t) r 0 x := by
  rw [pay42_at, sc_blk m c t ok 0 _ _ _ _ _ _ (by rw [off1, coord2]; rfl) (by rw [off2, coord2]; rfl) (by rw [off3, coord2]; rfl), lk_diag]

end Cert.Proof.Fox
-- ==== Proof.Fox.lean ====
/-
  The decayed attention: the kernel's result array is the reference's.
-/
module

public import proofs.«01_k».proof.Proof.FoxLoads

@[expose] public section

set_option maxRecDepth 16384
set_option pp.maxSteps 300

noncomputable section

namespace Cert.Proof.Fox

open Idealize.ShloMosaic Idealize.ShloMosaic.TcCoe Idealize.SL.Sem
open Idealize.ShloMosaic.Pipeline (Dat)
open Cert.Kernel11Ideal Cert.Kernel11Ideal.Gen

/-- A load of half the running sums. -/
theorem cov_at (v : View sig .tc .vmem S1024x256 .f32) (L : List (View.Piece (Elt Ideal) S1024x256 .f32)) (o : ℕ) (ho : o ≤ 128) (inb : _) (r : Fin 1024) (l : Fin 128) :
    v.readCov L (Rect.unit (s := S1024x256) ![0, o] S1024x128.size inb).toLoadRect (ix2 r l)
      = v.read (Elt Ideal) (v.writes (Elt Ideal) v.junk L) (ix2 r ⟨o + l.val, by omega⟩) := by
  unfold View.readCov
  rw [View.readAt_eq_ld]
  generalize v.read (Elt Ideal) (v.writes (Elt Ideal) v.junk L) = X
  pointwise

/-- Nothing is stored by a loop of no trips. -/
theorem nil2 (𝒱 : Variants) (c : Dev nD) (bd : Option 𝒱.V) (i : grid0.Coords) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2x1x512 .f32) (harg6 : arg6.IsWhole) (arg7 : Memref sig .tc .vmem S2x1x8192 .f32) (harg7 : arg7.IsWhole) (arg8 : Memref sig .tc .vmem S512x128 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x512 .f32) (harg11 : arg11.IsWhole) (arg2 : BitVec 32) (v19 : FVec Ideal S1024x128 .bf16) (v87 : FVec Ideal S1024x1 .f32) (v93) (k0_h2 : k0_cond2 i = 1#1) (v211 : BitVec 32) (X_arg4 : BufTy.Contents (Elt Ideal) arg4.view.ty) (X_arg5 : BufTy.Contents (Elt Ideal) arg5.view.ty) (X_arg7 : BufTy.Contents (Elt Ideal) arg7.view.ty) (G_arg9 : BufTy.Contents (Elt Ideal) arg9.view.ty) (G_arg10 : BufTy.Contents (Elt Ideal) arg10.view.ty) (G_arg11 : BufTy.Contents (Elt Ideal) arg11.view.ty) (init : BitVec 32) (n : ℕ) (hn : n = 0) :
    (st_k0_t2 (F := Ideal) 𝒱 c bd i arg3 harg3 arg4 harg4 arg5 harg5 arg6 harg6 arg7 harg7 arg8 harg8 arg9 harg9 arg10 harg10 arg11 harg11 arg2 v19 v87 v93 k0_h2 v211 X_arg4 X_arg5 X_arg7 G_arg9 G_arg10 G_arg11 init n).2.2.1 = [] := by
  subst hn; rfl

variable (m : (ℓ : Loc nD τ sig) → Buf (Elt Ideal) ℓ) (c : Dev nD) (t : Fin cfg0.N) (ok : Ok (ah m c) (ac m c))
include ok

/-- A block's end, over what the running sums hold. -/
theorem ended_cov (v : View sig .tc .vmem S1024x256 .f32) (L : List (View.Piece (Elt Ideal) S1024x256 .f32)) (inb inb' : _)
    (e : ∀ r l, v.read (Elt Ideal) (v.writes (Elt Ideal) v.junk L) (ix2 r l)
      = aa (lk (ah m c) (ac m c) (pb t) (ph t) (pi t) r) (wk (ah m c) (pb t) (ph t) (pi t) l) ((pi t).val + 1)) (h : _) (y0 : Fin 512) (y1 : Fin 128) :
    k0_pay15 (iota .tc S1x128 32 [1] h) (v.readCov L (Rect.unit (s := S1024x256) ![0, 0] S1024x128.size inb).toLoadRect)
      (v.readCov L (Rect.unit (s := S1024x256) ![0, 128] S1024x128.size inb').toLoadRect) (ix2 y0 y1)
      = ctx (ah m c) (ac m c) (ix4 (pb t) ⟨512 * (pi t).val + y0.val, by omega⟩ (lh (ph t) y1) (ld y1)) := by
  rw [pay15_at]
  simp only [cov_at v L 0 (by omega), cov_at v L 128 (by omega)]
  rw [← ended (ah m c) (ac m c) (pb t) (ph t) (pi t) ok (fun r l => v.read (Elt Ideal) (v.writes (Elt Ideal) v.junk L) (ix2 r l)) e y0 y1]
  simp only [zero_add]

/-- A point on the first block of queries. -/
theorem ptA (h0 : t.val % 16 = 0) (h1 : ¬1 ≤ t.val % 16) (y0 : Fin 512) (y1 : Fin 128) :
    outsAt0 m c t.val t.isLt (ix2 y0 y1) = ctx (ah m c) (ac m c) (ix4 (pb t) ⟨512 * (pi t).val + y0.val, by omega⟩ (lh (ph t) y1) (ld y1)) := by
  rw [outsAt0_A m c t h0 h1]
  unfold out0_A_5
  frame_out
  refine ended_cov m c t ok _ _ _ _ (fun r l => ?_) _ y0 y1
  refine (congrFun (View.read_writes_full (s := S1024x256) _ _ inb_S1024x256_S1024x256_0_0 _ _) (ix2 r l)).trans ?_
  refine (pay4_at _ _ r l).trans ?_
  have hi : (pi t).val = 0 := h0
  rw [hi]
  have e1 := fun x => diag m c t ok (k0_off1_inb _) (k0_off2_inb _) (k0_off3_inb _) r x
  have e2 : vw (View.ld (iblk m c 2 t) (Rect.unit (s := S8192x128) ![0, 0] S512x128.size inb_S8192x128_S512x128_0_0)) l = wk (ah m c) (pb t) (ph t) (pi t) l 0 :=
    funext fun x => vw_blk m c t 0 _ _ (by rw [hi]) l x
  exact congrArg₂ (fun a b => astep ⊥ 0 a b) (funext e1) e2

/-- A point on a later block of queries. -/
theorem ptB (h0 : ¬ t.val % 16 = 0) (h1 : 1 ≤ t.val % 16) (y0 : Fin 512) (y1 : Fin 128) :
    outsAt0 m c t.val t.isLt (ix2 y0 y1) = ctx (ah m c) (ac m c) (ix4 (pb t) ⟨512 * (pi t).val + y0.val, by omega⟩ (lh (ph t) y1) (ld y1)) := by
  have hc : (grid0.coords t 2).val = (pi t).val := coord2 t
  have h2 : k0_cond2 (grid0.coords t) = 1#1 := (hcond0_1 t).mpr h1
  rw [outsAt0_B m c t h0 h1]
  unfold out0_B_5
  frame_out
  refine ended_cov m c t ok _ _ _ _ (fun r l => ?_) _ y0 y1
  rw [View.writes_append, View.writes_append, nil2 _ _ _ _ _ _ _ _ _ _ _ _ _ _ _ _ _ _ _ _ _ _ _ _ _ _ _ _ _ _ _ _ _ _ _ _ (trips2 (grid0.coords t)), View.writes_nil]
  refine ((loop_inv Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) _ _ _ h2 _ _ _ _ _ _ _ (lk (ah m c) (ac m c) (pb t) (ph t) (pi t)) (wk (ah m c) (pb t) (ph t) (pi t))
    (fun r l => ?_) (fun r l => ?_) (fun r x => ?_) (fun k hk r x => ?_) (fun k l x => ?_) _ le_rfl).2.1 r l).trans ?_
  · refine (congrFun (View.read_writes_full (s := S1024x128) _ _ inb_S1024x128_S1024x128_0_0 _ _) (ix2 r l)).trans ?_
    refine (pay8_at _ r l).trans ?_
    exact congrArg (mstep ⊥) (funext fun x => diag m c t ok (k0_off1_inb _) (k0_off2_inb _) (k0_off3_inb _) r x)
  · refine (congrFun (View.read_writes_full (s := S1024x256) _ _ inb_S1024x256_S1024x256_0_0 _ _) (ix2 r l)).trans ?_
    refine (pay7_at _ _ r l).trans ?_
    have e1 := fun x => diag m c t ok (k0_off1_inb _) (k0_off2_inb _) (k0_off3_inb _) r x
    have e2 := funext fun x => vw_blk m c t 0 (k0_off7 (grid0.coords t)) (k0_off7_inb _ h2) (by rw [off7, hc]; rfl) l x
    exact congrArg₂ (fun a b => astep ⊥ 0 a b) (funext e1) e2
  · refine (congrFun (View.read_writes_full (s := S1024x512) _ _ inb_S1024x512_S1024x512_0_0 _ _) (ix2 r x)).trans ?_
    refine (pay20_at _ _ _ _ _ r x).trans ?_
    refine (sc_blk m c t ok 1 _ _ _ (k0_off4_inb _ h2) (k0_off5_inb _ h2) (k0_off6_inb _ h2) (by rw [off4 _ h2, hc]) (by rw [off5 _ h2, hc]) (by rw [off6 _ h2, hc]) r x).trans ?_
    exact lk_off (ah m c) (ac m c) (pb t) (ph t) (pi t) r 1 le_rfl h1 x
  · refine (pay16_at _ _ _ _ _ r x).trans ?_
    rw [View.readAt_eq_ld, View.readAt_eq_ld, View.readAt_eq_ld, Memref.IsWhole.read_unread, Memref.IsWhole.read_unread]
    refine (sc_blk m c t ok (k.val + 2) _ _ _ (k0_off8_inb _ k h2) (k0_off9_inb _ k h2) (k0_off10_inb _ k h2) (by rw [off8, hc]) (by rw [off9, hc]) (by rw [off10, hc]) r x).trans ?_
    exact lk_off (ah m c) (ac m c) (pb t) (ph t) (pi t) r (k.val + 2) (by omega) (by rw [← hc]; exact hk) x
  · unfold val
    rw [pay17_eq, View.readAt_eq_ld, Memref.IsWhole.read_unread]
    exact vw_blk m c t (k.val + 1) _ (k0_off11_inb _ k h2) (by rw [off11, hc]) l x
  · rw [trips1, hc]

omit ok in
/-- The reference's result at the kernel's arguments. -/
def goal : FVec Ideal S16384x512 .bf16 := ref (ah m c) (ac m c)

/-- The result array after the run. -/
theorem final : (dats m 0 c).arrAt 5 (cfgs 0).N = goal m c := by
  refine (dats m 0 c).arrAt_eq_of_covers 5 _ (by decide +kernel) fun t _ y => ?_
  blk_simp
  rw [after0_5]
  have hp : outsAt0 m c t.val t.isLt y = goal m c (((cfg0.win 5).blk t).view.emb y) := by
    idx_vars y
    have e : outsAt0 m c t.val t.isLt (ix2 y0 y1) = ctx (ah m c) (ac m c) (ix4 (pb t) ⟨512 * (pi t).val + y0.val, by omega⟩ (lh (ph t) y1) (ld y1)) := by
      by_cases h0 : t.val % 16 = 0
      · exact ptA m c t ok h0 (by omega) y0 y1
      · exact ptB m c t ok h0 (by omega) y0 y1
    rw [e]
    have hw : ((cfg0.win 5).blk t).view.emb (ix2 y0 y1) = ix2 (⟨(t.val / 64 * 16 + t.val % 16) * 512 + y0.val, by have := lt t; omega⟩ : Fin 16384) (⟨t.val / 16 % 4 * 128 + y1.val, by omega⟩ : Fin 512) := by
      blk_ext [idx t]
    rw [hw]
    unfold goal
    rw [ref_at]
    have := lt t
    congr 1
    refine congr (congr (congr (congrArg ix4 (Fin.ext ?_)) (Fin.ext ?_)) (Fin.ext ?_)) (Fin.ext ?_) <;> simp only [pb, ph, pi, lh, ld] <;> omega
  exact hp

end Cert.Proof.Fox
-- ==== Proof.FoxClaim.lean ====
/-
  The claims of the decayed attention: both programs run, end with equal results where the queries, the keys and the
  decays are finite numbers, and leave their arguments as they were.
-/
module

public import proofs.«01_k».proof.Defs
public import proofs.«01_k».proof.Proof.Fox
public import proofs.«01_k».proof.Proof.Gen.Kernel11
public import proofs.«01_k».proof.Proof.Gen.Kernel11.Frame
public import proofs.«01_k».proof.Proof.Gen.Reference11Ideal.Run
public import proofs.«01_k».proof.Pre_finite
public import Idealize.ShloMosaic.Lib.Quiescent

@[expose] public section

set_option maxRecDepth 16384

noncomputable section

namespace Cert.Proof.Fox

open Idealize.ShloMosaic Idealize.ShloMosaic.TcCoe Idealize.SL.Sem

/-- A number whose magnitude is below infinity is a real number. -/
theorem real_of (x : Ideal .f32) (h : Ideal.cmp .olt (FloatOps.absf x) (Ideal.ofBits .f32 0x7F800000#32) = 1#1) : ∃ a : ℝ, x = (a : EReal) := by
  change Ideal.cmp .olt (max (x : EReal) (-(x : EReal))) _ = _ at h
  rw [show Ideal.ofBits .f32 0x7F800000#32 = ⊤ by simp [Ideal.ofBits, Ideal.ieee]] at h
  induction x using EReal.rec with
  | bot => simp [Ideal.cmp] at h
  | top => simp [Ideal.cmp] at h
  | coe a => exact ⟨a, rfl⟩

/-- The shapes of the precondition fit together. -/
instance preFacts : Cert.Pre_finite.Facts where
  slices_S2x8192x3072_S2x8192x1024_0_0_1536 := by decide
  transposes_S2x8x8192_S2x8192x8_0_2_1 := by decide
  concatenates_S2x8192x1024_S2x8192x8_S2x8192x1032_d2 := by decide
  bcast_S_S2x8192x1032 := by decide

section Pre

variable (h : FVec Ideal Cert.Pre_finite.S2x8192x3072 .f32) (cum : FVec Ideal Cert.Pre_finite.S2x8x8192 .f32)
  (e : Cert.Pre_finite.fn (F := Ideal) h cum = fun _ => 1#1)
include e

theorem pre_h (b : Fin 2) (p : Fin 8192) (k : Fin 1024) : ∃ a : ℝ, h (ix3 b p (⟨1536 + k.val, by have := k.isLt; omega⟩ : Fin 3072)) = a := by
  refine real_of _ (Eq.trans ?_ (congrFun e (ix3 b p (⟨k.val, by have := k.isLt; omega⟩ : Fin 1032))))
  have hk : (k : ℕ) < 1024 := k.isLt
  pointwise [Cert.Pre_finite.fn]

theorem pre_c (b : Fin 2) (n : Fin 8) (p : Fin 8192) : ∃ a : ℝ, cum (ix3 b n p) = a := by
  refine real_of _ (Eq.trans ?_ (congrFun e (ix3 b p (⟨1024 + n.val, by have := n.isLt; omega⟩ : Fin 1032))))
  pointwise [Cert.Pre_finite.fn]

/-- The precondition says what the comparison needs. -/
theorem ok_of : Ok h cum where
  q b p n d := by
    rw [qh_at]
    exact pre_h h cum e b p ⟨n.val * 64 + d.val, by omega⟩
  k b p n d := by
    rw [kh_at]
    obtain ⟨a, ha⟩ := pre_h h cum e b p ⟨512 + (n.val * 64 + d.val), by omega⟩
    refine ⟨a, Eq.trans (congrArg (fun z => h (ix3 b p z)) (Fin.ext ?_)) ha⟩
    dsimp only; omega
  c b n p := pre_c h cum e b n p

end Pre

/-- The kernel as printed runs and leaves its arguments. -/
theorem frameBits : Cert.quiescent_Kernel11 (hKernel11 := Cert.Kernel11.Gen.facts) := fun m ρ _ => Cert.Kernel11.Gen.frame m ρ

/-- The kernel over the extended reals runs and leaves its arguments. -/
theorem frameIdeal : Cert.quiescent_Kernel11Ideal (hKernel11Ideal := Cert.Kernel11Ideal.Gen.facts) := fun m ρ _ => Cert.Kernel11Ideal.Gen.frame m ρ
theorem frameIdealPre : Cert.quiescent_Kernel11Ideal_pre_finite (hKernel11Ideal := Cert.Kernel11Ideal.Gen.facts) (hPre_finite := preFacts) :=
  fun m ρ _ => Cert.Kernel11Ideal.Gen.frame m ρ

/-- The reference runs and leaves its arguments. -/
theorem frameRef : Cert.quiescent_Reference11Ideal (hReference11Ideal := Cert.Reference11Ideal.Gen.facts) := fun m ρ _ =>
  (θ_run _ _ _).mono (fun r h => ⟨fun c => (h c).2, Idealize.ShloMosaic.sem_eq_zero_of_no_sems (by decide) r.2⟩)
    (Cert.Reference11Ideal.Value.run (F := Ideal) m ρ)
theorem frameRefPre : Cert.quiescent_Reference11Ideal_pre_finite (hReference11Ideal := Cert.Reference11Ideal.Gen.facts) (hPre_finite := preFacts) :=
  fun m ρ _ =>
  (θ_run _ _ _).mono (fun r h => ⟨fun c => (h c).2, Idealize.ShloMosaic.sem_eq_zero_of_no_sems (by decide) r.2⟩)
    (Cert.Reference11Ideal.Value.run (F := Ideal) m ρ)

/-- The named constants stand at their bits. -/
theorem preserves : Cert.preserves_Kernel11_Kernel11Ideal :=
  ⟨IdealRules.named_const.statement Cert.Kernel11Ideal.κ "scale" .f32 0x3E38AA3B#32 (((1 / 8) * (Real.log 2)⁻¹ : ℝ) : EReal) rfl,
    IdealRules.named_const.statement Cert.Kernel11Ideal.κ "log2e" .f32 0x3FB8AA3B#32 (((Real.log 2)⁻¹ : ℝ) : EReal) rfl,
    IdealRules.named_const.statement Cert.Kernel11Ideal.κ "mask" .f32 0xF149F2CA#32 ⊥ rfl⟩

/-- The kernel's run, with its result at the reference's value. -/
theorem kernelRun (m : (ℓ : Loc Cert.Kernel11Ideal.nD Cert.Kernel11Ideal.τ Cert.Kernel11Ideal.sig) → Buf (Elt Ideal) ℓ) (ρ : Dev Cert.Kernel11Ideal.nD → PrngReg)
    (ok : ∀ c, Ok (ah m c) (ac m c)) :
    θ_run (Cert.Kernel11Ideal.defs (F := Ideal)) (onTc (τ := Cert.Kernel11Ideal.τ) (Cert.Kernel11Ideal.main (F := Ideal))) ⟨m, fun _ => 0, ρ⟩ (fun r => ∀ c : Dev Cert.Kernel11Ideal.nD,
      r.2.mem ((c.tc : Thread Cert.Kernel11Ideal.nD Cert.Kernel11Ideal.τ).loc Cert.Kernel11Ideal.main_v3) = goal m c
      ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)) :=
  (θ_run _ _ _).mono (fun r h c => ⟨((h.1 c).1 5).trans (final m c (ok c)), h.2 c⟩)
    (θ_run_and (Cert.Kernel11Ideal.Gen.run_main m ρ) (Cert.Kernel11Ideal.Gen.unchanged m ρ))

/-- Equal results. -/
theorem value : Cert.algebraic_Kernel11Ideal_Reference11Ideal_pre_finite (hKernel11Ideal := Cert.Kernel11Ideal.Gen.facts)
    (hReference11Ideal := Cert.Reference11Ideal.Gen.facts) (hPre_finite := preFacts) := by
  intro m ρ m' ρ' pre hag
  refine ⟨fun c => goal m c, kernelRun m ρ fun c => ok_of _ _ (pre c),
    (θ_run _ _ _).mono (fun r h c => ⟨(h c).1.trans ?_, (h c).2⟩) (Cert.Reference11Ideal.Value.run (F := Ideal) m' ρ')⟩
  obtain ⟨h0, h1⟩ := hag c
  show ref (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) = _
  rw [h0, h1]
  rfl

end Cert.Proof.Fox

end
-- ==== Proof.RopeRef.lean ====
/-
  The second layer's rotated keys: the reference's two results as named tensors, and their values at a place.
-/
module

public import proofs.«01_k».proof.Proof.Gen.Reference12Ideal
public import Idealize.ShloMosaic.PureOps.Ideal
public import Idealize.ShloMosaic.Lib.Pipeline.ValueKit
@[expose] public section

set_option maxRecDepth 16384

noncomputable section

namespace Cert.Proof.Rope

open Idealize.ShloMosaic Idealize.ShloMosaic.TcCoe Idealize.SL.Sem
open Idealize.ShloMosaic.Pipeline (Dat)
open Cert.Reference12Ideal Cert.Reference12Ideal.Gen

/-- The turns of the latent's 32 pairs and of the index's 8 pairs. -/
def turn32 (pos : IVec S2x8192 32) : FVec Ideal S2x8192x32 .f32 :=
  mulf (broadcastInDim S2x8192x32 ![0, 1, 2] bcast_S2x8192x1_S2x8192x32_0_1_2 (broadcastInDim S2x8192x1 ![0, 1] bcast_S2x8192_S2x8192x1_0_1 (sitofp .f32 pos)))
    (broadcastInDim S2x8192x32 ![0, 1, 2] bcast_S1x1x32_S2x8192x32_0_1_2 (broadcastInDim S1x1x32 ![2] bcast_S32_S1x1x32_2
      (Host.powf (broadcastInDim S32 ![] bcast_S_S32 (constant S_ .f32 0x48F42400#32))
        (Host.divf (Host.negf (sitofp .f32 (iotaInDim S32 32 0))) (broadcastInDim S32 ![] bcast_S_S32 (constant S_ .f32 0x42000000#32))))))
def turn8 (pos : IVec S2x8192 32) : FVec Ideal S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 pos)))
    (broadcastInDim S2x8192x8 ![0, 1, 2] bcast_S1x1x8_S2x8192x8_0_1_2 (broadcastInDim S1x1x8 ![2] bcast_S8_S1x1x8_2
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- The latent keys and the index keys, as the projection leaves them. -/
def lat (hr : FVec Ideal S16384x1408 .f32) : FVec Ideal S2x8192x256 .f32 :=
  extractStridedSlice S2x8192x256 ![0, 0, 1024] (shapeCast _ hr shapeCasts_S16384x1408_S2x8192x1408) slices_S2x8192x1408_S2x8192x256_0_0_1024
def ind (hr : FVec Ideal S16384x1408 .f32) : FVec Ideal S2x8192x64 .f32 :=
  extractStridedSlice S2x8192x64 ![0, 0, 1280] (shapeCast _ hr shapeCasts_S16384x1408_S2x8192x1408) slices_S2x8192x1408_S2x8192x64_0_0_1280

/-- The latent keys turned. -/
def latTurned (hr : FVec Ideal S16384x1408 .f32) (pos : IVec S2x8192 32) : FVec Ideal S2x8192x256 .f32 :=
  concatenate S2x8192x256 2 [⟨S2x8192x32, (subf (mulf (extractStridedSlice S2x8192x32 ![0, 0, 0] (lat hr) slices_S2x8192x256_S2x8192x32_0_0_0) (Host.cos (turn32 pos)))
      (mulf (extractStridedSlice S2x8192x32 ![0, 0, 32] (lat hr) slices_S2x8192x256_S2x8192x32_0_0_32) (Host.sin (turn32 pos))) : FVec Ideal S2x8192x32 .f32)⟩,
    ⟨S2x8192x32, (addf (mulf (extractStridedSlice S2x8192x32 ![0, 0, 32] (lat hr) slices_S2x8192x256_S2x8192x32_0_0_32) (Host.cos (turn32 pos)))
      (mulf (extractStridedSlice S2x8192x32 ![0, 0, 0] (lat hr) slices_S2x8192x256_S2x8192x32_0_0_0) (Host.sin (turn32 pos))) : FVec Ideal S2x8192x32 .f32)⟩,
    ⟨S2x8192x192, (extractStridedSlice S2x8192x192 ![0, 0, 64] (lat hr) slices_S2x8192x256_S2x8192x192_0_0_64 : FVec Ideal S2x8192x192 .f32)⟩]
    concatenates_S2x8192x32_S2x8192x32_S2x8192x192_S2x8192x256_d2

/-- The index keys turned. -/
def indTurned (hr : FVec Ideal S16384x1408 .f32) (pos : IVec S2x8192 32) : FVec Ideal S2x8192x64 .f32 :=
  concatenate S2x8192x64 2 [⟨S2x8192x8, (subf (mulf (extractStridedSlice S2x8192x8 ![0, 0, 0] (ind hr) slices_S2x8192x64_S2x8192x8_0_0_0) (Host.cos (turn8 pos)))
      (mulf (extractStridedSlice S2x8192x8 ![0, 0, 8] (ind hr) slices_S2x8192x64_S2x8192x8_0_0_8) (Host.sin (turn8 pos))) : FVec Ideal S2x8192x8 .f32)⟩,
    ⟨S2x8192x8, (addf (mulf (extractStridedSlice S2x8192x8 ![0, 0, 8] (ind hr) slices_S2x8192x64_S2x8192x8_0_0_8) (Host.cos (turn8 pos)))
      (mulf (extractStridedSlice S2x8192x8 ![0, 0, 0] (ind hr) slices_S2x8192x64_S2x8192x8_0_0_0) (Host.sin (turn8 pos))) : FVec Ideal S2x8192x8 .f32)⟩,
    ⟨S2x8192x48, (extractStridedSlice S2x8192x48 ![0, 0, 16] (ind hr) slices_S2x8192x64_S2x8192x48_0_0_16 : FVec Ideal S2x8192x48 .f32)⟩]
    concatenates_S2x8192x8_S2x8192x8_S2x8192x48_S2x8192x64_d2

/-- The reference's results. -/
def refLat (hr : FVec Ideal S16384x1408 .f32) (pos : IVec S2x8192 32) : FVec Ideal S16384x256 .bf16 :=
  truncf .bf16 (shapeCast S16384x256 (latTurned hr pos) shapeCasts_S2x8192x256_S16384x256) bitsLt_bf16_f32
def refInd (hr : FVec Ideal S16384x1408 .f32) (pos : IVec S2x8192 32) : FVec Ideal S16384x128 .bf16 :=
  truncf .bf16 (shapeCast S16384x128 (concatenate S2x8192x128 2 [⟨S2x8192x64, (indTurned hr pos : FVec Ideal S2x8192x64 .f32)⟩, ⟨S2x8192x64, (indTurned hr pos : FVec Ideal S2x8192x64 .f32)⟩]
    concatenates_S2x8192x64_S2x8192x64_S2x8192x128_d2) shapeCasts_S2x8192x128_S16384x128) bitsLt_bf16_f32

section At

variable (hr : FVec Ideal S16384x1408 .f32) (pos : IVec S2x8192 32) (p : Fin 2) (q : Fin 8192)

/-- One column of a row of the projection. -/
def col (d : Fin 1408) : EReal := hr (ix2 ⟨p.val * 8192 + q.val, by omega⟩ d)

theorem lat_at (d : Fin 256) : lat hr (ix3 p q d) = col hr p q ⟨1024 + d.val, by omega⟩ := by pointwise [lat, col]
theorem ind_at (d : Fin 64) : ind hr (ix3 p q d) = col hr p q ⟨1280 + d.val, by omega⟩ := by pointwise [ind, col]

/-- One turned latent key. -/
theorem latTurned_at (d : Fin 256) : latTurned hr pos (ix3 p q d)
    = if h : d.val < 32 then lat hr (ix3 p q d) * Ideal.cos (turn32 pos (ix3 p q ⟨d.val, h⟩)) - lat hr (ix3 p q ⟨32 + d.val, by omega⟩) * Ideal.sin (turn32 pos (ix3 p q ⟨d.val, h⟩))
      else if h : d.val - 32 < 32 then lat hr (ix3 p q ⟨32 + (d.val - 32), by omega⟩) * Ideal.cos (turn32 pos (ix3 p q ⟨d.val - 32, h⟩))
          + lat hr (ix3 p q ⟨d.val - 32, by omega⟩) * Ideal.sin (turn32 pos (ix3 p q ⟨d.val - 32, h⟩))
      else lat hr (ix3 p q ⟨64 + (d.val - 32 - 32), by omega⟩) := by
  pointwise [latTurned]
theorem indTurned_at (d : Fin 64) : indTurned hr pos (ix3 p q d)
    = if h : d.val < 8 then ind hr (ix3 p q d) * Ideal.cos (turn8 pos (ix3 p q ⟨d.val, h⟩)) - ind hr (ix3 p q ⟨8 + d.val, by omega⟩) * Ideal.sin (turn8 pos (ix3 p q ⟨d.val, h⟩))
      else if h : d.val - 8 < 8 then ind hr (ix3 p q ⟨8 + (d.val - 8), by omega⟩) * Ideal.cos (turn8 pos (ix3 p q ⟨d.val - 8, h⟩))
          + ind hr (ix3 p q ⟨d.val - 8, by omega⟩) * Ideal.sin (turn8 pos (ix3 p q ⟨d.val - 8, h⟩))
      else ind hr (ix3 p q ⟨16 + (d.val - 8 - 8), by omega⟩) := by
  pointwise [indTurned]

theorem refLat_at (r : Fin 16384) (d : Fin 256) : refLat hr pos (ix2 r d) = latTurned hr pos (ix3 ⟨r.val / 8192, by omega⟩ ⟨r.val % 8192, by omega⟩ d) := by pointwise [refLat]
theorem refInd_at (r : Fin 16384) (d : Fin 128) : refInd hr pos (ix2 r d) = indTurned hr pos (ix3 ⟨r.val / 8192, by omega⟩ ⟨r.val % 8192, by omega⟩ ⟨d.val % 64, by omega⟩) := by
  pointwise [refInd]
  split
  · exact congrArg (fun e => indTurned hr pos (ix3 _ _ e)) (Fin.ext (Nat.mod_eq_of_lt ‹_›).symm)
  · exact congrArg (fun e => indTurned hr pos (ix3 _ _ e)) (Fin.ext (by show d.val - 64 = d.val % 64; omega))

end At

end Cert.Proof.Rope
-- ==== Proof.RopeBody.lean ====
/-
  The second layer's rotated keys: what the kernel's body computes at a place.
-/
module

public import proofs.«01_k».proof.Proof.RopeRef
public import proofs.«01_k».proof.Proof.Gen.Kernel12Ideal
public import proofs.«01_k».proof.Proof.Gen.Kernel12Ideal.Frame
public import Idealize.ShloMosaic.Lib.WordCmp
@[expose] public section

set_option maxRecDepth 16384

noncomputable section

namespace Cert.Proof.Rope

open Idealize.ShloMosaic Idealize.ShloMosaic.TcCoe Idealize.SL.Sem
open Idealize.ShloMosaic.Pipeline (Dat)
open Cert.Kernel12Ideal Cert.Kernel12Ideal.Gen

theorem pick {α : Type} (c : Prop) [Decidable c] (a b : α) : Scalar.select (if c then 1#1 else 0#1 : BitVec 1) a b = if c then a else b := by
  by_cases h : c
  · rw [if_pos h, if_pos h]; simp [Scalar.select]
  · rw [if_neg h, if_neg h]; simp [Scalar.select]

theorem lt32 : ∀ j : Fin 128, IntOp.cmpi .slt (BitVec.ofNat 32 j.val) 32#32 = if j.val < 32 then 1#1 else 0#1 := by decide +kernel
theorem lt64 : ∀ j : Fin 128, IntOp.cmpi .slt (BitVec.ofNat 32 j.val) 64#32 = if j.val < 64 then 1#1 else 0#1 := by decide +kernel
theorem lt8 : ∀ j : Fin 128, IntOp.cmpi .slt (IntOp.andi (BitVec.ofNat 32 j.val) 63#32) 8#32 = if j.val % 64 < 8 then 1#1 else 0#1 := by decide +kernel

section Body

variable (x c s : Vec Ideal S512x128 .f32) (i : Fin 512) (j : Fin 128)

/-- A lane turned with its partner: 32 lanes on in the first 32 lanes, 32 lanes back after them. -/
def far (j : Fin 128) : EReal := if j.val < 32 then x (ix2 i ⟨(j.val + 128 - 96) % 128, by omega⟩) else x (ix2 i ⟨(j.val + 128 - 32) % 128, by omega⟩)
/-- The same over eight lanes, in each half of the lanes. -/
def near (j : Fin 128) : EReal := if j.val % 64 < 8 then x (ix2 i ⟨(j.val + 128 - 120) % 128, by omega⟩) else x (ix2 i ⟨(j.val + 128 - 8) % 128, by omega⟩)

theorem pay2_at : k0_pay2 x c s (ix2 i j) = x (ix2 i j) * c (ix2 i j) + far x i j * s (ix2 i j) := by
  unfold far
  rw [← pick, ← lt32]
  pointwise [k0_pay2]

theorem pay1_at : k0_pay1 (iota .tc S1x128 32 [1] iota_S1x128_d1_w32) x (k0_pay4 c) (k0_pay5 s) k0_pay6 (k0_pay7 x) (k0_pay8 x) (ix2 i j)
    = if j.val < 64 then x (ix2 i j) * c (ix2 i j) + near x i j * s (ix2 i j)
      else x (ix2 i ⟨(j.val + 128 - 64) % 128, by omega⟩) * c (ix2 i ⟨(j.val + 128 - 64) % 128, by omega⟩) + near x i ⟨(j.val + 128 - 64) % 128, by omega⟩ * s (ix2 i ⟨(j.val + 128 - 64) % 128, by omega⟩) := by
  unfold near
  pointwise [k0_pay1, k0_pay4, k0_pay5, k0_pay6, k0_pay7, k0_pay8]
  have e := lt8 ⟨(j.val + 128 - 64) % 128, by omega⟩
  dsimp only at e
  simp only [lt64, lt8, e, pick]

end Body

end Cert.Proof.Rope
-- ==== Proof.GateMath.lean ====
/-
  The forget gate: the kernel's logarithm of the logistic, its three-way split products, and its sums of rows before a row.
-/
module

public import proofs.«01_k».proof.Proof.SbCum
@[expose] public section

set_option maxRecDepth 16384

noncomputable section

namespace Cert.Proof.Gate

open Idealize.ShloMosaic Idealize.ShloMosaic.TcCoe Idealize.SL.Sem
open Idealize.ShloMosaic.Pipeline (Dat)
open Cert.Proof.Sb (soft lsig soft_bot soft_top soft_coe soft_nonneg max_coe ext foldl_add)

theorem soft_ne_bot (z : EReal) : soft z ≠ ⊥ := fun h => by have := soft_nonneg z; rw [h] at this; simp at this

/-- The logarithm of the logistic is never positive. -/
theorem lsig_le (z : EReal) : lsig z ≤ 0 := by
  unfold lsig
  exact EReal.neg_le.1 (by rw [neg_zero]; exact soft_nonneg _)

/-- The kernel's form of it. -/
theorem lsig_min (z : EReal) : min z 0 - Ideal.log (1 + Ideal.exp (0 - max z (-z))) = lsig z := by
  have h10 : ¬ ((1 : ℝ) ≤ 0) := by norm_num
  induction z using EReal.rec with
  | bot => simp [lsig, soft_top, ← EReal.coe_one, h10]
  | top => simp [lsig, soft_bot, ← EReal.coe_one, h10]
  | coe r =>
    have hp := Real.exp_pos (-|r|)
    unfold lsig
    rw [← EReal.coe_neg, soft_coe, max_coe, zero_sub, ← EReal.coe_neg, Ideal.exp_coe, ← EReal.coe_one, ← EReal.coe_add, Ideal.log_coe, if_neg, ← EReal.coe_zero,
      ← (Monotone.map_min (f := ((↑) : ℝ → EReal)) (fun _ _ h => EReal.coe_le_coe_iff.2 h)), ← EReal.coe_sub, ← EReal.coe_neg, abs_neg]
    · congr 1
      show min r 0 - Real.log (1 + Real.exp (-|r|)) = _
      rcases le_total 0 r with h | h
      · rw [min_eq_right h, max_eq_right (by linarith)]; ring
      · rw [min_eq_left h, max_eq_left (by linarith)]; ring
    · show ¬ (1 + Real.exp (-|r|) ≤ 0)
      linarith

/-- The three parts of a split add up to what was split. -/
theorem parts (a : EReal) (h : a ≤ 0) : a + (a - a) + ((a - a) - (a - a)) = a := by
  induction a using EReal.rec with
  | bot => simp
  | top => exact absurd h (by simp)
  | coe r => rw [← EReal.coe_sub, sub_self]; simp

/-- The three products of a split with a matrix of noughts and ones sum what the ones choose. -/
theorem split_sum {n : ℕ} (a : Fin n → EReal) (p : Fin n → Prop) [DecidablePred p] (h : ∀ k, a k ≤ 0) :
    (∑ k, a k * (if p k then (1 : EReal) else 0)) + (∑ k, (a k - a k) * (if p k then (1 : EReal) else 0))
      + (∑ k, ((a k - a k) - (a k - a k)) * (if p k then (1 : EReal) else 0)) = ∑ k, if p k then a k else 0 := by
  rw [← Finset.sum_add_distrib, ← Finset.sum_add_distrib]
  refine Finset.sum_congr rfl fun k _ => ?_
  by_cases hp : p k
  · simp only [if_pos hp, mul_one]; exact parts _ (h k)
  · simp only [if_neg hp, mul_zero, add_zero]

theorem split_sum' {n : ℕ} (a : Fin n → EReal) (p : Fin n → Prop) [DecidablePred p] (h : ∀ k, a k ≤ 0) :
    (∑ k, (if p k then (1 : EReal) else 0) * a k) + (∑ k, (if p k then (1 : EReal) else 0) * (a k - a k))
      + (∑ k, (if p k then (1 : EReal) else 0) * ((a k - a k) - (a k - a k))) = ∑ k, if p k then a k else 0 := by
  rw [← split_sum a p h]
  simp only [mul_comm]

/-- Sums of whole rows of 128. -/
theorem sum_rows (L : ℕ → EReal) (r : ℕ) : ∑ k ∈ Finset.range r, ∑ l : Fin 128, L (k * 128 + l.val) = ∑ s ∈ Finset.range (r * 128), L s := by
  induction r with
  | zero => simp
  | succ r ih => rw [Finset.sum_range_succ, ih, Nat.succ_mul, Finset.sum_range_add, Finset.sum_range (fun x => L (r * 128 + x))]

/-- The kernel's running sum: a row up to a lane, and the rows of the same sequence before it. -/
theorem running (L : ℕ → EReal) (i : Fin 1024) (j : Fin 128) :
    (∑ k : Fin 128, if k.val ≤ j.val then L (i.val % 64 * 128 + k.val) else 0)
      + (∑ k : Fin 1024, if k.val / 64 = i.val / 64 ∧ k.val < i.val then ∑ l : Fin 128, L (k.val % 64 * 128 + l.val) else 0)
      = ∑ s ∈ Finset.range (i.val % 64 * 128 + j.val + 1), L s := by
  have hi : (i : ℕ) < 1024 := i.isLt
  have hj : (j : ℕ) < 128 := j.isLt
  have e1 : (∑ k : Fin 128, if k.val ≤ j.val then L (i.val % 64 * 128 + k.val) else 0) = ∑ k ∈ Finset.range (j.val + 1), L (i.val % 64 * 128 + k) := by
    rw [← Finset.sum_range (fun k => if k ≤ j.val then L (i.val % 64 * 128 + k) else 0), ← Finset.sum_filter]
    refine Finset.sum_congr (Finset.ext fun k => ?_) fun _ _ => rfl
    simp only [Finset.mem_filter, Finset.mem_range]; omega
  have e2 : (∑ k : Fin 1024, if k.val / 64 = i.val / 64 ∧ k.val < i.val then ∑ l : Fin 128, L (k.val % 64 * 128 + l.val) else 0)
      = ∑ k ∈ Finset.range (i.val % 64), ∑ l : Fin 128, L (k * 128 + l.val) := by
    rw [← Finset.sum_range (fun k => if k / 64 = i.val / 64 ∧ k < i.val then ∑ l : Fin 128, L (k % 64 * 128 + l.val) else 0), ← Finset.sum_filter]
    have es : (Finset.range 1024).filter (fun k => k / 64 = i.val / 64 ∧ k < i.val) = Finset.Ico (i.val / 64 * 64) i.val := by
      ext k; simp only [Finset.mem_filter, Finset.mem_range, Finset.mem_Ico]; omega
    rw [es, Finset.sum_Ico_eq_sum_range, show i.val - i.val / 64 * 64 = i.val % 64 by omega]
    refine Finset.sum_congr rfl fun k hk => ?_
    have := Finset.mem_range.1 hk
    rw [show (i.val / 64 * 64 + k) % 64 = k by omega]
  rw [e1, e2, sum_rows, add_comm, Nat.add_assoc, Finset.sum_range_add L (i.val % 64 * 128) (j.val + 1)]

/-- The places of a window along the middle of three axes. -/
def midAxis (n : ℕ) : Fin n ≃ (⟨3, ![1, n, 1]⟩ : Shape).Idx where
  toFun k := ix3 (0 : Fin 1) k (0 : Fin 1)
  invFun w := w 1
  left_inv k := rfl
  right_inv w := funext fun a => by
    match a with
    | ⟨0, _⟩ => exact Subsingleton.elim (α := Fin 1) _ _
    | ⟨1, _⟩ => rfl
    | ⟨2, _⟩ => exact Subsingleton.elim (α := Fin 1) _ _

/-- A sum over a window that ends at a key and starts before the row does. -/
theorem sum_back (n nm : ℕ) (hn : n = nm + 1) (F : ℕ → EReal) (j : ℕ) (hj : j < n) :
    (∑ k : Fin n, if nm ≤ j + k.val then F (j + k.val - nm) else 0) = ∑ s ∈ Finset.range (j + 1), F s := by
  rw [← Finset.sum_range (fun k => if nm ≤ j + k then F (j + k - nm) else 0), ← Finset.sum_filter]
  have es : (Finset.range n).filter (fun k => nm ≤ j + k) = Finset.Ico (nm - j) n := by
    ext k; simp only [Finset.mem_filter, Finset.mem_range, Finset.mem_Ico]; omega
  rw [es, Finset.sum_Ico_eq_sum_range, show n - (nm - j) = j + 1 by omega]
  exact Finset.sum_congr rfl fun k hk => by rw [show j + (nm - j + k) - nm = k by omega]

/-- The running sum along the middle of three axes. -/
theorem cum_mid {n0 n n2 nm : ℕ} (hn : n = nm + 1) (x : FVec Ideal ⟨3, ![n0, n, n2]⟩ .f32) (init : FVec Ideal ⟨0, ![]⟩ .f32)
    (h : (⟨3, ![n0, n, n2]⟩ : Shape).ReduceWindows (![1, n, 1] : Fin 3 → ℕ) ![1, 1, 1] ![0, nm, 0] ![0, 0, 0] ⟨3, ![n0, n, n2]⟩)
    (hu : 0 < (⟨0, ![]⟩ : Shape).numel) (hv : init (Shape.Idx.first hu) = 0) (a : Fin n0) (j : Fin n) (b : Fin n2) :
    Host.reduceWindowAdd (![1, n, 1] : Fin 3 → ℕ) ![1, 1, 1] ![0, nm, 0] ![0, 0, 0] x init h hu (ix3 a j b)
      = ∑ s ∈ Finset.range (j.val + 1), ext (fun s => x (ix3 a s b)) s := by
  have hj : (j : ℕ) < n := j.isLt
  rw [← sum_back n nm hn (ext fun s => x (ix3 a s b)) j.val hj]
  unfold Host.reduceWindowAdd
  rw [Ideal.hostReduceWindowAdd_def]
  unfold Ideal.hostReduceWindowAdd Host.reduceWindow
  dsimp only
  rw [hv]
  refine (foldl_add _ _ _).trans ?_
  rw [zero_add, ← Fin.sum_univ_def]
  refine Fintype.sum_equiv ((⟨3, ![1, n, 1]⟩ : Shape).rowMajor.symm.trans (midAxis n).symm) _ _ fun i => ?_
  rw [Equiv.trans_apply]
  obtain ⟨k, hw⟩ := (midAxis n).surjective ((⟨3, ![1, n, 1]⟩ : Shape).rowMajor.symm i)
  have hk' : (k : ℕ) < n := k.isLt
  have w0 : (((⟨3, ![1, n, 1]⟩ : Shape).rowMajor.symm i) 0).val = 0 := by rw [← hw]; rfl
  have w1 : (((⟨3, ![1, n, 1]⟩ : Shape).rowMajor.symm i) 1).val = k.val := by rw [← hw]; rfl
  have w2 : (((⟨3, ![1, n, 1]⟩ : Shape).rowMajor.symm i) 2).val = 0 := by rw [← hw]; rfl
  rw [show (midAxis n).symm ((⟨3, ![1, n, 1]⟩ : Shape).rowMajor.symm i) = k by rw [← hw, Equiv.symm_apply_apply]]
  unfold ext
  by_cases hk : nm ≤ j.val + k.val
  · rw [if_pos hk, dif_pos (show j.val + k.val - nm < n by omega)]
    split
    next =>
      congr 1
      funext d
      match d with
      | ⟨0, _⟩ => exact Fin.ext (show a.val * 1 + (((⟨3, ![1, n, 1]⟩ : Shape).rowMajor.symm i) 0).val - 0 = a.val by omega)
      | ⟨1, _⟩ => exact Fin.ext (show j.val * 1 + (((⟨3, ![1, n, 1]⟩ : Shape).rowMajor.symm i) 1).val - nm = j.val + k.val - nm by omega)
      | ⟨2, _⟩ => exact Fin.ext (show b.val * 1 + (((⟨3, ![1, n, 1]⟩ : Shape).rowMajor.symm i) 2).val - 0 = b.val by omega)
    next hin =>
      refine absurd (fun d => ?_) hin
      match d with
      | ⟨0, _⟩ => exact ⟨Nat.zero_le _, show a.val * 1 + (((⟨3, ![1, n, 1]⟩ : Shape).rowMajor.symm i) 0).val - 0 < n0 by have := a.isLt; omega⟩
      | ⟨1, _⟩ => exact ⟨show nm ≤ j.val * 1 + (((⟨3, ![1, n, 1]⟩ : Shape).rowMajor.symm i) 1).val by omega,
          show j.val * 1 + (((⟨3, ![1, n, 1]⟩ : Shape).rowMajor.symm i) 1).val - nm < n by omega⟩
      | ⟨2, _⟩ => exact ⟨Nat.zero_le _, show b.val * 1 + (((⟨3, ![1, n, 1]⟩ : Shape).rowMajor.symm i) 2).val - 0 < n2 by have := b.isLt; omega⟩
  · rw [if_neg hk]
    split
    next hin =>
      have h1 : nm ≤ j.val * 1 + (((⟨3, ![1, n, 1]⟩ : Shape).rowMajor.symm i) 1).val := (hin 1).1
      exact absurd (by omega) hk
    next => rfl

end Cert.Proof.Gate
-- ==== Proof.GateRef.lean ====
/-
  The forget gate: the reference's result as named tensors, and its value at a place.
-/
module

public import proofs.«01_k».proof.Proof.GateMath
public import proofs.«01_k».proof.Proof.Gen.Reference13Ideal
public import Idealize.ShloMosaic.Lib.WordCmp
@[expose] public section

set_option maxRecDepth 16384

noncomputable section

namespace Cert.Proof.Gate

open Idealize.ShloMosaic Idealize.ShloMosaic.TcCoe Idealize.SL.Sem
open Idealize.ShloMosaic.Pipeline (Dat)
open Cert.Proof.Sb (soft lsig ext)
open Cert.Reference13Ideal Cert.Reference13Ideal.Gen

/-- The gate's logits. -/
def logit (f : FVec Ideal S16384x128 .f32) (b : FVec Ideal S8 .f32) : FVec Ideal S2x8192x8 .f32 :=
  addf (shapeCast _ (extractStridedSlice S16384x8 ![0, 0] f slices_S16384x128_S16384x8_0_0) shapeCasts_S16384x8_S2x8192x8)
    (broadcastInDim S2x8192x8 ![0, 1, 2] bcast_S1x1x8_S2x8192x8_0_1_2 (broadcastInDim S1x1x8 ![2] bcast_S8_S1x1x8_2 b))

/-- Noughts. -/
def nil : FVec Ideal S2x8192x8 .f32 := broadcastInDim S2x8192x8 ![] bcast_S_S2x8192x8 (constant S_ .f32 0x00000000#32)

/-- The softplus of a tensor. -/
def softs (y : FVec Ideal S2x8192x8 .f32) : FVec Ideal S2x8192x8 .f32 :=
  select (cmpf .une (subf y nil) (subf y nil)) (addf y nil)
    (addf (maximumf y nil) (Host.log1p (Host.exp (Host.negf (Host.absf (subf y nil))))))

/-- The gate's logarithms. -/
def logs (f : FVec Ideal S16384x128 .f32) (b : FVec Ideal S8 .f32) : FVec Ideal S2x8192x8 .f32 := Host.negf (softs (Host.negf (logit f b)))

/-- Their running sums along the sequence. -/
def sums (f : FVec Ideal S16384x128 .f32) (b : FVec Ideal S8 .f32) : FVec Ideal S2x8192x8 .f32 :=
  Host.reduceWindowAdd ![1, 8192, 1] ![1, 1, 1] ![0, 8191, 0] ![0, 0, 0] (logs f b) (broadcastInDim S_ ![] bcast_S_S_ (constant S_ .f32 0x00000000#32))
    reduceWindows_S2x8192x8_S2x8192x8_w1s1p0_0_w8192s1p8191_0_w1s1p0_0 h_S_

/-- The reference's result. -/
def ref (f : FVec Ideal S16384x128 .f32) (b : FVec Ideal S8 .f32) : FVec Ideal S1024x128 .f32 :=
  shapeCast S1024x128 (transpose S2x8x8192 [0, 2, 1] (sums f b) transposes_S2x8192x8_S2x8x8192_0_2_1) shapeCasts_S2x8x8192_S1024x128

section At

variable (f : FVec Ideal S16384x128 .f32) (b : FVec Ideal S8 .f32) (p : Fin 2) (q : Fin 8192) (n : Fin 8)

theorem nil0 : Ideal.ofBits .f32 0x00000000#32 = 0 := by simp [Ideal.ofBits, Ideal.ieee]
theorem one1 : Ideal.ofBits .f32 0x3F800000#32 = 1 := by
  simp [Ideal.ofBits, Ideal.ieee, -EReal.coe_mul]; norm_num
theorem nil_at : nil (ix3 p q n) = 0 := nil0

/-- One logit. -/
def logitAt : EReal := f (ix2 ⟨p.val * 8192 + q.val, by omega⟩ ⟨n.val, by omega⟩) + b (ix1 n)

theorem logit_at : logit f b (ix3 p q n) = logitAt f b p q n := by pointwise [logit, logitAt]

theorem softs_at (y : FVec Ideal S2x8192x8 .f32) : softs y (ix3 p q n) = soft (y (ix3 p q n)) := by
  have e : softs y (ix3 p q n) = if y (ix3 p q n) ≠ y (ix3 p q n) then y (ix3 p q n)
      else max (y (ix3 p q n)) 0 + Ideal.log1p (Ideal.exp (-FloatOps.absf (y (ix3 p q n)))) := by
    pointwise [softs, nil_at]
  rw [e, if_neg (not_not.2 rfl)]
  rfl

theorem logs_at : logs f b (ix3 p q n) = lsig (logitAt f b p q n) := by
  show -(softs (Host.negf (logit f b)) (ix3 p q n)) = _
  rw [softs_at]
  show -(soft (-(logit f b (ix3 p q n)))) = _
  rw [logit_at]; rfl

theorem sums_at : sums f b (ix3 p q n) = ∑ s ∈ Finset.range (q.val + 1), ext (fun s => lsig (logitAt f b p s n)) s := by
  unfold sums
  refine (cum_mid (nm := 8191) rfl _ _ _ _ nil0 p q n).trans ?_
  simp only [logs_at]

/-- The reference's result at a place. -/
theorem ref_at (i : Fin 1024) (j : Fin 128) :
    ref f b (ix2 i j) = sums f b (ix3 ⟨i.val / 512, by omega⟩ ⟨i.val % 64 * 128 + j.val, by omega⟩ ⟨i.val / 64 % 8, by omega⟩) := by
  pointwise [ref]
  skip

end At

end Cert.Proof.Gate
-- ==== Proof.RopeTab.lean ====
/-
  The second layer's rotated keys: the tables of cosines and sines the host prepares, and the turned lanes they give.
-/
module

public import proofs.«01_k».proof.Proof.RopeBody
public import proofs.«01_k».proof.Proof.GateRef
public import proofs.«01_k».proof.Proof.Gen.Kernel12Ideal.Value
@[expose] public section

set_option maxRecDepth 16384

noncomputable section

namespace Cert.Proof.Rope

open Idealize.ShloMosaic Idealize.ShloMosaic.TcCoe Idealize.SL.Sem
open Idealize.ShloMosaic.Pipeline (Dat)
open Cert.Kernel12Ideal Cert.Kernel12Ideal.Gen
open Cert.Proof.Gate (one1 nil0)

/-- The turns, both batches in one run of rows. -/
def ang32 (pos : IVec S2x8192 32) : FVec Ideal S16384x32 .f32 :=
  mulf (broadcastInDim S16384x32 ![0, 1] bcast_S16384x1_S16384x32_0_1 (shapeCast S16384x1 (sitofp .f32 pos : FVec Ideal S2x8192 .f32) shapeCasts_S2x8192_S16384x1))
    (broadcastInDim S16384x32 ![0, 1] bcast_S1x32_S16384x32_0_1 (broadcastInDim S1x32 ![1] bcast_S32_S1x32_1
      (Host.powf (broadcastInDim S32 ![] bcast_S_S32 (constant S_ .f32 0x48F42400#32))
        (Host.divf (Host.negf (sitofp .f32 (iotaInDim S32 32 0))) (broadcastInDim S32 ![] bcast_S_S32 (constant S_ .f32 0x42000000#32))))))
def ang8 (pos : IVec S2x8192 32) : FVec Ideal S16384x8 .f32 :=
  mulf (broadcastInDim S16384x8 ![0, 1] bcast_S16384x1_S16384x8_0_1 (shapeCast S16384x1 (sitofp .f32 pos : FVec Ideal S2x8192 .f32) shapeCasts_S2x8192_S16384x1))
    (broadcastInDim S16384x8 ![0, 1] bcast_S1x8_S16384x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- The four tables. -/
def cos32 (pos : IVec S2x8192 32) : FVec Ideal S16384x128 .f32 :=
  concatenate S16384x128 1 [⟨S16384x32, (Host.cos (ang32 pos) : FVec Ideal S16384x32 .f32)⟩, ⟨S16384x32, (Host.cos (ang32 pos) : FVec Ideal S16384x32 .f32)⟩,
    ⟨S16384x64, (broadcastInDim S16384x64 ![] bcast_S_S16384x64 (constant S_ .f32 0x3F800000#32) : FVec Ideal S16384x64 .f32)⟩] concatenates_S16384x32_S16384x32_S16384x64_S16384x128_d1
def sin32 (pos : IVec S2x8192 32) : FVec Ideal S16384x128 .f32 :=
  concatenate S16384x128 1 [⟨S16384x32, (Host.negf (Host.sin (ang32 pos)) : FVec Ideal S16384x32 .f32)⟩, ⟨S16384x32, (Host.sin (ang32 pos) : FVec Ideal S16384x32 .f32)⟩,
    ⟨S16384x64, (broadcastInDim S16384x64 ![] bcast_S_S16384x64 (constant S_ .f32 0x00000000#32) : FVec Ideal S16384x64 .f32)⟩] concatenates_S16384x32_S16384x32_S16384x64_S16384x128_d1
def cos8 (pos : IVec S2x8192 32) : FVec Ideal S16384x64 .f32 :=
  concatenate S16384x64 1 [⟨S16384x8, (Host.cos (ang8 pos) : FVec Ideal S16384x8 .f32)⟩, ⟨S16384x8, (Host.cos (ang8 pos) : FVec Ideal S16384x8 .f32)⟩,
    ⟨S16384x48, (broadcastInDim S16384x48 ![] bcast_S_S16384x48 (constant S_ .f32 0x3F800000#32) : FVec Ideal S16384x48 .f32)⟩] concatenates_S16384x8_S16384x8_S16384x48_S16384x64_d1
def sin8 (pos : IVec S2x8192 32) : FVec Ideal S16384x64 .f32 :=
  concatenate S16384x64 1 [⟨S16384x8, (Host.negf (Host.sin (ang8 pos)) : FVec Ideal S16384x8 .f32)⟩, ⟨S16384x8, (Host.sin (ang8 pos) : FVec Ideal S16384x8 .f32)⟩,
    ⟨S16384x48, (broadcastInDim S16384x48 ![] bcast_S_S16384x48 (constant S_ .f32 0x00000000#32) : FVec Ideal S16384x48 .f32)⟩] concatenates_S16384x8_S16384x8_S16384x48_S16384x64_d1
def cos88 (pos : IVec S2x8192 32) : FVec Ideal S16384x128 .f32 :=
  concatenate S16384x128 1 [⟨S16384x64, cos8 pos⟩, ⟨S16384x64, cos8 pos⟩] concatenates_S16384x64_S16384x64_S16384x128_d1
def sin88 (pos : IVec S2x8192 32) : FVec Ideal S16384x128 .f32 :=
  concatenate S16384x128 1 [⟨S16384x64, sin8 pos⟩, ⟨S16384x64, sin8 pos⟩] concatenates_S16384x64_S16384x64_S16384x128_d1

section At

variable (pos : IVec S2x8192 32) (r : Fin 16384) (p : Fin 2) (q : Fin 8192) (hp : r.val / 8192 = p.val) (hq : r.val % 8192 = q.val)

include hp hq

theorem ang32_at (k : Fin 32) : ang32 pos (ix2 r k) = turn32 pos (ix3 p q k) := by
  rw [show p = ⟨r.val / 8192, by omega⟩ from Fin.ext hp.symm, show q = ⟨r.val % 8192, by omega⟩ from Fin.ext hq.symm]
  pointwise [ang32, turn32]
theorem ang8_at (k : Fin 8) : ang8 pos (ix2 r k) = turn8 pos (ix3 p q k) := by
  rw [show p = ⟨r.val / 8192, by omega⟩ from Fin.ext hp.symm, show q = ⟨r.val % 8192, by omega⟩ from Fin.ext hq.symm]
  pointwise [ang8, turn8]

theorem cos32_at (d : Fin 128) : cos32 pos (ix2 r d) = if h : d.val < 32 then Ideal.cos (turn32 pos (ix3 p q ⟨d.val, h⟩))
    else if h : d.val - 32 < 32 then Ideal.cos (turn32 pos (ix3 p q ⟨d.val - 32, h⟩)) else 1 := by
  simp only [← ang32_at pos r p q hp hq]
  pointwise [cos32, one1]
theorem sin32_at (d : Fin 128) : sin32 pos (ix2 r d) = if h : d.val < 32 then -Ideal.sin (turn32 pos (ix3 p q ⟨d.val, h⟩))
    else if h : d.val - 32 < 32 then Ideal.sin (turn32 pos (ix3 p q ⟨d.val - 32, h⟩)) else 0 := by
  simp only [← ang32_at pos r p q hp hq]
  pointwise [sin32, nil0]
theorem cos8_at (d : Fin 64) : cos8 pos (ix2 r d) = if h : d.val < 8 then Ideal.cos (turn8 pos (ix3 p q ⟨d.val, h⟩))
    else if h : d.val - 8 < 8 then Ideal.cos (turn8 pos (ix3 p q ⟨d.val - 8, h⟩)) else 1 := by
  simp only [← ang8_at pos r p q hp hq]
  pointwise [cos8, one1]
theorem sin8_at (d : Fin 64) : sin8 pos (ix2 r d) = if h : d.val < 8 then -Ideal.sin (turn8 pos (ix3 p q ⟨d.val, h⟩))
    else if h : d.val - 8 < 8 then Ideal.sin (turn8 pos (ix3 p q ⟨d.val - 8, h⟩)) else 0 := by
  simp only [← ang8_at pos r p q hp hq]
  pointwise [sin8, nil0]

omit hp hq in
theorem cos88_at (d : Fin 128) (h : d.val < 64) : cos88 pos (ix2 r d) = cos8 pos (ix2 r ⟨d.val, h⟩) := by
  pointwise [cos88]
  rw [dif_pos h]
omit hp hq in
theorem sin88_at (d : Fin 128) (h : d.val < 64) : sin88 pos (ix2 r d) = sin8 pos (ix2 r ⟨d.val, h⟩) := by
  pointwise [sin88]
  rw [dif_pos h]

/-- One lane of the latent's first half, turned. -/
theorem lane32 (hr : FVec Ideal S16384x1408 .f32) (x c s : Vec Ideal S512x128 .f32) (i : Fin 512) (d : Fin 128)
    (ex : ∀ k : Fin 128, x (ix2 i k) = lat hr (ix3 p q ⟨k.val, by omega⟩)) (ec : ∀ k : Fin 128, c (ix2 i k) = cos32 pos (ix2 r k))
    (es : ∀ k : Fin 128, s (ix2 i k) = sin32 pos (ix2 r k)) : k0_pay2 x c s (ix2 i d) = latTurned hr pos (ix3 p q ⟨d.val, by omega⟩) := by
  rw [pay2_at, latTurned_at, ec, es, cos32_at pos r p q hp hq, sin32_at pos r p q hp hq]
  unfold far
  simp only [ex]
  by_cases h1 : d.val < 32
  · have e : (d.val + 128 - 96) % 128 = 32 + d.val := by omega
    simp only [dif_pos h1, if_pos h1, e, mul_neg, ← sub_eq_add_neg]
  by_cases h2 : d.val - 32 < 32
  · have e : (d.val + 128 - 32) % 128 = d.val - 32 := by omega
    have e' : 32 + (d.val - 32) = d.val := by omega
    simp only [dif_neg h1, if_neg h1, dif_pos h2, e, e']
  · have e' : 64 + (d.val - 32 - 32) = d.val := by omega
    simp only [dif_neg h1, if_neg h1, dif_neg h2, e', mul_one, mul_zero, add_zero]

/-- One lane of the index key's first half, turned. -/
theorem lane8 (hr : FVec Ideal S16384x1408 .f32) (x c s : Vec Ideal S512x128 .f32) (i : Fin 512) (d : Fin 128) (hd : d.val < 64)
    (ex : ∀ k : Fin 128, ∀ h : k.val < 64, x (ix2 i k) = ind hr (ix3 p q ⟨k.val, h⟩)) (ec : ∀ k : Fin 128, c (ix2 i k) = cos88 pos (ix2 r k))
    (es : ∀ k : Fin 128, s (ix2 i k) = sin88 pos (ix2 r k)) : x (ix2 i d) * c (ix2 i d) + near x i d * s (ix2 i d) = indTurned hr pos (ix3 p q ⟨d.val, hd⟩) := by
  rw [indTurned_at, ec, es, cos88_at pos r d hd, sin88_at pos r d hd, cos8_at pos r p q hp hq, sin8_at pos r p q hp hq]
  unfold near
  rw [ex d hd, Nat.mod_eq_of_lt hd]
  by_cases h1 : d.val < 8
  · have e : (d.val + 128 - 120) % 128 = 8 + d.val := by omega
    rw [if_pos h1, ex ⟨(d.val + 128 - 120) % 128, by omega⟩ (by dsimp only; omega)]
    simp only [dif_pos h1, e, mul_neg, ← sub_eq_add_neg]
  by_cases h2 : d.val - 8 < 8
  · have e : (d.val + 128 - 8) % 128 = d.val - 8 := by omega
    have e' : 8 + (d.val - 8) = d.val := by omega
    rw [if_neg h1, ex ⟨(d.val + 128 - 8) % 128, by omega⟩ (by dsimp only; omega)]
    simp only [dif_neg h1, dif_pos h2, e, e']
  · have e' : 16 + (d.val - 8 - 8) = d.val := by omega
    simp only [dif_neg h1, dif_neg h2, e', mul_one, mul_zero, add_zero]

/-- One lane of the index key, its two halves alike. -/
theorem lane88 (hr : FVec Ideal S16384x1408 .f32) (x c s : Vec Ideal S512x128 .f32) (i : Fin 512) (d : Fin 128)
    (ex : ∀ k : Fin 128, ∀ h : k.val < 64, x (ix2 i k) = ind hr (ix3 p q ⟨k.val, h⟩)) (ec : ∀ k : Fin 128, c (ix2 i k) = cos88 pos (ix2 r k))
    (es : ∀ k : Fin 128, s (ix2 i k) = sin88 pos (ix2 r k)) :
    k0_pay1 (iota .tc S1x128 32 [1] iota_S1x128_d1_w32) x (k0_pay4 c) (k0_pay5 s) k0_pay6 (k0_pay7 x) (k0_pay8 x) (ix2 i d) = indTurned hr pos (ix3 p q ⟨d.val % 64, by omega⟩) := by
  rw [pay1_at]
  by_cases h : d.val < 64
  · rw [if_pos h, lane8 pos r p q hp hq hr x c s i d h ex ec es]
    simp only [Nat.mod_eq_of_lt h]
  · have e : (d.val + 128 - 64) % 128 = d.val % 64 := by omega
    rw [if_neg h, lane8 pos r p q hp hq hr x c s i ⟨(d.val + 128 - 64) % 128, by omega⟩ (by dsimp only; omega) ex ec es]
    simp only [e]

end At

section Host

variable (m : (ℓ : Loc nD τ sig) → Buf (Elt Ideal) ℓ) (c : Dev nD)

theorem inC32 : V m c main_v16 = cos32 (m ((c : Thread nD τ).loc main_arg1)) := by
  simp only [V, List.flatten_cons, List.flatten_nil, List.append_nil, List.cons_append, List.nil_append]
  after_results_simp <;> (try dsimp only [Matrix.cons_val]) <;> (try after_results_simp) <;> rfl
theorem inS32 : V m c main_v18 = sin32 (m ((c : Thread nD τ).loc main_arg1)) := by
  simp only [V, List.flatten_cons, List.flatten_nil, List.append_nil, List.cons_append, List.nil_append]
  after_results_simp <;> (try dsimp only [Matrix.cons_val]) <;> (try after_results_simp) <;> rfl
theorem inC8 : V m c main_v36 = cos88 (m ((c : Thread nD τ).loc main_arg1)) := by
  simp only [V, List.flatten_cons, List.flatten_nil, List.append_nil, List.cons_append, List.nil_append]
  after_results_simp <;> (try dsimp only [Matrix.cons_val]) <;> (try after_results_simp) <;> rfl
theorem inS8 : V m c main_v37 = sin88 (m ((c : Thread nD τ).loc main_arg1)) := by
  simp only [V, List.flatten_cons, List.flatten_nil, List.append_nil, List.cons_append, List.nil_append]
  after_results_simp <;> (try dsimp only [Matrix.cons_val]) <;> (try after_results_simp) <;> rfl

end Host

end Cert.Proof.Rope
-- ==== Proof.Rope.lean ====
/-
  The second layer's rotated keys: the kernel's two result arrays are the reference's.
-/
module

public import proofs.«01_k».proof.Proof.RopeTab
public import proofs.«01_k».proof.Proof.Gen.Kernel12Ideal.Frame
public import Idealize.ShloMosaic.Lib.Pipeline.ValueKit
@[expose] public section

set_option maxRecDepth 16384

noncomputable section

namespace Cert.Proof.Rope

open Idealize.ShloMosaic Idealize.ShloMosaic.TcCoe Idealize.SL.Sem
open Idealize.ShloMosaic.Pipeline (Dat)
open Cert.Kernel12Ideal Cert.Kernel12Ideal.Gen
open Idealize.ShloMosaic.Pipeline (Dat)

variable (m : (ℓ : Loc nD τ sig) → Buf (Elt Ideal) ℓ) (c : Dev nD)

/-- Which block each window shows at a point. -/
theorem idx : ∀ t : Fin cfg0.N, win0_0.index t = ![t.val, 4] ∧ win0_1.index t = ![t.val, 10] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The reference's results at the kernel's arguments. -/
def goalLat : FVec Ideal S16384x256 .bf16 := refLat (m ((c : Thread nD τ).loc main_arg0)) (m ((c : Thread nD τ).loc main_arg1))
def goalInd : FVec Ideal S16384x128 .bf16 := refInd (m ((c : Thread nD τ).loc main_arg0)) (m ((c : Thread nD τ).loc main_arg1))

section Blocks

variable (t : Fin cfg0.N)

theorem lt : t.val < 32 := by have := t.isLt; have : cfg0.N = 32 := N_0; omega
/-- The array's row behind a row of the point's block, its batch and its position there. -/
def row (i : Fin 512) : Fin 16384 := ⟨t.val * 512 + i.val, by have := lt t; omega⟩
def bat (i : Fin 512) : Fin 2 := ⟨(t.val * 512 + i.val) / 8192, by have := lt t; omega⟩
def pos (i : Fin 512) : Fin 8192 := ⟨(t.val * 512 + i.val) % 8192, by omega⟩

theorem blk0 (i : Fin 512) (k : Fin 256) : X0_0 m c t (ix2 i k) = lat (m ((c : Thread nD τ).loc main_arg0)) (ix3 (bat t i) (pos t i) k) := by
  have := lt t
  have e : X0_0 m c t (ix2 i k) = m ((c : Thread nD τ).loc main_arg0) (ix2 (row t i) ⟨1024 + k.val, by omega⟩) := by
    unfold X0_0 Pipeline.Window.fill
    rw [dif_pos (moved0_0 t _)]
    blk_point [iblk, V, idx t, row]
  rw [e, lat_at]
  unfold col
  exact congrArg (fun z => m ((c : Thread nD τ).loc main_arg0) (ix2 z (⟨1024 + k.val, by omega⟩ : Fin 1408))) (Fin.ext (by dsimp only [row, bat, pos]; omega))
theorem blk1 (i : Fin 512) (k : Fin 128) (h : k.val < 64) : iblk m c 1 t (ix2 i k) = ind (m ((c : Thread nD τ).loc main_arg0)) (ix3 (bat t i) (pos t i) ⟨k.val, h⟩) := by
  have := lt t
  have e : iblk m c 1 t (ix2 i k) = m ((c : Thread nD τ).loc main_arg0) (ix2 (row t i) ⟨1280 + k.val, by omega⟩) := by
    blk_point [iblk, V, idx t, row]
  rw [e, ind_at]
  unfold col
  exact congrArg (fun z => m ((c : Thread nD τ).loc main_arg0) (ix2 z (⟨1280 + k.val, by omega⟩ : Fin 1408))) (Fin.ext (by dsimp only [row, bat, pos]; omega))
theorem blk2 (i : Fin 512) (k : Fin 128) : iblk m c 2 t (ix2 i k) = cos32 (m ((c : Thread nD τ).loc main_arg1)) (ix2 (row t i) k) := by
  show V m c main_v16 (((cfg0.win 2).blk t).view.emb (ix2 i k)) = _
  have e : ((cfg0.win 2).blk t).view.emb (ix2 i k) = ix2 (row t i) k := by blk_ext [idx t, row]
  rw [inC32, e]
theorem blk3 (i : Fin 512) (k : Fin 128) : iblk m c 3 t (ix2 i k) = sin32 (m ((c : Thread nD τ).loc main_arg1)) (ix2 (row t i) k) := by
  show V m c main_v18 (((cfg0.win 3).blk t).view.emb (ix2 i k)) = _
  have e : ((cfg0.win 3).blk t).view.emb (ix2 i k) = ix2 (row t i) k := by blk_ext [idx t, row]
  rw [inS32, e]
theorem blk4 (i : Fin 512) (k : Fin 128) : iblk m c 4 t (ix2 i k) = cos88 (m ((c : Thread nD τ).loc main_arg1)) (ix2 (row t i) k) := by
  show V m c main_v36 (((cfg0.win 4).blk t).view.emb (ix2 i k)) = _
  have e : ((cfg0.win 4).blk t).view.emb (ix2 i k) = ix2 (row t i) k := by blk_ext [idx t, row]
  rw [inC8, e]
theorem blk5 (i : Fin 512) (k : Fin 128) : iblk m c 5 t (ix2 i k) = sin88 (m ((c : Thread nD τ).loc main_arg1)) (ix2 (row t i) k) := by
  show V m c main_v37 (((cfg0.win 5).blk t).view.emb (ix2 i k)) = _
  have e : ((cfg0.win 5).blk t).view.emb (ix2 i k) = ix2 (row t i) k := by blk_ext [idx t, row]
  rw [inS8, e]

end Blocks

/-- What a point stores in the second array is the reference's value at the place of its block. -/
theorem pointInd (t : Fin cfg0.N) (y : S512x128.Idx) :
    k0_pay1 (iota .tc S1x128 32 [1] iota_S1x128_d1_w32) (iblk m c 1 t) (k0_pay4 (iblk m c 4 t)) (k0_pay5 (iblk m c 5 t)) k0_pay6 (k0_pay7 (iblk m c 1 t)) (k0_pay8 (iblk m c 1 t)) y
      = goalInd m c (((cfg0.win 7).blk t).view.emb y) := by
  idx_vars y
  have e : ((cfg0.win 7).blk t).view.emb (ix2 y0 y1) = ix2 (row t y0) y1 := by blk_ext [idx t, row]
  rw [e]
  unfold goalInd
  rw [refInd_at]
  exact lane88 _ (row t y0) (bat t y0) (pos t y0) rfl rfl _ _ _ _ y0 y1 (fun k h => blk1 m c t y0 k h) (blk4 m c t y0) (blk5 m c t y0)

/-- The second result array after the run. -/
theorem finalInd : (dats m 0 c).arrAt 7 (cfgs 0).N = goalInd m c := by
  refine (dats m 0 c).arrAt_eq_of_covers 7 _ (by decide +kernel) fun t _ y => ?_
  blk_simp
  rw [after0_7]; unfold outsAt0; dsimp only; unfold out0_A_7; frame_out
  exact pointInd m c t y

/-- The reference's value behind a place of the point's block. -/
def tile (t : Fin cfg0.N) (y : S512x256.Idx) : EReal :=
  latTurned (m ((c : Thread nD τ).loc main_arg0)) (m ((c : Thread nD τ).loc main_arg1)) (ix3 (bat t (y 0)) (pos t (y 0)) (y 1))

theorem tile_goal (t : Fin cfg0.N) (y : S512x256.Idx) : goalLat m c (((cfg0.win 6).blk t).view.emb y) = tile m c t y := by
  idx_vars y
  have e : ((cfg0.win 6).blk t).view.emb (ix2 y0 y1) = ix2 (row t y0) y1 := by blk_ext [idx t, row]
  rw [e]
  unfold goalLat
  rw [refLat_at]
  rfl

theorem place (t : Fin cfg0.N) (y : S512x256.Idx) (z : S512x256.Idx) (h : ∀ a, (z a).val = (y a).val) : tile m c t z = tile m c t y :=
  congrArg (tile m c t) (funext fun a => Fin.ext (h a))

/-- The first store: the first 128 lanes, turned. -/
theorem left (t : Fin cfg0.N) (x : S512x128.Idx) :
    k0_pay2 (View.ld (X0_0 m c t) (Rect.unit ![0, 0] ![512, 128] inb_S512x256_S512x128_0_0)) (iblk m c 2 t) (iblk m c 3 t) x
      = tile m c t (ix2 (x 0) (⟨(x 1).val, by have : (x 1).val < 128 := (x 1).isLt; omega⟩ : Fin 256)) := by
  idx_vars x
  have e : ∀ k : Fin 128, (Rect.unit (s := S512x256) ![0, 0] ![512, 128] inb_S512x256_S512x128_0_0).emb (ix2 x0 k) = ix2 x0 (⟨k.val, by omega⟩ : Fin 256) := fun k => by blk_ext
  exact lane32 _ (row t x0) (bat t x0) (pos t x0) rfl rfl _ _ _ _ x0 x1 (fun k => (congrArg (X0_0 m c t) (e k)).trans (blk0 m c t x0 _)) (blk2 m c t x0) (blk3 m c t x0)

/-- The second store: the other 128 lanes, as they are. -/
theorem right (t : Fin cfg0.N) (x : S512x128.Idx) :
    k0_pay3 (View.ld (X0_0 m c t) (Rect.unit ![0, 128] ![512, 128] inb_S512x256_S512x128_0_128)) x
      = tile m c t (ix2 (x 0) (⟨128 + (x 1).val, by have : (x 1).val < 128 := (x 1).isLt; omega⟩ : Fin 256)) := by
  idx_vars x
  have e : (Rect.unit (s := S512x256) ![0, 128] ![512, 128] inb_S512x256_S512x128_0_128).emb (ix2 x0 x1) = ix2 x0 (⟨128 + x1.val, by omega⟩ : Fin 256) := by blk_ext
  refine ((congrArg (X0_0 m c t) e).trans (blk0 m c t x0 _)).trans ?_
  show _ = latTurned _ _ (ix3 (bat t x0) (pos t x0) (⟨128 + x1.val, by omega⟩ : Fin 256))
  have e2 : 64 + (128 + x1.val - 32 - 32) = 128 + x1.val := by omega
  rw [latTurned_at, dif_neg (by dsimp only; omega), dif_neg (by dsimp only; omega)]
  simp only [e2]

/-- The first result array after the run. -/
theorem finalLat : (dats m 0 c).arrAt 6 (cfgs 0).N = goalLat m c := by
  refine (dats m 0 c).arrAt_eq_of_covers 6 _ (by decide +kernel) fun t _ y => ?_
  blk_simp
  rw [after0_6]; unfold outsAt0; dsimp only; unfold out0_A_6; frame_out
  refine Eq.trans ?_ (tile_goal m c t y).symm
  canon_tiles x h
  · exact (right m c t x).trans (place m c t y _ (fun a => by fin_cases a <;> first | exact h0.symm | exact h1.symm))
  · exact (left m c t x).trans (place m c t y _ (fun a => by fin_cases a <;> first | exact h0.symm | exact h1.symm))

end Cert.Proof.Rope
-- ==== Proof.RopeClaim.lean ====
/-
  The claims of this call: both programs run, end with equal results and leave their arguments as they were.
-/
module

public import proofs.«01_k».proof.Defs
public import proofs.«01_k».proof.Proof.Rope
public import proofs.«01_k».proof.Proof.Gen.Kernel12
public import proofs.«01_k».proof.Proof.Gen.Kernel12.Frame
public import proofs.«01_k».proof.Proof.Gen.Reference12Ideal.Run
public import Idealize.ShloMosaic.Lib.Quiescent

@[expose] public section

set_option maxRecDepth 16384

noncomputable section

namespace Cert.Proof.Rope

open Idealize.ShloMosaic Idealize.ShloMosaic.TcCoe Idealize.SL.Sem

/-- The kernel as printed runs and leaves its arguments. -/
theorem frameBits : Cert.quiescent_Kernel12 (hKernel12 := Cert.Kernel12.Gen.facts) := fun m ρ _ => Cert.Kernel12.Gen.frame m ρ

/-- The kernel over the extended reals runs and leaves its arguments. -/
theorem frameIdeal : Cert.quiescent_Kernel12Ideal (hKernel12Ideal := Cert.Kernel12Ideal.Gen.facts) := fun m ρ _ => Cert.Kernel12Ideal.Gen.frame m ρ

/-- The reference runs and leaves its arguments. -/
theorem frameRef : Cert.quiescent_Reference12Ideal (hReference12Ideal := Cert.Reference12Ideal.Gen.facts) := fun m ρ _ =>
  (θ_run _ _ _).mono (fun r h => ⟨fun c => (h c).2.2, Idealize.ShloMosaic.sem_eq_zero_of_no_sems (by decide) r.2⟩)
    (Cert.Reference12Ideal.Value.run (F := Ideal) m ρ)

/-- Equal results. -/
theorem value : Cert.algebraic_Kernel12Ideal_Reference12Ideal (hKernel12Ideal := Cert.Kernel12Ideal.Gen.facts) (hReference12Ideal := Cert.Reference12Ideal.Gen.facts) := by
  intro m ρ m' ρ' _ hag
  refine ⟨fun c => goalLat m c, fun c => goalInd m c,
    (θ_run _ _ _).mono (fun r h c => ⟨(h c).1.trans (finalLat m c), (h c).2.1.trans (finalInd m c), (h c).2.2⟩) (Cert.Kernel12Ideal.Value.run_blocks m ρ),
    (θ_run _ _ _).mono (fun r h c => ⟨(h c).1.trans ?_, (h c).2.1.trans ?_, (h c).2.2⟩) (Cert.Reference12Ideal.Value.run (F := Ideal) m' ρ')⟩
  · obtain ⟨h0, h1⟩ := hag c
    show refLat (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) = _
    rw [h0, h1]
    rfl
  · obtain ⟨h0, h1⟩ := hag c
    unfold Cert.Reference12Ideal.Value.res_main_v59
    show refInd (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) = _
    rw [h0, h1]
    rfl

end Cert.Proof.Rope

end
-- ==== Proof.Gate.lean ====
/-
  The forget gate's running sums: the kernel's result array is the reference's.
-/
module

public import proofs.«01_k».proof.Proof.GateRef
public import proofs.«01_k».proof.Proof.Gen.Kernel13Ideal
public import proofs.«01_k».proof.Proof.Gen.Kernel13Ideal.Frame
public import proofs.«01_k».proof.Proof.Gen.Kernel13Ideal.Value
@[expose] public section

set_option maxRecDepth 16384

noncomputable section

namespace Cert.Proof.Gate

open Idealize.ShloMosaic Idealize.ShloMosaic.TcCoe Idealize.SL.Sem
open Idealize.ShloMosaic.Pipeline (Dat)
open Cert.Proof.Sb (soft lsig ext)
open Cert.Kernel13Ideal Cert.Kernel13Ideal.Gen

variable (m : (ℓ : Loc nD τ sig) → Buf (Elt Ideal) ℓ)

/-- Which block each window shows at the one point. -/
theorem idx : ∀ t : Fin cfg0.N, win0_0.index t = ![0, 0] ∧ win0_1.index t = ![0, 0] ∧ win0_2.index t = ![0, 0] :=
  (by decide +kernel : ∀ t : Fin grid0.N, _)

section Body

variable (x y : Vec Ideal S1024x128 .f32) (i : Fin 1024) (j : Fin 128)

/-- The logarithms the body forms. -/
def low (i : Fin 1024) (j : Fin 128) : EReal := lsig (x (ix2 i j) + y (ix2 i j))

theorem bit_val (b : BitVec 1) : (FloatOps.sitofp (F := Ideal) FTy.f32 (BitVec.setWidth 32 b) : EReal) = Scalar.select b (1 : EReal) 0 := by
  obtain rfl | rfl : b = 0#1 ∨ b = 1#1 := by revert b; decide
  · show (((BitVec.setWidth 32 (0#1)).toInt : ℝ) : EReal) = _
    simp [Scalar.select]
  · show (((BitVec.setWidth 32 (1#1)).toInt : ℝ) : EReal) = _
    simp [Scalar.select]

theorem tri_bit (k j : Fin 128) : (FloatOps.sitofp (F := Ideal) FTy.f32 (BitVec.setWidth 32 (IntOp.cmpi .sle (BitVec.ofNat 32 k.val) (BitVec.ofNat 32 j.val))) : EReal)
    = if k.val ≤ j.val then (1 : EReal) else 0 := by
  have hk : (k : ℕ) < 128 := k.isLt
  have hj : (j : ℕ) < 128 := j.isLt
  rw [bit_val]
  word_cmp

theorem sixth : ∀ n : Fin 1024, IntOp.shrsi .vector (BitVec.ofNat 32 n.val) 6#32 = BitVec.ofNat 32 (n.val / 64) := by decide +kernel

theorem abs_max (z : EReal) : (FloatOps.absf (F := Ideal) (φ := .f32) z : EReal) = max z (-z) := rfl

theorem within : k0_pay2 x y (ix2 i j) = ∑ k : Fin 128, if k.val ≤ j.val then low x y i k else 0 := by
  rw [← split_sum (fun k => low x y i k) (fun k => k.val ≤ j.val) fun k => lsig_le _]
  unfold low
  simp only [← lsig_min]
  pointwise [k0_pay2, nil0, one1]
  simp only [tri_bit, abs_max]

theorem total : k0_pay3 x y (ix2 i j) = ∑ k : Fin 128, low x y i k := by
  have e : k0_pay3 x y (ix2 i j) = k0_pay2 x y (ix2 i ⟨127, by omega⟩) := by pointwise [k0_pay3]
  rw [e, within]
  exact Finset.sum_congr rfl fun k _ => if_pos (by have := k.isLt; dsimp only; omega)

theorem before_bit (k : Fin 1024) : Scalar.select (k0_pay4 (ix2 i k)) (1 : EReal) 0 = if k.val / 64 = i.val / 64 ∧ k.val < i.val then (1 : EReal) else 0 := by
  have hk : (k : ℕ) < 1024 := k.isLt
  have hi : (i : ℕ) < 1024 := i.isLt
  pointwise [k0_pay4]
  rw [sixth, sixth]
  have hk2 : k.val / 64 < 16 := by omega
  have hi2 : i.val / 64 < 16 := by omega
  word_cmp
  exact if_congr ⟨fun h => ⟨h.1.symm, h.2⟩, fun h => ⟨h.1.symm, h.2⟩⟩ rfl rfl

theorem body : k0_pay1 (k0_pay2 x y) (k0_pay3 x y) k0_pay4 (Scalar.ofBits .f32 0x00000000#32) (k0_pay5 (F := Ideal)) (ix2 i j)
    = (∑ k : Fin 128, if k.val ≤ j.val then low x y i k else 0)
      + ∑ k : Fin 1024, if k.val / 64 = i.val / 64 ∧ k.val < i.val then ∑ l : Fin 128, low x y k l else 0 := by
  rw [← within x y i j, ← split_sum' (fun k => ∑ l : Fin 128, low x y k l) (fun k : Fin 1024 => k.val / 64 = i.val / 64 ∧ k.val < i.val)
    fun k => Finset.sum_nonpos fun l _ => lsig_le _]
  simp only [← total x y _ j, ← before_bit]
  pointwise [k0_pay1, k0_pay5, nil0, one1]

end Body

/-- The logits as the host lays them out, and the bias as it tiles it. -/
theorem inX (c : Dev nD) : V m c main_v3 = (shapeCast S1024x128 (transpose S2x8x8192 [0, 2, 1] (shapeCast S2x8192x8 (extractStridedSlice S16384x8 ![0, 0]
    (m ((c : Thread nD τ).loc main_arg0) : FVec Ideal S16384x128 .f32) slices_S16384x128_S16384x8_0_0) shapeCasts_S16384x8_S2x8192x8) transposes_S2x8192x8_S2x8x8192_0_2_1)
    shapeCasts_S2x8x8192_S1024x128 : FVec Ideal S1024x128 .f32) := by
  simp only [V, List.flatten_cons, List.flatten_nil, List.append_nil, List.cons_append, List.nil_append]
  after_results_simp <;> rfl
theorem inY (c : Dev nD) : V m c main_v9 = (shapeCast S1024x128 (broadcastInDim S16x64x128 ![0, 1, 2] bcast_S16x1x1_S16x64x128_0_1_2 (broadcastInDim S16x1x1 ![0] bcast_S16_S16x1x1_0
    (shapeCast S16 (broadcastInDim S2x8 ![0, 1] bcast_S1x8_S2x8_0_1 (shapeCast S1x8 (m ((c : Thread nD τ).loc main_arg1) : FVec Ideal S8 .f32) shapeCasts_S8_S1x8)) shapeCasts_S2x8_S16)))
    shapeCasts_S16x64x128_S1024x128 : FVec Ideal S1024x128 .f32) := by
  simp only [V, List.flatten_cons, List.flatten_nil, List.append_nil, List.cons_append, List.nil_append]
  after_results_simp <;> rfl

section Blocks

variable (c : Dev nD) (t : Fin cfg0.N) (i : Fin 1024) (j : Fin 128)

/-- The batch, the place in the sequence and the head behind a place of the kernel's array. -/
def bat : Fin 2 := ⟨i.val / 512, by omega⟩
def head : Fin 8 := ⟨i.val / 64 % 8, by omega⟩
def pos : Fin 8192 := ⟨i.val % 64 * 128 + j.val, by omega⟩

theorem blk0 : iblk m c 0 t (ix2 i j) = m ((c : Thread nD τ).loc main_arg0) (ix2 ⟨(bat i).val * 8192 + (pos i j).val, by omega⟩ ⟨(head i).val, by omega⟩) := by
  show V m c main_v3 (((cfg0.win 0).blk t).view.emb (ix2 i j)) = _
  have e : ((cfg0.win 0).blk t).view.emb (ix2 i j) = ix2 i j := by blk_ext [idx t]
  rw [inX, e]
  pointwise [bat, pos, head]
  skip
theorem blk1 : iblk m c 1 t (ix2 i j) = m ((c : Thread nD τ).loc main_arg1) (ix1 (head i)) := by
  show V m c main_v9 (((cfg0.win 1).blk t).view.emb (ix2 i j)) = _
  have e : ((cfg0.win 1).blk t).view.emb (ix2 i j) = ix2 i j := by blk_ext [idx t]
  rw [inY, e]
  pointwise [head]
  skip

theorem low_at : low (iblk m c 0 t) (iblk m c 1 t) i j
    = lsig (logitAt (m ((c : Thread nD τ).loc main_arg0)) (m ((c : Thread nD τ).loc main_arg1)) (bat i) (pos i j) (head i)) := by
  unfold low logitAt
  rw [blk0, blk1]

end Blocks

/-- The reference's result at the kernel's arguments. -/
def goal (c : Dev nD) : FVec Ideal S1024x128 .f32 :=
  ref (m ((c : Thread nD τ).loc main_arg0)) (m ((c : Thread nD τ).loc main_arg1))

/-- What the point stores is the reference's value. -/
theorem point (c : Dev nD) (t : Fin cfg0.N) (i : Fin 1024) (j : Fin 128) :
    k0_pay1 (k0_pay2 (iblk m c 0 t) (iblk m c 1 t)) (k0_pay3 (iblk m c 0 t) (iblk m c 1 t)) k0_pay4 (Scalar.ofBits .f32 0x00000000#32) (k0_pay5 (F := Ideal)) (ix2 i j)
      = goal m c (ix2 i j) := by
  have hi : (i : ℕ) < 1024 := i.isLt
  have hj : (j : ℕ) < 128 := j.isLt
  unfold goal
  rw [ref_at, sums_at, body]
  refine Eq.trans ?_ (running (ext fun s => lsig (logitAt (m ((c : Thread nD τ).loc main_arg0)) (m ((c : Thread nD τ).loc main_arg1)) (bat i) s (head i))) i j)
  simp only [low_at]
  refine congrArg₂ (fun a b : EReal => a + b) (Finset.sum_congr rfl fun k _ => ?_) (Finset.sum_congr rfl fun k _ => ?_)
  · have hk : (k : ℕ) < 128 := k.isLt
    unfold ext
    rw [dif_pos (show i.val % 64 * 128 + k.val < 8192 by omega)]
    rfl
  · have hk : (k : ℕ) < 1024 := k.isLt
    by_cases h : k.val / 64 = i.val / 64 ∧ k.val < i.val
    · rw [if_pos h, if_pos h]
      refine Finset.sum_congr rfl fun l _ => ?_
      have hl : (l : ℕ) < 128 := l.isLt
      unfold ext
      rw [dif_pos (show k.val % 64 * 128 + l.val < 8192 by omega)]
      have eb : bat k = bat i := Fin.ext (show k.val / 512 = i.val / 512 by omega)
      have eh : head k = head i := Fin.ext (show k.val / 64 % 8 = i.val / 64 % 8 by omega)
      rw [eb, eh]
      rfl
    · rw [if_neg h, if_neg h]

/-- The result array after the run. -/
theorem final (c : Dev nD) : (dats m 0 c).arrAt 2 (cfgs 0).N = goal m c := by
  refine (dats m 0 c).arrAt_eq_of_covers 2 _ (by decide +kernel) fun t _ y => ?_
  blk_simp
  rw [after0_2]; frame_out
  idx_vars y
  refine (point m c t y0 y1).trans (congrArg (goal m c) ?_)
  blk_ext [idx t]

end Cert.Proof.Gate
-- ==== Proof.GateClaim.lean ====
/-
  The claims of this call: both programs run, end with equal results and leave their arguments as they were.
-/
module

public import proofs.«01_k».proof.Defs
public import proofs.«01_k».proof.Proof.Gate
public import proofs.«01_k».proof.Proof.Gen.Kernel13
public import proofs.«01_k».proof.Proof.Gen.Kernel13.Frame
public import proofs.«01_k».proof.Proof.Gen.Reference13Ideal.Run
public import Idealize.ShloMosaic.Lib.Quiescent

@[expose] public section

set_option maxRecDepth 16384

noncomputable section

namespace Cert.Proof.Gate

open Idealize.ShloMosaic Idealize.ShloMosaic.TcCoe Idealize.SL.Sem

/-- The kernel as printed runs and leaves its arguments. -/
theorem frameBits : Cert.quiescent_Kernel13 (hKernel13 := Cert.Kernel13.Gen.facts) := fun m ρ _ => Cert.Kernel13.Gen.frame m ρ

/-- The kernel over the extended reals runs and leaves its arguments. -/
theorem frameIdeal : Cert.quiescent_Kernel13Ideal (hKernel13Ideal := Cert.Kernel13Ideal.Gen.facts) := fun m ρ _ => Cert.Kernel13Ideal.Gen.frame m ρ

/-- The reference runs and leaves its arguments. -/
theorem frameRef : Cert.quiescent_Reference13Ideal (hReference13Ideal := Cert.Reference13Ideal.Gen.facts) := fun m ρ _ =>
  (θ_run _ _ _).mono (fun r h => ⟨fun c => (h c).2, Idealize.ShloMosaic.sem_eq_zero_of_no_sems (by decide) r.2⟩)
    (Cert.Reference13Ideal.Value.run (F := Ideal) m ρ)

/-- Equal results. -/
theorem value : Cert.algebraic_Kernel13Ideal_Reference13Ideal (hKernel13Ideal := Cert.Kernel13Ideal.Gen.facts) (hReference13Ideal := Cert.Reference13Ideal.Gen.facts) := by
  intro m ρ m' ρ' _ hag
  refine ⟨fun c => goal m c, (θ_run _ _ _).mono (fun r h c => ⟨(h c).1.trans (final m c), (h c).2⟩) (Cert.Kernel13Ideal.Value.run_blocks m ρ),
    (θ_run _ _ _).mono (fun r h c => ⟨(h c).1.trans ?_, (h c).2⟩) (Cert.Reference13Ideal.Value.run (F := Ideal) m' ρ')⟩
  obtain ⟨h0, h1⟩ := hag c
  show ref (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) = _
  rw [h0, h1]
  rfl

end Cert.Proof.Gate

end
-- ==== Proof.lean ====
module

public import proofs.«01_k».proof.Defs
public import proofs.«01_k».proof.Proof.Gen.Kernel
public import proofs.«01_k».proof.Proof.DsaFrame
public import proofs.«01_k».proof.Proof.DownClaim
public import proofs.«01_k».proof.Proof.UpClaim
public import proofs.«01_k».proof.Proof.OutAClaim
public import proofs.«01_k».proof.Proof.OutBClaim
public import proofs.«01_k».proof.Proof.InQkvClaim
public import proofs.«01_k».proof.Proof.InQClaim
public import proofs.«01_k».proof.Proof.InKidxClaim
public import proofs.«01_k».proof.Proof.InForgetClaim
public import proofs.«01_k».proof.Proof.SbClaim
public import proofs.«01_k».proof.Proof.FoxClaim
public import proofs.«01_k».proof.Proof.RopeClaim
public import proofs.«01_k».proof.Proof.GateClaim

@[expose] public section

noncomputable section

namespace Cert.Proof

open Idealize.ShloMosaic Idealize.SL.Sem

/-- Every claim of `Cert.Claim`. -/
theorem claim : Cert.Claim :=
  ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Proof.Fox.preFacts,
    fun m g _ => Cert.Proof.Kernel.run m g,
    Cert.Proof.Down.frameBits,
    Cert.Proof.Down.frameIdeal,
    Cert.Proof.Down.frameRef,
    Cert.Proof.Up.frameBits,
    Cert.Proof.Up.frameIdeal,
    Cert.Proof.Up.frameRef,
    Cert.Proof.OutA.frameBits,
    Cert.Proof.OutA.frameIdeal,
    Cert.Proof.OutA.frameRef,
    Cert.Proof.OutB.frameBits,
    Cert.Proof.OutB.frameIdeal,
    Cert.Proof.OutB.frameRef,
    Cert.Proof.InQkv.frameBits,
    Cert.Proof.InQkv.frameIdeal,
    Cert.Proof.InQkv.frameRef,
    Cert.Proof.InQ.frameBits,
    Cert.Proof.InQ.frameIdeal,
    Cert.Proof.InQ.frameRef,
    Cert.Proof.InKidx.frameBits,
    Cert.Proof.InKidx.frameIdeal,
    Cert.Proof.InKidx.frameRef,
    Cert.Proof.InForget.frameBits,
    Cert.Proof.InForget.frameIdeal,
    Cert.Proof.InForget.frameRef,
    Cert.Proof.Sb.frameBits,
    Cert.Proof.Sb.frameIdeal,
    Cert.Proof.Sb.frameRef,
    Cert.Proof.Fox.frameBits,
    Cert.Proof.Fox.frameIdeal,
    Cert.Proof.Fox.frameIdealPre,
    Cert.Proof.Fox.frameRef,
    Cert.Proof.Fox.frameRefPre,
    Cert.Proof.Rope.frameBits,
    Cert.Proof.Rope.frameIdeal,
    Cert.Proof.Rope.frameRef,
    Cert.Proof.Gate.frameBits,
    Cert.Proof.Gate.frameIdeal,
    Cert.Proof.Gate.frameRef,
    trivial,
    Cert.Proof.Down.value,
    trivial,
    Cert.Proof.Up.value,
    trivial,
    Cert.Proof.OutA.value,
    trivial,
    Cert.Proof.OutB.value,
    trivial,
    Cert.Proof.InQkv.value,
    trivial,
    Cert.Proof.InQ.value,
    trivial,
    Cert.Proof.InKidx.value,
    trivial,
    Cert.Proof.InForget.value,
    Cert.Proof.Sb.preserves,
    Cert.Proof.Sb.value,
    Cert.Proof.Fox.preserves,
    Cert.Proof.Fox.value,
    trivial,
    Cert.Proof.Rope.value,
    trivial,
    Cert.Proof.Gate.value⟩

end Cert.Proof

end
